-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tables : Cert.Pre_tables.Facts] (m : (ℓ : Loc Cert.Kernel5.nD Cert.Kernel5.τ Cert.Kernel5.sig) → Buf (Elt Bits) ℓ) : Prop :=
  ∀ c : Dev Cert.Kernel5.nD,
    (Cert.Pre_tables.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_tables : Cert.Pre_tables.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tables [hPre_tables : Cert.Pre_tables.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] [hPre_tables : Cert.Pre_tables.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_tables : Cert.Pre_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_tables [hReference5Ideal : Cert.Reference5Ideal.Facts] [hPre_tables : Cert.Pre_tables.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tables m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "qscale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v88)) (v1 : (c : Dev Cert.Kernel2Ideal.nD) → Buf (Elt Ideal) ((c.tc : Thread Cert.Kernel2Ideal.nD Cert.Kernel2Ideal.τ).loc Cert.Kernel2Ideal.main_v87)) (v2 : (c : Dev Cert.Kernel2Ideal.nD) → Buf (Elt Ideal) ((c.tc : Thread Cert.Kernel2Ideal.nD Cert.Kernel2Ideal.τ).loc Cert.Kernel2Ideal.main_v89)) (v3 : (c : Dev Cert.Kernel2Ideal.nD) → Buf (Elt Ideal) ((c.tc : Thread Cert.Kernel2Ideal.nD Cert.Kernel2Ideal.τ).loc Cert.Kernel2Ideal.main_v82)) (v4 : (c : Dev Cert.Kernel2Ideal.nD) → Buf (Elt Ideal) ((c.tc : Thread Cert.Kernel2Ideal.nD Cert.Kernel2Ideal.τ).loc Cert.Kernel2Ideal.main_v90)) (v5 : (c : Dev Cert.Kernel2Ideal.nD) → Buf (Elt Ideal) ((c.tc : Thread Cert.Kernel2Ideal.nD Cert.Kernel2Ideal.τ).loc Cert.Kernel2Ideal.main_v91)) (v6 : (c : Dev Cert.Kernel2Ideal.nD) → Buf (Elt Ideal) ((c.tc : Thread Cert.Kernel2Ideal.nD Cert.Kernel2Ideal.τ).loc Cert.Kernel2Ideal.main_v92)) (v7 : (c : Dev Cert.Kernel2Ideal.nD) → Buf (Elt Ideal) ((c.tc : Thread Cert.Kernel2Ideal.nD Cert.Kernel2Ideal.τ).loc Cert.Kernel2Ideal.main_v84)) (v8 : (c : Dev Cert.Kernel2Ideal.nD) → Buf (Elt Ideal) ((c.tc : Thread Cert.Kernel2Ideal.nD Cert.Kernel2Ideal.τ).loc Cert.Kernel2Ideal.main_v67_0)) (v9 : (c : Dev Cert.Kernel2Ideal.nD) → Buf (Elt Ideal) ((c.tc : Thread Cert.Kernel2Ideal.nD Cert.Kernel2Ideal.τ).loc Cert.Kernel2Ideal.main_v93)) (v10 : (c : Dev Cert.Kernel2Ideal.nD) → Buf (Elt Ideal) ((c.tc : Thread Cert.Kernel2Ideal.nD Cert.Kernel2Ideal.τ).loc Cert.Kernel2Ideal.main_v67_3)) (v11 : (c : Dev Cert.Kernel2Ideal.nD) → Buf (Elt Ideal) ((c.tc : Thread Cert.Kernel2Ideal.nD Cert.Kernel2Ideal.τ).loc Cert.Kernel2Ideal.main_v78)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v88) = v0 c
          ∧ r.2.mem ((c.tc : Thread Cert.Kernel2Ideal.nD Cert.Kernel2Ideal.τ).loc Cert.Kernel2Ideal.main_v87) = v1 c
          ∧ r.2.mem ((c.tc : Thread Cert.Kernel2Ideal.nD Cert.Kernel2Ideal.τ).loc Cert.Kernel2Ideal.main_v89) = v2 c
          ∧ r.2.mem ((c.tc : Thread Cert.Kernel2Ideal.nD Cert.Kernel2Ideal.τ).loc Cert.Kernel2Ideal.main_v82) = v3 c
          ∧ r.2.mem ((c.tc : Thread Cert.Kernel2Ideal.nD Cert.Kernel2Ideal.τ).loc Cert.Kernel2Ideal.main_v90) = v4 c
          ∧ r.2.mem ((c.tc : Thread Cert.Kernel2Ideal.nD Cert.Kernel2Ideal.τ).loc Cert.Kernel2Ideal.main_v91) = v5 c
          ∧ r.2.mem ((c.tc : Thread Cert.Kernel2Ideal.nD Cert.Kernel2Ideal.τ).loc Cert.Kernel2Ideal.main_v92) = v6 c
          ∧ r.2.mem ((c.tc : Thread Cert.Kernel2Ideal.nD Cert.Kernel2Ideal.τ).loc Cert.Kernel2Ideal.main_v84) = v7 c
          ∧ r.2.mem ((c.tc : Thread Cert.Kernel2Ideal.nD Cert.Kernel2Ideal.τ).loc Cert.Kernel2Ideal.main_v67_0) = v8 c
          ∧ r.2.mem ((c.tc : Thread Cert.Kernel2Ideal.nD Cert.Kernel2Ideal.τ).loc Cert.Kernel2Ideal.main_v93) = v9 c
          ∧ r.2.mem ((c.tc : Thread Cert.Kernel2Ideal.nD Cert.Kernel2Ideal.τ).loc Cert.Kernel2Ideal.main_v67_3) = v10 c
          ∧ r.2.mem ((c.tc : Thread Cert.Kernel2Ideal.nD Cert.Kernel2Ideal.τ).loc Cert.Kernel2Ideal.main_v78) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_v109) = v1 c
          ∧ r.2.mem ((c.tc : Thread Cert.Reference2Ideal.nD Cert.Reference2Ideal.τ).loc Cert.Reference2Ideal.main_v110) = v2 c
          ∧ r.2.mem ((c.tc : Thread Cert.Reference2Ideal.nD Cert.Reference2Ideal.τ).loc Cert.Reference2Ideal.main_v112) = v3 c
          ∧ r.2.mem ((c.tc : Thread Cert.Reference2Ideal.nD Cert.Reference2Ideal.τ).loc Cert.Reference2Ideal.main_v113) = v4 c
          ∧ r.2.mem ((c.tc : Thread Cert.Reference2Ideal.nD Cert.Reference2Ideal.τ).loc Cert.Reference2Ideal.main_v114) = v5 c
          ∧ r.2.mem ((c.tc : Thread Cert.Reference2Ideal.nD Cert.Reference2Ideal.τ).loc Cert.Reference2Ideal.main_v115) = v6 c
          ∧ r.2.mem ((c.tc : Thread Cert.Reference2Ideal.nD Cert.Reference2Ideal.τ).loc Cert.Reference2Ideal.main_v117) = v7 c
          ∧ r.2.mem ((c.tc : Thread Cert.Reference2Ideal.nD Cert.Reference2Ideal.τ).loc Cert.Reference2Ideal.main_v118) = v8 c
          ∧ r.2.mem ((c.tc : Thread Cert.Reference2Ideal.nD Cert.Reference2Ideal.τ).loc Cert.Reference2Ideal.main_v121) = v9 c
          ∧ r.2.mem ((c.tc : Thread Cert.Reference2Ideal.nD Cert.Reference2Ideal.τ).loc Cert.Reference2Ideal.main_v40) = v10 c
          ∧ r.2.mem ((c.tc : Thread Cert.Reference2Ideal.nD Cert.Reference2Ideal.τ).loc Cert.Reference2Ideal.main_v90) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] [hPre_tables : Cert.Pre_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tables := hPre_tables)
    ∧ quiescent_Kernel5Ideal (hKernel5Ideal := hKernel5Ideal) (hPre_tables := hPre_tables)
    ∧ quiescent_Reference5Ideal (hReference5Ideal := hReference5Ideal)
    ∧ quiescent_Reference5Ideal_pre_tables (hReference5Ideal := hReference5Ideal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_tables := hPre_tables)
-- ==== Pre_finite.lean ====
abbrev S8x2048x16x64 : Shape := ⟨4, ![8, 2048, 16, 64]⟩
abbrev S8x2048x16 : Shape := ⟨3, ![8, 2048, 16]⟩
abbrev S_ : Shape := ⟨0, ![]⟩

class Facts : Prop where
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_

variable [Facts]

def fn_part1 {F : FTy → Type} [FloatOps F] (main_v13 : IVec S_ 1) (main_v16 : IVec S8x2048x16 1) : IVec S_ 1 :=
  let main_c_5 : IVec S_ 1 := constantI S_ 1 1#1
  let main_v17 : IVec S_ 1 := (fun x v => Host.reduce IntOp.andi x v reducesTo_S8x2048x16_S_d0_1_2 h_S_) main_v16 main_c_5
  let main_v18 : IVec S_ 1 := andi main_v13 main_v17
  main_v18

def fn {F : FTy → Type} [FloatOps F] (main_arg0 : FVec F S8x2048x16x64 .f32) (main_arg1 : FVec F S8x2048x16x64 .f32) (main_arg2 : FVec F S8x2048x16x64 .f32) (main_arg3 : FVec F S8x2048x16 .f32) : IVec S_ 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_c : IVec S_ 1 := constantI S_ 1 1#1
  let main_v3 : IVec S_ 1 := (fun x v => Host.reduce IntOp.andi x v reducesTo_S8x2048x16x64_S_d0_1_2_3 h_S_) main_v2 main_c
  let main_v4 : FVec F S8x2048x16x64 .f32 := Host.absf main_arg1
  let main_cst_0 : FVec F S_ .f32 := constant S_ .f32 0x7F800000#32
  let main_v5 : FVec F S8x2048x16x64 .f32 := broadcastInDim S8x2048x16x64 ![] bcast_S_S8x2048x16x64 main_cst_0
  let main_v6 : IVec S8x2048x16x64 1 := cmpf .olt main_v4 main_v5
  let main_c_1 : IVec S_ 1 := constantI S_ 1 1#1
  let main_v7 : IVec S_ 1 := (fun x v => Host.reduce IntOp.andi x v reducesTo_S8x2048x16x64_S_d0_1_2_3 h_S_) main_v6 main_c_1
  let main_v8 : IVec S_ 1 := andi main_v3 main_v7
  let main_v9 : FVec F S8x2048x16x64 .f32 := Host.absf main_arg2
  let main_cst_2 : FVec F S_ .f32 := constant S_ .f32 0x7F800000#32
  let main_v10 : FVec F S8x2048x16x64 .f32 := broadcastInDim S8x2048x16x64 ![] bcast_S_S8x2048x16x64 main_cst_2
  let main_v11 : IVec S8x2048x16x64 1 := cmpf .olt main_v9 main_v10
  let main_c_3 : IVec S_ 1 := constantI S_ 1 1#1
  let main_v12 : IVec S_ 1 := (fun x v => Host.reduce IntOp.andi x v reducesTo_S8x2048x16x64_S_d0_1_2_3 h_S_) main_v11 main_c_3
  let main_v13 : IVec S_ 1 := andi main_v8 main_v12
  let main_v14 : FVec F S8x2048x16 .f32 := Host.absf main_arg3
  let main_cst_4 : FVec F S_ .f32 := constant S_ .f32 0x7F800000#32
  let main_v15 : FVec F S8x2048x16 .f32 := broadcastInDim S8x2048x16 ![] bcast_S_S8x2048x16 main_cst_4
  let main_v16 : IVec S8x2048x16 1 := cmpf .olt main_v14 main_v15
  fn_part1 (F := F) main_v13 main_v16
-- ==== Pre_tables.lean ====
abbrev S164864x2048 : Shape := ⟨2, ![164864, 2048]⟩
abbrev S164864x1 : Shape := ⟨2, ![164864, 1]⟩
abbrev S1288 : Shape := ⟨1, ![1288]⟩
abbrev S1 : Shape := ⟨1, ![1]⟩
abbrev S256x2048x512 : Shape := ⟨3, ![256, 2048, 512]⟩
abbrev S256x512x2048 : Shape := ⟨3, ![256, 512, 2048]⟩
abbrev S164864 : Shape := ⟨1, ![164864]⟩
abbrev S_ : Shape := ⟨0, ![]⟩

class Facts : Prop where
  bcast_S164864_S164864x1_0 : S164864.BroadcastsInDim S164864x1 (![0] : Fin 1 → Fin S164864x1.rank)
  bcast_S_S1288 : S_.BroadcastsInDim S1288 (![] : Fin 0 → Fin S1288.rank)
  reducesTo_S1288_S_d0 : S1288.ReducesTo [0] S_
  h_S_ : 0 < S_.numel
  bcast_S_S1 : S_.BroadcastsInDim S1 (![] : Fin 0 → Fin S1.rank)
  reducesTo_S1_S_d0 : S1.ReducesTo [0] S_
  shapeCasts_S1_S_ : S1.ShapeCasts S_
  bcast_S_S164864x1 : S_.BroadcastsInDim S164864x1 (![] : Fin 0 → Fin S164864x1.rank)
  reducesTo_S164864x1_S_d0_1 : S164864x1.ReducesTo [0, 1] S_

variable [Facts]

def fn_part1 {F : FTy → Type} [FloatOps F] (main_arg1 : FVec F S164864x1 .f32) (main_v1 : IVec S164864x1 32) (main_v14 : IVec S_ 1) (main_v16 : IVec S_ 32) : IVec S_ 1 :=
  let main_v17 : IVec S164864x1 32 := broadcastInDim S164864x1 ![] bcast_S_S164864x1 main_v16
  let main_v18 : IVec S164864x1 1 := cmpi .slt main_v1 main_v17
  let main_cst : FVec F S_ .f32 := constant S_ .f32 0x00000000#32
  let main_v19 : FVec F S164864x1 .f32 := broadcastInDim S164864x1 ![] bcast_S_S164864x1 main_cst
  let main_v20 : IVec S164864x1 1 := cmpf .oeq main_arg1 main_v19
  let main_v21 : IVec S164864x1 1 := ori main_v18 main_v20
  let main_c_6 : IVec S_ 1 := constantI S_ 1 1#1
  let main_v22 : IVec S_ 1 := (fun x v => Host.reduce IntOp.andi x v reducesTo_S164864x1_S_d0_1 h_S_) main_v21 main_c_6
  let main_v23 : IVec S_ 1 := andi main_v14 main_v22
  main_v23

def fn {F : FTy → Type} [FloatOps F] (main_arg0 : FVec F S164864x2048 .bf16) (main_arg1 : FVec F S164864x1 .f32) (main_arg2 : IVec S1288 32) (main_arg3 : IVec S1 32) (main_arg4 : FVec F S256x2048x512 .f32) (main_arg5 : FVec F S256x2048x512 .f32) (main_arg6 : FVec F S256x512x2048 .f32) : IVec S_ 1 :=
  let main_v0 : IVec S164864 32 := iotaInDim S164864 32 0
  let main_v1 : IVec S164864x1 32 := broadcastInDim S164864x1 ![0] bcast_S164864_S164864x1_0 main_v0
  let main_c : IVec S_ 32 := constantI S_ 32 0#32
  let main_v2 : IVec S1288 32 := broadcastInDim S1288 ![] bcast_S_S1288 main_c
  let main_v3 : IVec S1288 1 := cmpi .sge main_arg2 main_v2
  let main_c_0 : IVec S_ 32 := constantI S_ 32 256#32
  let main_v4 : IVec S1288 32 := broadcastInDim S1288 ![] bcast_S_S1288 main_c_0
  let main_v5 : IVec S1288 1 := cmpi .slt main_arg2 main_v4
  let main_v6 : IVec S1288 1 := andi main_v3 main_v5
  let main_c_1 : IVec S_ 1 := constantI S_ 1 1#1
  let main_v7 : IVec S_ 1 := (fun x v => Host.reduce IntOp.andi x v reducesTo_S1288_S_d0 h_S_) main_v6 main_c_1
  let main_c_2 : IVec S_ 32 := constantI S_ 32 0#32
  let main_v8 : IVec S1 32 := broadcastInDim S1 ![] bcast_S_S1 main_c_2
  let main_v9 : IVec S1 1 := cmpi .sge main_arg3 main_v8
  let main_c_3 : IVec S_ 32 := constantI S_ 32 1288#32
  let main_v10 : IVec S1 32 := broadcastInDim S1 ![] bcast_S_S1 main_c_3
  let main_v11 : IVec S1 1 := cmpi .sle main_arg3 main_v10
  let main_v12 : IVec S1 1 := andi main_v9 main_v11
  let main_c_4 : IVec S_ 1 := constantI S_ 1 1#1
  let main_v13 : IVec S_ 1 := (fun x v => Host.reduce IntOp.andi x v reducesTo_S1_S_d0 h_S_) main_v12 main_c_4
  let main_v14 : IVec S_ 1 := andi main_v7 main_v13
  let main_v15 : IVec S_ 32 := shapeCast S_ main_arg3 shapeCasts_S1_S_
  let main_c_5 : IVec S_ 32 := constantI S_ 32 128#32
  let main_v16 : IVec S_ 32 := muli main_v15 main_c_5
  fn_part1 (F := F) main_arg1 main_v1 main_v14 main_v16
-- ==== Kernel.lean ====
abbrev S8x2048x16x64 : Shape := ⟨4, ![8, 2048, 16, 64]⟩
abbrev S8x2048x16 : Shape := ⟨3, ![8, 2048, 16]⟩
abbrev S8x16x64x2048 : Shape := ⟨4, ![8, 16, 64, 2048]⟩
abbrev S8x1024x2048 : Shape := ⟨3, ![8, 1024, 2048]⟩
abbrev S8x16x2048 : Shape := ⟨3, ![8, 16, 2048]⟩
abbrev S1x16x2048 : Shape := ⟨3, ![1, 16, 2048]⟩
abbrev S16x2048 : Shape := ⟨2, ![16, 2048]⟩
abbrev S8x2048x1024 : Shape := ⟨3, ![8, 2048, 1024]⟩
abbrev S8x8x2x4x512 : Shape := ⟨5, ![8, 8, 2, 4, 512]⟩
abbrev S8x8x4x512x2 : Shape := ⟨5, ![8, 8, 4, 512, 2]⟩
abbrev S1x128x512 : Shape := ⟨3, ![1, 128, 512]⟩
abbrev S1x2048x128 : Shape := ⟨3, ![1, 2048, 128]⟩
abbrev S1x128x2048 : Shape := ⟨3, ![1, 128, 2048]⟩
abbrev S1x1x4x512x2 : Shape := ⟨5, ![1, 1, 4, 512, 2]⟩
abbrev S1x512x128 : Shape := ⟨3, ![1, 512, 128]⟩
abbrev S2x1x512 : Shape := ⟨3, ![2, 1, 512]⟩
abbrev S128x512 : Shape := ⟨2, ![128, 512]⟩
abbrev S128x1 : Shape := ⟨2, ![128, 1]⟩
abbrev S512x128 : Shape := ⟨2, ![512, 128]⟩
abbrev S1x1x1x512x2 : Shape := ⟨5, ![1, 1, 1, 512, 2]⟩
abbrev S512x2 : Shape := ⟨2, ![512, 2]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩

abbrev nBuf : Space → Nat
  | .hbm => 14
  | .vmem => 17
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S8x2048x16, .f32⟩
  | .hbm, ⟨4, _⟩ => ⟨S8x16x64x2048, .f32⟩
  | .hbm, ⟨5, _⟩ => ⟨S8x1024x2048, .f32⟩
  | .hbm, ⟨6, _⟩ => ⟨S8x16x64x2048, .f32⟩
  | .hbm, ⟨7, _⟩ => ⟨S8x1024x2048, .f32⟩
  | .hbm, ⟨8, _⟩ => ⟨S8x16x2048, .f32⟩
  | .hbm, ⟨9, _⟩ => ⟨S8x16x2048, .f32⟩
  | .hbm, ⟨10, _⟩ => ⟨S8x2048x1024, .f32⟩
  | .hbm, ⟨11, _⟩ => ⟨S8x8x2x4x512, .f32⟩
  | .hbm, ⟨12, _⟩ => ⟨S8x8x4x512x2, .f32⟩
  | .hbm, ⟨13, _⟩ => ⟨S8x2048x1024, .bf16⟩
  | .local _ .vmem, ⟨0, _⟩ => ⟨S1x16x2048, .f32⟩
  | .local _ .vmem, ⟨1, _⟩ => ⟨S1x16x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x128x512, .f32⟩
  | .local _ .vmem, ⟨5, _⟩ => ⟨S1x128x512, .f32⟩
  | .local _ .vmem, ⟨6, _⟩ => ⟨S1x2048x128, .f32⟩
  | .local _ .vmem, ⟨7, _⟩ => ⟨S1x2048x128, .f32⟩
  | .local _ .vmem, ⟨8, _⟩ => ⟨S1x128x2048, .f32⟩
  | .local _ .vmem, ⟨9, _⟩ => ⟨S1x128x2048, .f32⟩
  | .local _ .vmem, ⟨10, _⟩ => ⟨S1x1x4x512x2, .f32⟩
  | .local _ .vmem, ⟨11, _⟩ => ⟨S1x1x4x512x2, .f32⟩
  | .local _ .vmem, ⟨12, _⟩ => ⟨S1x512x128, .bf16⟩
  | .local _ .vmem, ⟨13, _⟩ => ⟨S1x512x128, .bf16⟩
  | .local _ .vmem, ⟨14, _⟩ => ⟨S2x1x512, .f32⟩
  | .local _ .vmem, ⟨15, _⟩ => ⟨S2x1x512, .f32⟩
  | .local _ .vmem, ⟨16, _⟩ => ⟨S128x512, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 8, 4], ![false, false, false]⟩

@[reducible] def k1_t1_loop (i : grid1.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_16 : BitVec 32 := 1#32
  ⟨c0_i32_15, v33, c1_i32_16⟩
def k1_mult1 (i : grid1.Coords) (k1_t1 : Fin (k1_t1_loop i).trips) : BitVec 32 :=
  let c0_i32_15 : BitVec 32 := 0#32
  let c1_i32_16 : BitVec 32 := 1#32
  let arg11 : BitVec 32 := Scf.iv c0_i32_15 c1_i32_16 k1_t1
  let c512_i32_75 : BitVec 32 := 512#32
  let v145 : BitVec 32 := Scalar.muli arg11 c512_i32_75
  v145
def k1_off1 (i : grid1.Coords) (k1_t1 : Fin (k1_t1_loop i).trips) : Fin 3 → Nat :=
  let c0_76 : Index := 0#32
  let c0_i32_15 : BitVec 32 := 0#32
  let c1_i32_16 : BitVec 32 := 1#32
  let arg11 : BitVec 32 := Scf.iv c0_i32_15 c1_i32_16 k1_t1
  let c512_i32_75 : BitVec 32 := 512#32
  let v145 : BitVec 32 := Scalar.muli arg11 c512_i32_75
  let v146 : BitVec 32 := v145
  let v147 : Index := Scalar.indexCast v146
  let c0_77 : Index := 0#32
  ![0, v147.toNat, 0]
def k1_off2 (i : grid1.Coords) (k1_t1 : Fin (k1_t1_loop i).trips) : Fin 3 → Nat :=
  let c0_78 : Index := 0#32
  let c0_79 : Index := 0#32
  let c0_i32_15 : BitVec 32 := 0#32
  let c1_i32_16 : BitVec 32 := 1#32
  let arg11 : BitVec 32 := Scf.iv c0_i32_15 c1_i32_16 k1_t1
  let c512_i32_75 : BitVec 32 := 512#32
  let v145 : BitVec 32 := Scalar.muli arg11 c512_i32_75
  let v146 : BitVec 32 := v145
  let v151 : Index := Scalar.indexCast v146
  ![0, 0, v151.toNat]
def k1_off3 (i : grid1.Coords) (k1_t1 : Fin (k1_t1_loop i).trips) : Fin 5 → Nat :=
  let c0_80 : Index := 0#32
  let c0_81 : Index := 0#32
  let c0_i32_15 : BitVec 32 := 0#32
  let c1_i32_16 : BitVec 32 := 1#32
  let arg11 : BitVec 32 := Scf.iv c0_i32_15 c1_i32_16 k1_t1
  let v155 : Index := Scalar.indexCast arg11
  let c0_82 : Index := 0#32
  let c0_83 : Index := 0#32
  ![0, 0, v155.toNat, 0, 0]
@[reducible] def k1_t2_loop (i : grid1.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let v30 : BitVec 32 := Scalar.addi c0_i32_15 v29
  let c1_i32_17 : BitVec 32 := 1#32
  ⟨v33, v30, c1_i32_17⟩
def k1_mult2 (i : grid1.Coords) (k1_t2 : Fin (k1_t2_loop i).trips) : BitVec 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg11 : BitVec 32 := Scf.iv v33 c1_i32_17 k1_t2
  let c512_i32_75 : BitVec 32 := 512#32
  let v145 : BitVec 32 := Scalar.muli arg11 c512_i32_75
  v145
def k1_off4 (i : grid1.Coords) (k1_t2 : Fin (k1_t2_loop i).trips) : Fin 3 → Nat :=
  let c0_76 : Index := 0#32
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg11 : BitVec 32 := Scf.iv v33 c1_i32_17 k1_t2
  let c512_i32_75 : BitVec 32 := 512#32
  let v145 : BitVec 32 := Scalar.muli arg11 c512_i32_75
  let v146 : BitVec 32 := v145
  let v147 : Index := Scalar.indexCast v146
  let c0_77 : Index := 0#32
  ![0, v147.toNat, 0]
def k1_off5 (i : grid1.Coords) (k1_t2 : Fin (k1_t2_loop i).trips) : Fin 3 → Nat :=
  let c0_78 : Index := 0#32
  let c0_79 : Index := 0#32
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg11 : BitVec 32 := Scf.iv v33 c1_i32_17 k1_t2
  let c512_i32_75 : BitVec 32 := 512#32
  let v145 : BitVec 32 := Scalar.muli arg11 c512_i32_75
  let v146 : BitVec 32 := v145
  let v151 : Index := Scalar.indexCast v146
  ![0, 0, v151.toNat]
def k1_off6 (i : grid1.Coords) (k1_t2 : Fin (k1_t2_loop i).trips) : Fin 5 → Nat :=
  let c0_80 : Index := 0#32
  let c0_81 : Index := 0#32
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg11 : BitVec 32 := Scf.iv v33 c1_i32_17 k1_t2
  let v155 : Index := Scalar.indexCast arg11
  let c0_82 : Index := 0#32
  let c0_83 : Index := 0#32
  ![0, 0, v155.toNat, 0, 0]
def k1_mult3 (i : grid1.Coords) : BitVec 32 :=
  let arg2 : BitVec 32 := BitVec.ofNat 32 (i 2).val
  let c512_i32 : BitVec 32 := 512#32
  let v34 : BitVec 32 := Scalar.muli arg2 c512_i32
  v34
def k1_off7 (i : grid1.Coords) : Fin 3 → Nat :=
  let c0_18 : Index := 0#32
  let arg2 : BitVec 32 := BitVec.ofNat 32 (i 2).val
  let c512_i32 : BitVec 32 := 512#32
  let v34 : BitVec 32 := Scalar.muli arg2 c512_i32
  let v35 : BitVec 32 := v34
  let v36 : Index := Scalar.indexCast v35
  let c0_19 : Index := 0#32
  ![0, v36.toNat, 0]
def k1_off8 (i : grid1.Coords) : Fin 3 → Nat :=
  let c0_20 : Index := 0#32
  let c0_21 : Index := 0#32
  let arg2 : BitVec 32 := BitVec.ofNat 32 (i 2).val
  let c512_i32 : BitVec 32 := 512#32
  let v34 : BitVec 32 := Scalar.muli arg2 c512_i32
  let v35 : BitVec 32 := v34
  let v40 : Index := Scalar.indexCast v35
  ![0, 0, v40.toNat]
def k1_off9 (i : grid1.Coords) : Fin 5 → Nat :=
  let c0_22 : Index := 0#32
  let c0_23 : Index := 0#32
  let arg2 : BitVec 32 := BitVec.ofNat 32 (i 2).val
  let v44 : Index := Scalar.indexCast arg2
  let c0_24 : Index := 0#32
  let c0_25 : Index := 0#32
  ![0, 0, v44.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x4x512x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "log2e" => some (((Real.log 2)⁻¹ : ℝ) : EReal)
  | "qscale" => some (((8 * (Real.log 2))⁻¹ : ℝ) : EReal)
  | _ => none
-- ==== ReferenceIdeal.lean ====
abbrev S8x2048x16x64 : Shape := ⟨4, ![8, 2048, 16, 64]⟩
abbrev S8x2048x16 : Shape := ⟨3, ![8, 2048, 16]⟩
abbrev S2048 : Shape := ⟨1, ![2048]⟩
abbrev S_ : Shape := ⟨0, ![]⟩
abbrev S8x16x2048 : Shape := ⟨3, ![8, 16, 2048]⟩
abbrev S8x16x2048x2048 : Shape := ⟨4, ![8, 16, 2048, 2048]⟩
abbrev S8x16x1x2048 : Shape := ⟨4, ![8, 16, 1, 2048]⟩
abbrev S8x16x2048x1 : Shape := ⟨4, ![8, 16, 2048, 1]⟩
abbrev S1x2048 : Shape := ⟨2, ![1, 2048]⟩
abbrev S2048x1 : Shape := ⟨2, ![2048, 1]⟩
abbrev S2048x2048 : Shape := ⟨2, ![2048, 2048]⟩
abbrev S8x16x64x2048 : Shape := ⟨4, ![8, 16, 64, 2048]⟩
abbrev S8x2048x1024 : Shape := ⟨3, ![8, 2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S8x2048x16, .f32⟩
  | .hbm, ⟨4, _⟩ => ⟨S2048, .i32⟩
  | .hbm, ⟨5, _⟩ => ⟨S_, .f32⟩
  | .hbm, ⟨6, _⟩ => ⟨S_, .f32⟩
  | .hbm, ⟨7, _⟩ => ⟨S8x2048x16, .f32⟩
  | .hbm, ⟨8, _⟩ => ⟨S8x2048x16, .f32⟩
  | .hbm, ⟨9, _⟩ => ⟨S8x16x2048, .f32⟩
  | .hbm, ⟨10, _⟩ => ⟨S8x16x2048x2048, .f32⟩
  | .hbm, ⟨11, _⟩ => ⟨S_, .f32⟩
  | .hbm, ⟨12, _⟩ => ⟨S8x16x2048x2048, .f32⟩
  | .hbm, ⟨13, _⟩ => ⟨S8x16x2048x2048, .f32⟩
  | .hbm, ⟨14, _⟩ => ⟨S8x16x1x2048, .f32⟩
  | .hbm, ⟨15, _⟩ => ⟨S8x16x2048x2048, .f32⟩
  | .hbm, ⟨16, _⟩ => ⟨S8x16x2048x2048, .f32⟩
  | .hbm, ⟨17, _⟩ => ⟨S8x16x2048x1, .f32⟩
  | .hbm, ⟨18, _⟩ => ⟨S8x16x2048x2048, .f32⟩
  | .hbm, ⟨19, _⟩ => ⟨S8x16x2048x2048, .f32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x16x2048x2048, .i1⟩
  | .hbm, ⟨28, _⟩ => ⟨S8x16x2048x2048, .f32⟩
  | .hbm, ⟨29, _⟩ => ⟨S8x16x2048x2048, .f32⟩
  | .hbm, ⟨30, _⟩ => ⟨S_, .f32⟩
  | .hbm, ⟨31, _⟩ => ⟨S8x16x2048, .f32⟩
  | .hbm, ⟨32, _⟩ => ⟨S_, .f32⟩
  | .hbm, ⟨33, _⟩ => ⟨S8x16x2048, .f32⟩
  | .hbm, ⟨34, _⟩ => ⟨S8x16x2048, .f32⟩
  | .hbm, ⟨35, _⟩ => ⟨S8x16x2048x1, .f32⟩
  | .hbm, ⟨36, _⟩ => ⟨S8x16x2048x2048, .f32⟩
  | .hbm, ⟨37, _⟩ => ⟨S8x16x2048x2048, .f32⟩
  | .hbm, ⟨38, _⟩ => ⟨S8x16x2048x2048, .f32⟩
  | .hbm, ⟨39, _⟩ => ⟨S_, .f32⟩
  | .hbm, ⟨40, _⟩ => ⟨S8x16x2048, .f32⟩
  | .hbm, ⟨41, _⟩ => ⟨S8x16x2048x1, .f32⟩
  | .hbm, ⟨42, _⟩ => ⟨S8x16x2048x2048, .f32⟩
  | .hbm, ⟨43, _⟩ => ⟨S8x16x2048x2048, .f32⟩
  | .hbm, ⟨44, _⟩ => ⟨S8x16x64x2048, .f32⟩
  | .hbm, ⟨45, _⟩ => ⟨S8x2048x16x64, .f32⟩
  | .hbm, ⟨46, _⟩ => ⟨S8x2048x1024, .f32⟩
  | .hbm, ⟨47, _⟩ => ⟨S8x2048x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S8x2048x2048 : Shape := ⟨3, ![8, 2048, 2048]⟩
abbrev S32x4x2048 : Shape := ⟨3, ![32, 4, 2048]⟩
abbrev S1x32x15x1024 : Shape := ⟨4, ![1, 32, 15, 1024]⟩
abbrev S8x2048 : Shape := ⟨2, ![8, 2048]⟩
abbrev S32x2048 : Shape := ⟨2, ![32, 2048]⟩
abbrev S1x2048x12288 : Shape := ⟨3, ![1, 2048, 12288]⟩
abbrev S1x12288 : Shape := ⟨2, ![1, 12288]⟩
abbrev S1x2048 : Shape := ⟨2, ![1, 2048]⟩
abbrev S1x2048x8208 : Shape := ⟨3, ![1, 2048, 8208]⟩
abbrev S1x16 : Shape := ⟨2, ![1, 16]⟩
abbrev S2048x8208 : Shape := ⟨2, ![2048, 8208]⟩
abbrev S2048x1024 : Shape := ⟨2, ![2048, 1024]⟩
abbrev S2048x16 : Shape := ⟨2, ![2048, 16]⟩
abbrev S2048x2048 : Shape := ⟨2, ![2048, 2048]⟩
abbrev S1024x2048 : Shape := ⟨2, ![1024, 2048]⟩
abbrev S_ : Shape := ⟨0, ![]⟩
abbrev S2048x128 : Shape := ⟨2, ![2048, 128]⟩
abbrev S16 : Shape := ⟨1, ![16]⟩
abbrev S128 : Shape := ⟨1, ![128]⟩
abbrev S1x128 : Shape := ⟨2, ![1, 128]⟩
abbrev S2048 : Shape := ⟨1, ![2048]⟩
abbrev S40x2048 : Shape := ⟨2, ![40, 2048]⟩
abbrev S48x2048 : Shape := ⟨2, ![48, 2048]⟩
abbrev S2048x12288 : Shape := ⟨2, ![2048, 12288]⟩
abbrev S12288 : Shape := ⟨1, ![12288]⟩
abbrev S48x12288 : Shape := ⟨2, ![48, 12288]⟩
abbrev S1x1024 : Shape := ⟨2, ![1, 1024]⟩
abbrev S48x1024 : Shape := ⟨2, ![48, 1024]⟩
abbrev S8x12288 : Shape := ⟨2, ![8, 12288]⟩
abbrev S8x1x2048 : Shape := ⟨3, ![8, 1, 2048]⟩
abbrev S32x12288 : Shape := ⟨2, ![32, 12288]⟩
abbrev S128x2048 : Shape := ⟨2, ![128, 2048]⟩
abbrev S1x128x2048 : Shape := ⟨3, ![1, 128, 2048]⟩
abbrev S8x1024x2048 : Shape := ⟨3, ![8, 1024, 2048]⟩
abbrev S8x2048x1024 : Shape := ⟨3, ![8, 2048, 1024]⟩
abbrev S8x2048x128 : Shape := ⟨3, ![8, 2048, 128]⟩
abbrev S1x512x2048 : Shape := ⟨3, ![1, 512, 2048]⟩
abbrev S1x1x2048 : Shape := ⟨3, ![1, 1, 2048]⟩
abbrev S1x1024x512 : Shape := ⟨3, ![1, 1024, 512]⟩
abbrev S1x512x1024 : Shape := ⟨3, ![1, 512, 1024]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x1024 : Shape := ⟨2, ![512, 1024]⟩
abbrev S512x128 : Shape := ⟨2, ![512, 128]⟩
abbrev S8x2048x16 : Shape := ⟨3, ![8, 2048, 16]⟩
abbrev S1x1024x128 : Shape := ⟨3, ![1, 1024, 128]⟩
abbrev S1x128x1024 : Shape := ⟨3, ![1, 128, 1024]⟩
abbrev S1x128x128 : Shape := ⟨3, ![1, 128, 128]⟩
abbrev S128x1 : Shape := ⟨2, ![128, 1]⟩
abbrev S1024x128 : Shape := ⟨2, ![1024, 128]⟩
abbrev S128x1024 : Shape := ⟨2, ![128, 1024]⟩
abbrev S128x128 : Shape := ⟨2, ![128, 128]⟩
abbrev S1x128x16 : Shape := ⟨3, ![1, 128, 16]⟩
abbrev S128x16 : Shape := ⟨2, ![128, 16]⟩
abbrev S32x4x16 : Shape := ⟨3, ![32, 4, 16]⟩
abbrev S32x4x1024 : Shape := ⟨3, ![32, 4, 1024]⟩
abbrev S32x15x1024 : Shape := ⟨3, ![32, 15, 1024]⟩
abbrev S32x19x1024 : Shape := ⟨3, ![32, 19, 1024]⟩
abbrev S8x15x1024 : Shape := ⟨3, ![8, 15, 1024]⟩
abbrev S1x8x15x1024 : Shape := ⟨4, ![1, 8, 15, 1024]⟩
abbrev S8x16x64x2048 : Shape := ⟨4, ![8, 16, 64, 2048]⟩
abbrev S8x2048x16x64 : Shape := ⟨4, ![8, 2048, 16, 64]⟩
abbrev S1x8x2048x16x64 : Shape := ⟨5, ![1, 8, 2048, 16, 64]⟩
abbrev S1x8x2048x16 : Shape := ⟨4, ![1, 8, 2048, 16]⟩
abbrev S1x32x4x16x64 : Shape := ⟨5, ![1, 32, 4, 16, 64]⟩
abbrev S1x32x4x16 : Shape := ⟨4, ![1, 32, 4, 16]⟩

abbrev nBuf : Space → Nat
  | .hbm => 118
  | .vmem => 45
  | .smem => 0
  | _ => 0

abbrev bufTy : (tb : Table) → Fin (tcTables nBuf tb) → BufTy
  | .hbm, ⟨0, _⟩ => ⟨S8x2048x2048, .f32⟩
  | .hbm, ⟨1, _⟩ => ⟨S32x4x2048, .f32⟩
  | .hbm, ⟨2, _⟩ => ⟨S1x32x15x1024, .f32⟩
  | .hbm, ⟨3, _⟩ => ⟨S8x2048, .f32⟩
  | .hbm, ⟨4, _⟩ => ⟨S32x2048, .f32⟩
  | .hbm, ⟨5, _⟩ => ⟨S1x2048x12288, .f32⟩
  | .hbm, ⟨6, _⟩ => ⟨S1x12288, .f32⟩
  | .hbm, ⟨7, _⟩ => ⟨S1x2048, .f32⟩
  | .hbm, ⟨8, _⟩ => ⟨S1x2048x8208, .f32⟩
  | .hbm, ⟨9, _⟩ => ⟨S1x16, .f32⟩
  | .hbm, ⟨10, _⟩ => ⟨S2048x8208, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x16, .f32⟩
  | .hbm, ⟨15, _⟩ => ⟨S2048x1024, .f32⟩
  | .hbm, ⟨16, _⟩ => ⟨S2048x2048, .f32⟩
  | .hbm, ⟨17, _⟩ => ⟨S2048x2048, .f32⟩
  | .hbm, ⟨18, _⟩ => ⟨S2048x1024, .bf16⟩
  | .hbm, ⟨19, _⟩ => ⟨S2048x1024, .bf16⟩
  | .hbm, ⟨20, _⟩ => ⟨S2048x1024, .bf16⟩
  | .hbm, ⟨21, _⟩ => ⟨S2048x16, .bf16⟩
  | .hbm, ⟨22, _⟩ => ⟨S2048x1024, .bf16⟩
  | .hbm, ⟨23, _⟩ => ⟨S2048x2048, .bf16⟩
  | .hbm, ⟨24, _⟩ => ⟨S2048x2048, .bf16⟩
  | .hbm, ⟨25, _⟩ => ⟨S1024x2048, .bf16⟩
  | .hbm, ⟨26, _⟩ => ⟨S1024x2048, .bf16⟩
  | .hbm, ⟨27, _⟩ => ⟨S_, .i32⟩
  | .hbm, ⟨28, _⟩ => ⟨S_, .bf16⟩
  | .hbm, ⟨29, _⟩ => ⟨S2048x128, .bf16⟩
  | .hbm, ⟨30, _⟩ => ⟨S16, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S2048, .f32⟩
  | .hbm, ⟨36, _⟩ => ⟨S1x2048, .f32⟩
  | .hbm, ⟨37, _⟩ => ⟨S40x2048, .f32⟩
  | .hbm, ⟨38, _⟩ => ⟨S_, .i32⟩
  | .hbm, ⟨39, _⟩ => ⟨S_, .f32⟩
  | .hbm, ⟨40, _⟩ => ⟨S48x2048, .f32⟩
  | .hbm, ⟨41, _⟩ => ⟨S2048x12288, .f32⟩
  | .hbm, ⟨42, _⟩ => ⟨S12288, .f32⟩
  | .hbm, ⟨43, _⟩ => ⟨S1x12288, .f32⟩
  | .hbm, ⟨44, _⟩ => ⟨S48x12288, .f32⟩
  | .hbm, ⟨45, _⟩ => ⟨S8x12288, .f32⟩
  | .hbm, ⟨46, _⟩ => ⟨S8x2048, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S8x1x2048, .f32⟩
  | .hbm, ⟨53, _⟩ => ⟨S8x1x2048, .f32⟩
  | .hbm, ⟨54, _⟩ => ⟨S8x1x2048, .f32⟩
  | .hbm, ⟨55, _⟩ => ⟨S8x1x2048, .f32⟩
  | .hbm, ⟨56, _⟩ => ⟨S8x1x2048, .f32⟩
  | .hbm, ⟨57, _⟩ => ⟨S8x1x2048, .f32⟩
  | .hbm, ⟨58, _⟩ => ⟨S32x12288, .f32⟩
  | .hbm, ⟨59, _⟩ => ⟨S32x2048, .f32⟩
  | .hbm, ⟨60, _⟩ => ⟨S32x2048, .f32⟩
  | .hbm, ⟨61, _⟩ => ⟨S32x2048, .f32⟩
  | .hbm, ⟨62, _⟩ => ⟨S32x2048, .f32⟩
  | .hbm, ⟨63, _⟩ => ⟨S32x2048, .f32⟩
  | .hbm, ⟨64, _⟩ => ⟨S32x2048, .f32⟩
  | .hbm, ⟨65, _⟩ => ⟨S32x4x2048, .f32⟩
  | .hbm, ⟨66, _⟩ => ⟨S128x2048, .f32⟩
  | .hbm, ⟨67, _⟩ => ⟨S1x128x2048, .f32⟩
  | .hbm, ⟨68, _⟩ => ⟨S32x4x2048, .f32⟩
  | .hbm, ⟨69, _⟩ => ⟨S128x2048, .f32⟩
  | .hbm, ⟨70, _⟩ => ⟨S1x128x2048, .f32⟩
  | .hbm, ⟨71, _⟩ => ⟨S32x4x2048, .f32⟩
  | .hbm, ⟨72, _⟩ => ⟨S128x2048, .f32⟩
  | .hbm, ⟨73, _⟩ => ⟨S1x128x2048, .f32⟩
  | .hbm, ⟨74, _⟩ => ⟨S32x4x2048, .f32⟩
  | .hbm, ⟨75, _⟩ => ⟨S128x2048, .f32⟩
  | .hbm, ⟨76, _⟩ => ⟨S1x128x2048, .f32⟩
  | .hbm, ⟨77, _⟩ => ⟨S32x4x2048, .f32⟩
  | .hbm, ⟨78, _⟩ => ⟨S128x2048, .f32⟩
  | .hbm, ⟨79, _⟩ => ⟨S1x128x2048, .f32⟩
  | .hbm, ⟨80, _⟩ => ⟨S32x4x2048, .f32⟩
  | .hbm, ⟨81, _⟩ => ⟨S128x2048, .f32⟩
  | .hbm, ⟨82, _⟩ => ⟨S1x128x2048, .f32⟩
  | .hbm, ⟨83, _⟩ => ⟨S8x1024x2048, .bf16⟩
  | .hbm, ⟨84, _⟩ => ⟨S8x2048x1024, .f32⟩
  | .hbm, ⟨85, _⟩ => ⟨S8x1024x2048, .f32⟩
  | .hbm, ⟨86, _⟩ => ⟨S8x2048x1024, .f32⟩
  | .hbm, ⟨87, _⟩ => ⟨S8x2048x128, .f32⟩
  | .hbm, ⟨88, _⟩ => ⟨S8x2048x16, .f32⟩
  | .hbm, ⟨89, _⟩ => ⟨S1x128x2048, .f32⟩
  | .hbm, ⟨90, _⟩ => ⟨S1x1024x128, .bf16⟩
  | .hbm, ⟨91, _⟩ => ⟨S1x128x1024, .f32⟩
  | .hbm, ⟨92, _⟩ => ⟨S1x1024x128, .f32⟩
  | .hbm, ⟨93, _⟩ => ⟨S1x128x1024, .f32⟩
  | .hbm, ⟨94, _⟩ => ⟨S1x128x128, .f32⟩
  | .hbm, ⟨95, _⟩ => ⟨S1024x128, .bf16⟩
  | .hbm, ⟨96, _⟩ => ⟨S128x1024, .bf16⟩
  | .hbm, ⟨97, _⟩ => ⟨S1024x128, .f32⟩
  | .hbm, ⟨98, _⟩ => ⟨S128x1024, .f32⟩
  | .hbm, ⟨99, _⟩ => ⟨S1x128x16, .f32⟩
  | .hbm, ⟨100, _⟩ => ⟨S128x16, .f32⟩
  | .hbm, ⟨101, _⟩ => ⟨S32x4x16, .f32⟩
  | .hbm, ⟨102, _⟩ => ⟨S32x4x1024, .f32⟩
  | .hbm, ⟨103, _⟩ => ⟨S32x15x1024, .f32⟩
  | .hbm, ⟨104, _⟩ => ⟨S32x19x1024, .f32⟩
  | .hbm, ⟨105, _⟩ => ⟨S8x15x1024, .f32⟩
  | .hbm, ⟨106, _⟩ => ⟨S1x8x15x1024, .f32⟩
  | .hbm, ⟨107, _⟩ => ⟨S32x15x1024, .f32⟩
  | .hbm, ⟨108, _⟩ => ⟨S1x32x15x1024, .f32⟩
  | .hbm, ⟨109, _⟩ => ⟨S8x16x64x2048, .f32⟩
  | .hbm, ⟨110, _⟩ => ⟨S8x2048x16x64, .f32⟩
  | .hbm, ⟨111, _⟩ => ⟨S1x8x2048x16x64, .f32⟩
  | .hbm, ⟨112, _⟩ => ⟨S1x8x2048x16x64, .f32⟩
  | .hbm, ⟨113, _⟩ => ⟨S1x8x2048x16, .f32⟩
  | .hbm, ⟨114, _⟩ => ⟨S1x32x4x16x64, .f32⟩
  | .hbm, ⟨115, _⟩ => ⟨S1x32x4x16x64, .f32⟩
  | .hbm, ⟨116, _⟩ => ⟨S1x32x4x16, .f32⟩
  | .hbm, ⟨117, _⟩ => ⟨S32x4x1024, .bf16⟩
  | .local _ .vmem, ⟨0, _⟩ => ⟨S48x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S48x1024, .f32⟩
  | .local _ .vmem, ⟨6, _⟩ => ⟨S48x1024, .f32⟩
  | .local _ .vmem, ⟨7, _⟩ => ⟨S1x512x2048, .f32⟩
  | .local _ .vmem, ⟨8, _⟩ => ⟨S1x512x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1024x2048, .bf16⟩
  | .local _ .vmem, ⟨15, _⟩ => ⟨S2048x1024, .bf16⟩
  | .local _ .vmem, ⟨16, _⟩ => ⟨S1024x2048, .bf16⟩
  | .local _ .vmem, ⟨17, _⟩ => ⟨S2048x1024, .bf16⟩
  | .local _ .vmem, ⟨18, _⟩ => ⟨S2048x128, .bf16⟩
  | .local _ .vmem, ⟨19, _⟩ => ⟨S1x128, .f32⟩
  | .local _ .vmem, ⟨20, _⟩ => ⟨S1x1024x512, .bf16⟩
  | .local _ .vmem, ⟨21, _⟩ => ⟨S1x1024x512, .bf16⟩
  | .local _ .vmem, ⟨22, _⟩ => ⟨S1x512x1024, .f32⟩
  | .local _ .vmem, ⟨23, _⟩ => ⟨S1x512x1024, .f32⟩
  | .local _ .vmem, ⟨24, _⟩ => ⟨S1x1024x512, .f32⟩
  | .local _ .vmem, ⟨25, _⟩ => ⟨S1x1024x512, .f32⟩
  | .local _ .vmem, ⟨26, _⟩ => ⟨S1x512x1024, .f32⟩
  | .local _ .vmem, ⟨27, _⟩ => ⟨S1x512x1024, .f32⟩
  | .local _ .vmem, ⟨28, _⟩ => ⟨S1x512x128, .f32⟩
  | .local _ .vmem, ⟨29, _⟩ => ⟨S1x512x128, .f32⟩
  | .local _ .vmem, ⟨30, _⟩ => ⟨S1x128x2048, .f32⟩
  | .local _ .vmem, ⟨31, _⟩ => ⟨S1x2048, .f32⟩
  | .local _ .vmem, ⟨32, _⟩ => ⟨S1x128x2048, .f32⟩
  | .local _ .vmem, ⟨33, _⟩ => ⟨S1x128x2048, .f32⟩
  | .local _ .vmem, ⟨34, _⟩ => ⟨S1024x2048, .bf16⟩
  | .local _ .vmem, ⟨35, _⟩ => ⟨S2048x1024, .bf16⟩
  | .local _ .vmem, ⟨36, _⟩ => ⟨S1024x2048, .bf16⟩
  | .local _ .vmem, ⟨37, _⟩ => ⟨S2048x1024, .bf16⟩
  | .local _ .vmem, ⟨38, _⟩ => ⟨S2048x128, .bf16⟩
  | .local _ .vmem, ⟨39, _⟩ => ⟨S1x128, .f32⟩
  | .local _ .vmem, ⟨40, _⟩ => ⟨S1x1024x128, .bf16⟩
  | .local _ .vmem, ⟨41, _⟩ => ⟨S1x128x1024, .f32⟩
  | .local _ .vmem, ⟨42, _⟩ => ⟨S1x1024x128, .f32⟩
  | .local _ .vmem, ⟨43, _⟩ => ⟨S1x128x1024, .f32⟩
  | .local _ .vmem, ⟨44, _⟩ => ⟨S1x128x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67_0 : Ref sig .tc := ⟨.hbm, 83, rfl⟩
abbrev main_v67_1 : Ref sig .tc := ⟨.hbm, 84, rfl⟩
abbrev main_v67_2 : Ref sig .tc := ⟨.hbm, 85, rfl⟩
abbrev main_v67_3 : Ref sig .tc := ⟨.hbm, 86, rfl⟩
abbrev main_v67_4 : Ref sig .tc := ⟨.hbm, 87, rfl⟩
abbrev main_v68 : Ref sig .tc := ⟨.hbm, 88, rfl⟩
abbrev main_v69 : Ref sig .tc := ⟨.hbm, 89, rfl⟩
abbrev main_v70_0 : Ref sig .tc := ⟨.hbm, 90, rfl⟩
abbrev main_v70_1 : Ref sig .tc := ⟨.hbm, 91, rfl⟩
abbrev main_v70_2 : Ref sig .tc := ⟨.hbm, 92, rfl⟩
abbrev main_v70_3 : Ref sig .tc := ⟨.hbm, 93, rfl⟩
abbrev main_v70_4 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg14_0 : Ref sig .tc := ⟨.vmem, 44, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem11_0 : DmaSem sig := 41
abbrev cc2_sem12_0 : DmaSem sig := 42
abbrev cc2_sem13_0 : DmaSem sig := 43
abbrev cc2_sem14_0 : DmaSem sig := 44

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2048x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S2048x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1024x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1024x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S1x128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x128x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S1024x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S2048x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1024x2048 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S2048x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S2048x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x1024x128 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true, true]

abbrev stage2_11 : Fin 1 → Memref sig .tc .vmem S1x128x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true, true]

abbrev stage2_12 : Fin 1 → Memref sig .tc .vmem S1x1024x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![true, true]

abbrev stage2_13 : Fin 1 → Memref sig .tc .vmem S1x128x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![true, true]

abbrev stage2_14 : Fin 1 → Memref sig .tc .vmem S1x128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![true, true]
-- ==== Kernel2Ideal.lean ====
variable {F : FTy → Type} [FloatOps F] [Named F]
def κ : String → Option EReal := fun
  | "qscale" => some (((8 * (Real.log 2))⁻¹ : ℝ) : EReal)
  | _ => none
-- ==== Reference2Ideal.lean ====
abbrev S8x2048x2048 : Shape := ⟨3, ![8, 2048, 2048]⟩
abbrev S32x4x2048 : Shape := ⟨3, ![32, 4, 2048]⟩
abbrev S1x32x15x1024 : Shape := ⟨4, ![1, 32, 15, 1024]⟩
abbrev S8x2048 : Shape := ⟨2, ![8, 2048]⟩
abbrev S32x2048 : Shape := ⟨2, ![32, 2048]⟩
abbrev S1x2048x12288 : Shape := ⟨3, ![1, 2048, 12288]⟩
abbrev S1x12288 : Shape := ⟨2, ![1, 12288]⟩
abbrev S1x2048 : Shape := ⟨2, ![1, 2048]⟩
abbrev S1x2048x8208 : Shape := ⟨3, ![1, 2048, 8208]⟩
abbrev S1x16 : Shape := ⟨2, ![1, 16]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩
abbrev S8x1x12288 : Shape := ⟨3, ![8, 1, 12288]⟩
abbrev S8x1x2048 : Shape := ⟨3, ![8, 1, 2048]⟩
abbrev S2048 : Shape := ⟨1, ![2048]⟩
abbrev S8x2048x1 : Shape := ⟨3, ![8, 2048, 1]⟩
abbrev S1x1x2048 : Shape := ⟨3, ![1, 1, 2048]⟩
abbrev S2048x8208 : Shape := ⟨2, ![2048, 8208]⟩
abbrev S8x2048x8208 : Shape := ⟨3, ![8, 2048, 8208]⟩
abbrev S8x2048x1024 : Shape := ⟨3, ![8, 2048, 1024]⟩
abbrev S8x2048x16 : Shape := ⟨3, ![8, 2048, 16]⟩
abbrev S8x2048x16x64 : Shape := ⟨4, ![8, 2048, 16, 64]⟩
abbrev S16 : Shape := ⟨1, ![16]⟩
abbrev S1x1x16 : Shape := ⟨3, ![1, 1, 16]⟩
abbrev S32x12288 : Shape := ⟨2, ![32, 12288]⟩
abbrev S32x1x12288 : Shape := ⟨3, ![32, 1, 12288]⟩
abbrev S32x1x2048 : Shape := ⟨3, ![32, 1, 2048]⟩
abbrev S32x4 : Shape := ⟨2, ![32, 4]⟩
abbrev S32x4x1 : Shape := ⟨3, ![32, 4, 1]⟩
abbrev S32x4x8208 : Shape := ⟨3, ![32, 4, 8208]⟩
abbrev S32x4x1024 : Shape := ⟨3, ![32, 4, 1024]⟩
abbrev S32x4x16 : Shape := ⟨3, ![32, 4, 16]⟩
abbrev S32x4x16x64 : Shape := ⟨4, ![32, 4, 16, 64]⟩
abbrev S32x15x1024 : Shape := ⟨3, ![32, 15, 1024]⟩
abbrev S32x19x1024 : Shape := ⟨3, ![32, 19, 1024]⟩
abbrev S8x1024x2048 : Shape := ⟨3, ![8, 1024, 2048]⟩
abbrev S1x8x2048x16x64 : Shape := ⟨5, ![1, 8, 2048, 16, 64]⟩
abbrev S1x8x2048x16 : Shape := ⟨4, ![1, 8, 2048, 16]⟩
abbrev S8x15x1024 : Shape := ⟨3, ![8, 15, 1024]⟩
abbrev S1x8x15x1024 : Shape := ⟨4, ![1, 8, 15, 1024]⟩
abbrev S1x32x4x16x64 : Shape := ⟨5, ![1, 32, 4, 16, 64]⟩
abbrev S1x32x4x16 : Shape := ⟨4, ![1, 32, 4, 16]⟩

abbrev nBuf : Space → Nat
  | .hbm => 189
  | .vmem => 0
  | .smem => 0
  | _ => 0

abbrev hbmTy0_0 (i : Nat) : BufTy := match i % 128 with
  | 0 => ⟨S8x2048x2048, .f32⟩
  | 1 => ⟨S32x4x2048, .f32⟩
  | 2 => ⟨S1x32x15x1024, .f32⟩
  | 3 => ⟨S8x2048, .f32⟩
  | 4 => ⟨S32x2048, .f32⟩
  | 5 => ⟨S1x2048x12288, .f32⟩
  | 6 => ⟨S1x12288, .f32⟩
  | 7 => ⟨S1x2048, .f32⟩
  | 8 => ⟨S1x2048x8208, .f32⟩
  | 9 => ⟨S1x16, .f32⟩
  | 10 => ⟨S8x2048, .f32⟩
  | 11 => ⟨S8x2048, .f32⟩
  | 12 => ⟨S_, .f32⟩
  | 13 => ⟨S8x2048, .f32⟩
  | 14 => ⟨S8x2048, .f32⟩
  | 15 => ⟨S_, .f32⟩
  | 16 => ⟨S8x2048, .f32⟩
  | 17 => ⟨S8x2048, .f32⟩
  | 18 => ⟨S8x2048, .f32⟩
  | 19 => ⟨S2048x12288, .f32⟩
  | 20 => ⟨S8x12288, .f32⟩
  | 21 => ⟨S12288, .f32⟩
  | 22 => ⟨S1x12288, .f32⟩
  | 23 => ⟨S8x12288, .f32⟩
  | 24 => ⟨S8x12288, .f32⟩
  | 25 => ⟨S8x1x12288, .f32⟩
  | 26 => ⟨S8x1x2048, .f32⟩
  | 27 => ⟨S8x1x2048, .f32⟩
  | 28 => ⟨S8x1x2048, .f32⟩
  | 29 => ⟨S8x1x2048, .f32⟩
  | 30 => ⟨S8x1x2048, .f32⟩
  | 31 => ⟨S8x1x2048, .f32⟩
  | 32 => ⟨S2048, .f32⟩
  | 33 => ⟨S8x2048x2048, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S_, .f32⟩
  | 41 => ⟨S8x2048x1, .f32⟩
  | 42 => ⟨S8x2048x1, .f32⟩
  | 43 => ⟨S8x2048x1, .f32⟩
  | 44 => ⟨S8x2048x2048, .f32⟩
  | 45 => ⟨S8x2048x2048, .f32⟩
  | 46 => ⟨S1x1x2048, .f32⟩
  | 47 => ⟨S8x2048x2048, .f32⟩
  | 48 => ⟨S8x2048x2048, .f32⟩
  | 49 => ⟨S_, .f32⟩
  | 50 => ⟨S8x1x2048, .f32⟩
  | 51 => ⟨S8x1x2048, .f32⟩
  | 52 => ⟨S8x2048x2048, .f32⟩
  | 53 => ⟨S8x2048x2048, .f32⟩
  | 54 => ⟨S8x2048x2048, .f32⟩
  | 55 => ⟨S8x2048x2048, .f32⟩
  | 56 => ⟨S2048x8208, .f32⟩
  | 57 => ⟨S8x2048x8208, .f32⟩
  | 58 => ⟨S8x2048x1024, .f32⟩
  | 59 => ⟨S8x2048x1024, .f32⟩
  | 60 => ⟨S8x2048x1024, .f32⟩
  | 61 => ⟨S8x2048x16, .f32⟩
  | 62 => ⟨S8x2048x1024, .f32⟩
  | 63 => ⟨S8x2048x2048, .f32⟩
  | 64 => ⟨S8x2048x2048, .f32⟩
  | 65 => ⟨S8x2048x16x64, .f32⟩
  | 66 => ⟨S8x2048x16x64, .f32⟩
  | 67 => ⟨S16, .f32⟩
  | 68 => ⟨S1x1x16, .f32⟩
  | 69 => ⟨S8x2048x16, .f32⟩
  | 70 => ⟨S8x2048x16, .f32⟩
  | 71 => ⟨S8x2048x16, .f32⟩
  | 72 => ⟨S_, .f32⟩
  | 73 => ⟨S8x2048x16, .f32⟩
  | 74 => ⟨S8x2048x16, .f32⟩
  | 75 => ⟨S8x2048x16, .f32⟩
  | 76 => ⟨S8x2048x16, .f32⟩
  | 77 => ⟨S8x2048x16, .i1⟩
  | 78 => ⟨S8x2048x16, .f32⟩
  | 79 => ⟨S8x2048x16, .f32⟩
  | 80 => ⟨S8x2048x16, .f32⟩
  | 81 => ⟨S8x2048x16, .f32⟩
  | 82 => ⟨S8x2048x16, .f32⟩
  | 83 => ⟨S8x2048x16, .f32⟩
  | 84 => ⟨S8x2048x16, .f32⟩
  | 85 => ⟨S8x2048x16, .f32⟩
  | 86 => ⟨S8x2048x16, .f32⟩
  | 87 => ⟨S32x2048, .f32⟩
  | 88 => ⟨S32x2048, .f32⟩
  | 89 => ⟨S_, .f32⟩
  | 90 => ⟨S32x2048, .f32⟩
  | 91 => ⟨S32x2048, .f32⟩
  | 92 => ⟨S_, .f32⟩
  | 93 => ⟨S32x2048, .f32⟩
  | 94 => ⟨S32x2048, .f32⟩
  | 95 => ⟨S32x2048, .f32⟩
  | 96 => ⟨S2048x12288, .f32⟩
  | 97 => ⟨S32x12288, .f32⟩
  | 98 => ⟨S12288, .f32⟩
  | 99 => ⟨S1x12288, .f32⟩
  | 100 => ⟨S32x12288, .f32⟩
  | 101 => ⟨S32x12288, .f32⟩
  | 102 => ⟨S32x1x12288, .f32⟩
  | 103 => ⟨S32x1x2048, .f32⟩
  | 104 => ⟨S32x1x2048, .f32⟩
  | 105 => ⟨S32x1x2048, .f32⟩
  | 106 => ⟨S32x1x2048, .f32⟩
  | 107 => ⟨S32x1x2048, .f32⟩
  | 108 => ⟨S32x1x2048, .f32⟩
  | 109 => ⟨S2048, .f32⟩
  | 110 => ⟨S32x4x2048, .f32⟩
  | 111 => ⟨S_, .f32⟩
  | 112 => ⟨S32x4, .f32⟩
  | 113 => ⟨S32x4x1, .f32⟩
  | 114 => ⟨S_, .f32⟩
  | 115 => ⟨S32x4x1, .f32⟩
  | 116 => ⟨S32x4x1, .f32⟩
  | 117 => ⟨S_, .f32⟩
  | 118 => ⟨S32x4x1, .f32⟩
  | 119 => ⟨S32x4x1, .f32⟩
  | 120 => ⟨S32x4x1, .f32⟩
  | 121 => ⟨S32x4x2048, .f32⟩
  | 122 => ⟨S32x4x2048, .f32⟩
  | 123 => ⟨S1x1x2048, .f32⟩
  | 124 => ⟨S32x4x2048, .f32⟩
  | 125 => ⟨S32x4x2048, .f32⟩
  | 126 => ⟨S_, .f32⟩
  | 127 => ⟨S32x1x2048, .f32⟩
  | _ => ⟨S8x2048x2048, .f32⟩

abbrev hbmTy0_1 (i : Nat) : BufTy := match i % 128 with
  | 0 => ⟨S32x1x2048, .f32⟩
  | 1 => ⟨S32x4x2048, .f32⟩
  | 2 => ⟨S32x4x2048, .f32⟩
  | 3 => ⟨S32x4x2048, .f32⟩
  | 4 => ⟨S32x4x2048, .f32⟩
  | 5 => ⟨S2048x8208, .f32⟩
  | 6 => ⟨S32x4x8208, .f32⟩
  | 7 => ⟨S32x4x1024, .f32⟩
  | 8 => ⟨S32x4x1024, .f32⟩
  | 9 => ⟨S32x4x1024, .f32⟩
  | 10 => ⟨S32x4x16, .f32⟩
  | 11 => ⟨S32x4x1024, .f32⟩
  | 12 => ⟨S32x4x2048, .f32⟩
  | 13 => ⟨S32x4x2048, .f32⟩
  | 14 => ⟨S32x4x16x64, .f32⟩
  | 15 => ⟨S32x4x16x64, .f32⟩
  | 16 => ⟨S16, .f32⟩
  | 17 => ⟨S1x1x16, .f32⟩
  | 18 => ⟨S32x4x16, .f32⟩
  | 19 => ⟨S32x4x16, .f32⟩
  | 20 => ⟨S32x4x16, .f32⟩
  | 21 => ⟨S_, .f32⟩
  | 22 => ⟨S32x4x16, .f32⟩
  | 23 => ⟨S32x4x16, .f32⟩
  | 24 => ⟨S32x4x16, .f32⟩
  | 25 => ⟨S32x4x16, .f32⟩
  | 26 => ⟨S32x4x16, .i1⟩
  | 27 => ⟨S32x4x16, .f32⟩
  | 28 => ⟨S32x4x16, .f32⟩
  | 29 => ⟨S32x4x16, .f32⟩
  | 30 => ⟨S32x4x16, .f32⟩
  | 31 => ⟨S32x4x16, .f32⟩
  | 32 => ⟨S32x4x16, .f32⟩
  | 33 => ⟨S32x4x16, .f32⟩
  | 34 => ⟨S32x4x16, .f32⟩
  | 35 => ⟨S32x4x16, .f32⟩
  | 36 => ⟨S32x15x1024, .f32⟩
  | 37 => ⟨S32x19x1024, .f32⟩
  | 38 => ⟨S_, .f32⟩
  | 39 => ⟨S8x2048x1024, .f32⟩
  | 40 => ⟨S8x2048x1024, .f32⟩
  | 41 => ⟨S_, .f32⟩
  | 42 => ⟨S8x2048x1024, .f32⟩
  | 43 => ⟨S8x2048x1024, .f32⟩
  | 44 => ⟨S8x2048x1024, .f32⟩
  | 45 => ⟨S8x1024x2048, .f32⟩
  | 46 => ⟨S1x8x2048x16x64, .f32⟩
  | 47 => ⟨S1x8x2048x16x64, .f32⟩
  | 48 => ⟨S1x8x2048x16, .f32⟩
  | 49 => ⟨S8x15x1024, .f32⟩
  | 50 => ⟨S1x8x15x1024, .f32⟩
  | 51 => ⟨S1x32x4x16x64, .f32⟩
  | 52 => ⟨S1x32x4x16x64, .f32⟩
  | 53 => ⟨S1x32x4x16, .f32⟩
  | 54 => ⟨S32x15x1024, .f32⟩
  | 55 => ⟨S1x32x15x1024, .f32⟩
  | 56 => ⟨S8x1024x2048, .bf16⟩
  | 57 => ⟨S_, .f32⟩
  | 58 => ⟨S32x4x1024, .f32⟩
  | 59 => ⟨S32x4x1024, .f32⟩
  | 60 => ⟨S32x4x1024, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1 : Ref sig .tc := ⟨.hbm, 85, rfl⟩
abbrev main_v49 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_3 : Ref sig .tc := ⟨.hbm, 111, rfl⟩
abbrev main_v66 : Ref sig .tc := ⟨.hbm, 112, rfl⟩
abbrev main_v67 : Ref sig .tc := ⟨.hbm, 113, rfl⟩
abbrev main_cst_4 : Ref sig .tc := ⟨.hbm, 114, rfl⟩
abbrev main_v68 : Ref sig .tc := ⟨.hbm, 115, rfl⟩
abbrev main_v69 : Ref sig .tc := ⟨.hbm, 116, rfl⟩
abbrev main_cst_5 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_6 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_call3_v0 : Ref sig .tc := ⟨.hbm, 148, rfl⟩
abbrev main_call3_call0_cst : Ref sig .tc := ⟨.hbm, 149, rfl⟩
abbrev main_call3_call0_v0 : Ref sig .tc := ⟨.hbm, 150, rfl⟩
abbrev main_call3_call0_v1 : Ref sig .tc := ⟨.hbm, 151, rfl⟩
abbrev main_call3_call0_v2 : Ref sig .tc := ⟨.hbm, 152, rfl⟩
abbrev main_call3_call0_v3 : Ref sig .tc := ⟨.hbm, 153, rfl⟩
abbrev main_call3_call0_v4 : Ref sig .tc := ⟨.hbm, 154, rfl⟩
abbrev main_call3_call0_v5 : Ref sig .tc := ⟨.hbm, 155, rfl⟩
abbrev main_call3_call0_v6 : Ref sig .tc := ⟨.hbm, 156, rfl⟩
abbrev main_call3_call0_v7 : Ref sig .tc := ⟨.hbm, 157, rfl⟩
abbrev main_call3_call0_v8 : Ref sig .tc := ⟨.hbm, 158, rfl⟩
abbrev main_call3_call0_v9 : Ref sig .tc := ⟨.hbm, 159, rfl⟩
abbrev main_call3_call0_v10 : Ref sig .tc := ⟨.hbm, 160, rfl⟩
abbrev main_call3_call0_v11 : Ref sig .tc := ⟨.hbm, 161, rfl⟩
abbrev main_call3_v1 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_7 : Ref sig .tc := ⟨.hbm, 166, rfl⟩
abbrev main_v102 : Ref sig .tc := ⟨.hbm, 167, rfl⟩
abbrev main_v103 : Ref sig .tc := ⟨.hbm, 168, rfl⟩
abbrev main_cst_8 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_9 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩

abbrev nD : Nat := 1
abbrev τ : Topo := Topo.v7x

variable {F : FTy → Type} [FloatOps F]
-- ==== Kernel3.lean ====
abbrev S8x2048x2048 : Shape := ⟨3, ![8, 2048, 2048]⟩
abbrev S8x1x2048 : Shape := ⟨3, ![8, 1, 2048]⟩
abbrev S8x2048x1024 : Shape := ⟨3, ![8, 2048, 1024]⟩
abbrev S1x2048 : Shape := ⟨2, ![1, 2048]⟩
abbrev S1x2048x8208 : Shape := ⟨3, ![1, 2048, 8208]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S2048x8208 : Shape := ⟨2, ![2048, 8208]⟩
abbrev S2048x4096 : Shape := ⟨2, ![2048, 4096]⟩
abbrev S2048x2048 : Shape := ⟨2, ![2048, 2048]⟩
abbrev S4x256x256 : Shape := ⟨3, ![4, 256, 256]⟩
abbrev S1024x2048 : Shape := ⟨2, ![1024, 2048]⟩
abbrev S2048 : Shape := ⟨1, ![2048]⟩
abbrev S1024 : Shape := ⟨1, ![1024]⟩
abbrev S1x256x2048 : Shape := ⟨3, ![1, 256, 2048]⟩
abbrev S1x1x2048 : Shape := ⟨3, ![1, 1, 2048]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 32
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S8x1x2048, .f32⟩
  | .hbm, ⟨2, _⟩ => ⟨S8x1x2048, .f32⟩
  | .hbm, ⟨3, _⟩ => ⟨S8x1x2048, .f32⟩
  | .hbm, ⟨4, _⟩ => ⟨S8x2048x1024, .bf16⟩
  | .hbm, ⟨5, _⟩ => ⟨S8x2048x1024, .bf16⟩
  | .hbm, ⟨6, _⟩ => ⟨S1x2048, .f32⟩
  | .hbm, ⟨7, _⟩ => ⟨S1x2048x8208, .f32⟩
  | .hbm, ⟨8, _⟩ => ⟨S1x4x256x256, .f32⟩
  | .hbm, ⟨9, _⟩ => ⟨S1x1024, .f32⟩
  | .hbm, ⟨10, _⟩ => ⟨S1x1024x2048, .f32⟩
  | .hbm, ⟨11, _⟩ => ⟨S1x1024x2048, .f32⟩
  | .hbm, ⟨12, _⟩ => ⟨S1x2048x2048, .f32⟩
  | .hbm, ⟨13, _⟩ => ⟨S2048x8208, .f32⟩
  | .hbm, ⟨14, _⟩ => ⟨S2048x4096, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | .hbm, ⟨19, _⟩ => ⟨S4x256x256, .f32⟩
  | .hbm, ⟨20, _⟩ => ⟨S4x256x256, .bf16⟩
  | .hbm, ⟨21, _⟩ => ⟨S1024x2048, .f32⟩
  | .hbm, ⟨22, _⟩ => ⟨S1024x2048, .bf16⟩
  | .hbm, ⟨23, _⟩ => ⟨S1024x2048, .f32⟩
  | .hbm, ⟨24, _⟩ => ⟨S1024x2048, .bf16⟩
  | .hbm, ⟨25, _⟩ => ⟨S2048x2048, .f32⟩
  | .hbm, ⟨26, _⟩ => ⟨S2048x2048, .bf16⟩
  | .hbm, ⟨27, _⟩ => ⟨S2048, .f32⟩
  | .hbm, ⟨28, _⟩ => ⟨S1x2048, .f32⟩
  | .hbm, ⟨29, _⟩ => ⟨S1024, .f32⟩
  | .hbm, ⟨30, _⟩ => ⟨S1x1024, .f32⟩
  | .hbm, ⟨31, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S4x256x256, .bf16⟩
  | .local _ .vmem, ⟨14, _⟩ => ⟨S1x1024, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S2048x2048, .bf16⟩
  | .local _ .vmem, ⟨19, _⟩ => ⟨S2048x2048, .bf16⟩
  | .local _ .vmem, ⟨20, _⟩ => ⟨S1x256x2048, .f32⟩
  | .local _ .vmem, ⟨21, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x2048x2048 : Shape := ⟨3, ![8, 2048, 2048]⟩
abbrev S8x1x2048 : Shape := ⟨3, ![8, 1, 2048]⟩
abbrev S8x2048x1024 : Shape := ⟨3, ![8, 2048, 1024]⟩
abbrev S1x2048 : Shape := ⟨2, ![1, 2048]⟩
abbrev S1x2048x8208 : Shape := ⟨3, ![1, 2048, 8208]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x8208 : Shape := ⟨2, ![2048, 8208]⟩
abbrev S8x2048x8208 : Shape := ⟨3, ![8, 2048, 8208]⟩
abbrev S8x2048x4096 : Shape := ⟨3, ![8, 2048, 4096]⟩
abbrev S8x2048x4x256 : Shape := ⟨4, ![8, 2048, 4, 256]⟩
abbrev S4x256x256 : Shape := ⟨3, ![4, 256, 256]⟩
abbrev S4x256x8x2048 : Shape := ⟨4, ![4, 256, 8, 2048]⟩
abbrev S1024 : Shape := ⟨1, ![1024]⟩
abbrev S1x1x1024 : Shape := ⟨3, ![1, 1, 1024]⟩
abbrev S1024x2048 : Shape := ⟨2, ![1024, 2048]⟩
abbrev S2048x2048 : Shape := ⟨2, ![2048, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x2048, .f32⟩
  | .hbm, ⟨2, _⟩ => ⟨S8x1x2048, .f32⟩
  | .hbm, ⟨3, _⟩ => ⟨S8x1x2048, .f32⟩
  | .hbm, ⟨4, _⟩ => ⟨S8x2048x1024, .bf16⟩
  | .hbm, ⟨5, _⟩ => ⟨S8x2048x1024, .bf16⟩
  | .hbm, ⟨6, _⟩ => ⟨S1x2048, .f32⟩
  | .hbm, ⟨7, _⟩ => ⟨S1x2048x8208, .f32⟩
  | .hbm, ⟨8, _⟩ => ⟨S1x4x256x256, .f32⟩
  | .hbm, ⟨9, _⟩ => ⟨S1x1024, .f32⟩
  | .hbm, ⟨10, _⟩ => ⟨S1x1024x2048, .f32⟩
  | .hbm, ⟨11, _⟩ => ⟨S1x1024x2048, .f32⟩
  | .hbm, ⟨12, _⟩ => ⟨S1x2048x2048, .f32⟩
  | .hbm, ⟨13, _⟩ => ⟨S2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S2048x8208, .f32⟩
  | .hbm, ⟨38, _⟩ => ⟨S8x2048x8208, .f32⟩
  | .hbm, ⟨39, _⟩ => ⟨S8x2048x4096, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | .hbm, ⟨43, _⟩ => ⟨S8x2048x4x256, .f32⟩
  | .hbm, ⟨44, _⟩ => ⟨S4x256x256, .f32⟩
  | .hbm, ⟨45, _⟩ => ⟨S4x256x8x2048, .f32⟩
  | .hbm, ⟨46, _⟩ => ⟨S8x2048x4x256, .f32⟩
  | .hbm, ⟨47, _⟩ => ⟨S8x2048x1024, .f32⟩
  | .hbm, ⟨48, _⟩ => ⟨S1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x1024, .f32⟩
  | .hbm, ⟨61, _⟩ => ⟨S1024x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S1024x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S2048x2048, .f32⟩
  | .hbm, ⟨77, _⟩ => ⟨S8x2048x2048, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel4.lean ====
abbrev S8x2048x2048 : Shape := ⟨3, ![8, 2048, 2048]⟩
abbrev S8x16512x2048 : Shape := ⟨3, ![8, 16512, 2048]⟩
abbrev S16512x8 : Shape := ⟨2, ![16512, 8]⟩
abbrev S8x1x2048 : Shape := ⟨3, ![8, 1, 2048]⟩
abbrev S1x2048x512 : Shape := ⟨3, ![1, 2048, 512]⟩
abbrev S1x512x2048 : Shape := ⟨3, ![1, 512, 2048]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S1x256x2048 : Shape := ⟨3, ![1, 256, 2048]⟩
abbrev S8x256x2048 : Shape := ⟨3, ![8, 256, 2048]⟩
abbrev S256x8 : Shape := ⟨2, ![256, 8]⟩
abbrev S1x1x2048 : Shape := ⟨3, ![1, 1, 2048]⟩
abbrev S256x2048 : Shape := ⟨2, ![256, 2048]⟩
abbrev S256x512 : Shape := ⟨2, ![256, 512]⟩
abbrev S256x1 : Shape := ⟨2, ![256, 1]⟩
abbrev S256 : Shape := ⟨1, ![256]⟩

abbrev nBuf : Space → Nat
  | .hbm => 17
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S8x16512x2048, .bf16⟩
  | .hbm, ⟨3, _⟩ => ⟨S16512x8, .f32⟩
  | .hbm, ⟨4, _⟩ => ⟨S8x1x2048, .f32⟩
  | .hbm, ⟨5, _⟩ => ⟨S1x2048x512, .f32⟩
  | .hbm, ⟨6, _⟩ => ⟨S1x2048x512, .f32⟩
  | .hbm, ⟨7, _⟩ => ⟨S1x512x2048, .f32⟩
  | .hbm, ⟨8, _⟩ => ⟨S2048, .f32⟩
  | .hbm, ⟨9, _⟩ => ⟨S2048x512, .f32⟩
  | .hbm, ⟨10, _⟩ => ⟨S2048x512, .bf16⟩
  | .hbm, ⟨11, _⟩ => ⟨S2048x512, .f32⟩
  | .hbm, ⟨12, _⟩ => ⟨S2048x512, .bf16⟩
  | .hbm, ⟨13, _⟩ => ⟨S512x2048, .f32⟩
  | .hbm, ⟨14, _⟩ => ⟨S512x2048, .bf16⟩
  | .hbm, ⟨15, _⟩ => ⟨S1x2048, .f32⟩
  | .hbm, ⟨16, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S8x256x2048, .bf16⟩
  | .local _ .vmem, ⟨5, _⟩ => ⟨S8x256x2048, .bf16⟩
  | .local _ .vmem, ⟨6, _⟩ => ⟨S256x8, .f32⟩
  | .local _ .vmem, ⟨7, _⟩ => ⟨S256x8, .f32⟩
  | .local _ .vmem, ⟨8, _⟩ => ⟨S1x1x2048, .f32⟩
  | .local _ .vmem, ⟨9, _⟩ => ⟨S1x1x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S1x2048, .f32⟩
  | .local _ .vmem, ⟨14, _⟩ => ⟨S1x256x2048, .f32⟩
  | .local _ .vmem, ⟨15, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x2048x2048 : Shape := ⟨3, ![8, 2048, 2048]⟩
abbrev S8x16512x2048 : Shape := ⟨3, ![8, 16512, 2048]⟩
abbrev S16512x8 : Shape := ⟨2, ![16512, 8]⟩
abbrev S8x1x2048 : Shape := ⟨3, ![8, 1, 2048]⟩
abbrev S1x2048x512 : Shape := ⟨3, ![1, 2048, 512]⟩
abbrev S1x512x2048 : Shape := ⟨3, ![1, 512, 2048]⟩
abbrev S2048 : Shape := ⟨1, ![2048]⟩
abbrev S16384x2048 : Shape := ⟨2, ![16384, 2048]⟩
abbrev S8x16384x2048 : Shape := ⟨3, ![8, 16384, 2048]⟩
abbrev S16384x8 : Shape := ⟨2, ![16384, 8]⟩
abbrev S8x16384 : Shape := ⟨2, ![8, 16384]⟩
abbrev S8x16384x1 : Shape := ⟨3, ![8, 16384, 1]⟩
abbrev S2048x512 : Shape := ⟨2, ![2048, 512]⟩
abbrev S512x2048 : Shape := ⟨2, ![512, 2048]⟩
abbrev S16384x512 : Shape := ⟨2, ![16384, 512]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S8x16512x2048, .bf16⟩
  | .hbm, ⟨3, _⟩ => ⟨S16512x8, .f32⟩
  | .hbm, ⟨4, _⟩ => ⟨S8x1x2048, .f32⟩
  | .hbm, ⟨5, _⟩ => ⟨S1x2048x512, .f32⟩
  | .hbm, ⟨6, _⟩ => ⟨S1x2048x512, .f32⟩
  | .hbm, ⟨7, _⟩ => ⟨S1x512x2048, .f32⟩
  | .hbm, ⟨8, _⟩ => ⟨S2048, .f32⟩
  | .hbm, ⟨9, _⟩ => ⟨S8x2048x2048, .f32⟩
  | .hbm, ⟨10, _⟩ => ⟨S16384x2048, .f32⟩
  | .hbm, ⟨11, _⟩ => ⟨S8x16384x2048, .bf16⟩
  | .hbm, ⟨12, _⟩ => ⟨S8x16384x2048, .f32⟩
  | .hbm, ⟨13, _⟩ => ⟨S16384x8, .f32⟩
  | .hbm, ⟨14, _⟩ => ⟨S8x16384, .f32⟩
  | .hbm, ⟨15, _⟩ => ⟨S8x16384x1, .f32⟩
  | .hbm, ⟨16, _⟩ => ⟨S8x16384x2048, .f32⟩
  | .hbm, ⟨17, _⟩ => ⟨S8x16384x2048, .f32⟩
  | .hbm, ⟨18, _⟩ => ⟨S2048x512, .f32⟩
  | .hbm, ⟨19, _⟩ => ⟨S2048x512, .f32⟩
  | .hbm, ⟨20, _⟩ => ⟨S512x2048, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S1x1x2048, .f32⟩
  | .hbm, ⟨55, _⟩ => ⟨S8x2048x2048, .f32⟩
  | .hbm, ⟨56, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel5.lean ====
abbrev S164864x2048 : Shape := ⟨2, ![164864, 2048]⟩
abbrev S164864x1 : Shape := ⟨2, ![164864, 1]⟩
abbrev S1288 : Shape := ⟨1, ![1288]⟩
abbrev S1 : Shape := ⟨1, ![1]⟩
abbrev S256x2048x512 : Shape := ⟨3, ![256, 2048, 512]⟩
abbrev S256x512x2048 : Shape := ⟨3, ![256, 512, 2048]⟩
abbrev S128x2048 : Shape := ⟨2, ![128, 2048]⟩
abbrev S128x1 : Shape := ⟨2, ![128, 1]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S128x512 : Shape := ⟨2, ![128, 512]⟩

abbrev nBuf : Space → Nat
  | .hbm => 6
  | .vmem => 15
  | .smem => 2
  | _ => 0

abbrev bufTy : (tb : Table) → Fin (tcTables nBuf tb) → BufTy
  | .hbm, ⟨0, _⟩ => ⟨S164864x2048, .bf16⟩
  | .hbm, ⟨1, _⟩ => ⟨S164864x1, .f32⟩
  | .hbm, ⟨2, _⟩ => ⟨S256x2048x512, .f32⟩
  | .hbm, ⟨3, _⟩ => ⟨S256x2048x512, .f32⟩
  | .hbm, ⟨4, _⟩ => ⟨S256x512x2048, .f32⟩
  | .hbm, ⟨5, _⟩ => ⟨S164864x2048, .f32⟩
  | .local _ .vmem, ⟨0, _⟩ => ⟨S128x2048, .bf16⟩
  | .local _ .vmem, ⟨1, _⟩ => ⟨S128x2048, .bf16⟩
  | .local _ .vmem, ⟨2, _⟩ => ⟨S128x1, .f32⟩
  | .local _ .vmem, ⟨3, _⟩ => ⟨S128x1, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x512x2048, .f32⟩
  | .local _ .vmem, ⟨9, _⟩ => ⟨S1x512x2048, .f32⟩
  | .local _ .vmem, ⟨10, _⟩ => ⟨S128x2048, .f32⟩
  | .local _ .vmem, ⟨11, _⟩ => ⟨S128x2048, .f32⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .smem, ⟨0, _⟩ => ⟨S1288, .i32⟩
  | .local _ .smem, ⟨1, _⟩ => ⟨S1, .i32⟩
  | _, _ => ⟨S164864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![1288], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S1288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S164864x2048 : Shape := ⟨2, ![164864, 2048]⟩
abbrev S164864x1 : Shape := ⟨2, ![164864, 1]⟩
abbrev S1288 : Shape := ⟨1, ![1288]⟩
abbrev S1 : Shape := ⟨1, ![1]⟩
abbrev S256x2048x512 : Shape := ⟨3, ![256, 2048, 512]⟩
abbrev S256x512x2048 : Shape := ⟨3, ![256, 512, 2048]⟩
abbrev S1288x128x2048 : Shape := ⟨3, ![1288, 128, 2048]⟩
abbrev S1288x128 : Shape := ⟨2, ![1288, 128]⟩
abbrev S_ : Shape := ⟨0, ![]⟩
abbrev S1288x1 : Shape := ⟨2, ![1288, 1]⟩
abbrev S1288x2048x512 : Shape := ⟨3, ![1288, 2048, 512]⟩
abbrev S1288x512x2048 : Shape := ⟨3, ![1288, 512, 2048]⟩
abbrev S1288x128x512 : Shape := ⟨3, ![1288, 128, 512]⟩
abbrev S1288x128x1 : Shape := ⟨3, ![1288, 128, 1]⟩

abbrev nBuf : Space → Nat
  | .hbm => 54
  | .vmem => 0
  | .smem => 0
  | _ => 0

abbrev bufTy : (tb : Table) → Fin (tcTables nBuf tb) → BufTy
  | .hbm, ⟨0, _⟩ => ⟨S164864x2048, .bf16⟩
  | .hbm, ⟨1, _⟩ => ⟨S164864x1, .f32⟩
  | .hbm, ⟨2, _⟩ => ⟨S1288, .i32⟩
  | .hbm, ⟨3, _⟩ => ⟨S1, .i32⟩
  | .hbm, ⟨4, _⟩ => ⟨S256x2048x512, .f32⟩
  | .hbm, ⟨5, _⟩ => ⟨S256x2048x512, .f32⟩
  | .hbm, ⟨6, _⟩ => ⟨S256x512x2048, .f32⟩
  | .hbm, ⟨7, _⟩ => ⟨S164864x2048, .f32⟩
  | .hbm, ⟨8, _⟩ => ⟨S1288x128x2048, .f32⟩
  | .hbm, ⟨9, _⟩ => ⟨S1288x128, .f32⟩
  | .hbm, ⟨10, _⟩ => ⟨S_, .i32⟩
  | .hbm, ⟨11, _⟩ => ⟨S1288, .i32⟩
  | .hbm, ⟨12, _⟩ => ⟨S1288, .i1⟩
  | .hbm, ⟨13, _⟩ => ⟨S_, .i32⟩
  | .hbm, ⟨14, _⟩ => ⟨S1288, .i32⟩
  | .hbm, ⟨15, _⟩ => ⟨S1288, .i32⟩
  | .hbm, ⟨16, _⟩ => ⟨S1288, .i32⟩
  | .hbm, ⟨17, _⟩ => ⟨S1288x1, .i32⟩
  | .hbm, ⟨18, _⟩ => ⟨S1288x2048x512, .f32⟩
  | .hbm, ⟨19, _⟩ => ⟨S_, .i32⟩
  | .hbm, ⟨20, _⟩ => ⟨S1288, .i32⟩
  | .hbm, ⟨21, _⟩ => ⟨S1288, .i1⟩
  | .hbm, ⟨22, _⟩ => ⟨S_, .i32⟩
  | .hbm, ⟨23, _⟩ => ⟨S1288, .i32⟩
  | .hbm, ⟨24, _⟩ => ⟨S1288, .i32⟩
  | .hbm, ⟨25, _⟩ => ⟨S1288, .i32⟩
  | .hbm, ⟨26, _⟩ => ⟨S1288x1, .i32⟩
  | .hbm, ⟨27, _⟩ => ⟨S1288x2048x512, .f32⟩
  | .hbm, ⟨28, _⟩ => ⟨S_, .i32⟩
  | .hbm, ⟨29, _⟩ => ⟨S1288, .i32⟩
  | .hbm, ⟨30, _⟩ => ⟨S1288, .i1⟩
  | .hbm, ⟨31, _⟩ => ⟨S_, .i32⟩
  | .hbm, ⟨32, _⟩ => ⟨S1288, .i32⟩
  | .hbm, ⟨33, _⟩ => ⟨S1288, .i32⟩
  | .hbm, ⟨34, _⟩ => ⟨S1288, .i32⟩
  | .hbm, ⟨35, _⟩ => ⟨S1288x1, .i32⟩
  | .hbm, ⟨36, _⟩ => ⟨S1288x512x2048, .f32⟩
  | .hbm, ⟨37, _⟩ => ⟨S1288x128x512, .f32⟩
  | .hbm, ⟨38, _⟩ => ⟨S1288x128x512, .f32⟩
  | .hbm, ⟨39, _⟩ => ⟨S1288x128x512, .f32⟩
  | .hbm, ⟨40, _⟩ => ⟨S_, .f32⟩
  | .hbm, ⟨41, _⟩ => ⟨S1288x128x512, .f32⟩
  | .hbm, ⟨42, _⟩ => ⟨S1288x128x512, .f32⟩
  | .hbm, ⟨43, _⟩ => ⟨S_, .f32⟩
  | .hbm, ⟨44, _⟩ => ⟨S1288x128x512, .f32⟩
  | .hbm, ⟨45, _⟩ => ⟨S1288x128x512, .f32⟩
  | .hbm, ⟨46, _⟩ => ⟨S1288x128x512, .f32⟩
  | .hbm, ⟨47, _⟩ => ⟨S1288x128x512, .f32⟩
  | .hbm, ⟨48, _⟩ => ⟨S1288x128x512, .f32⟩
  | .hbm, ⟨49, _⟩ => ⟨S1288x128x2048, .f32⟩
  | .hbm, ⟨50, _⟩ => ⟨S1288x128x1, .f32⟩
  | .hbm, ⟨51, _⟩ => ⟨S1288x128x2048, .f32⟩
  | .hbm, ⟨52, _⟩ => ⟨S1288x128x2048, .f32⟩
  | .hbm, ⟨53, _⟩ => ⟨S164864x2048, .f32⟩
  | _, _ => ⟨S164864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Proof.Finite.lean ====
/- What the precondition gives: every argument element is a real number. -/
module

public import proofs.«01_k».proof.Defs
public import proofs.«01_k».proof.Proof.Gen.Pre_finite
public import Idealize.ShloMosaic.Lib.ReduceAll
public import Idealize.ShloMosaic.Lib.Pipeline.ValueKit

@[expose] public section

set_option maxRecDepth 16384

noncomputable section

namespace Cert.Attn

open Idealize.ShloMosaic

instance scalar_sub : Subsingleton Cert.Pre_finite.S_.Idx := ⟨fun a b => funext fun i => Fin.elim0 i⟩

/-- An extended real whose absolute value is below the largest is a real number. -/
theorem real_of_lt {x : EReal} (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hlt : max x (-x) < ⊤ := by
    by_contra hn
    have : Ideal.cmp .olt (max x (-x)) ⊤ = 0#1 := by
      show BitVec.ofBool (decide _) = _
      rw [decide_eq_false hn]; rfl
    rw [this] at h
    exact absurd h (by decide)
  rw [max_lt_iff] at hlt
  refine (EReal.coe_toReal hlt.1.ne ?_).symm
  rintro rfl
  exact absurd hlt.2 (by simp)

theorem finite_args (q k v : FVec Ideal Cert.Pre_finite.S8x2048x16x64 .f32) (f : FVec Ideal Cert.Pre_finite.S8x2048x16 .f32)
    (h : Cert.Pre_finite.fn (F := Ideal) q k v f = fun _ => 1#1) :
    (∀ i, q i = (((q i).toReal : ℝ) : EReal)) ∧ (∀ i, k i = (((k i).toReal : ℝ) : EReal)) ∧ (∀ i, v i = (((v i).toReal : ℝ) : EReal))
      ∧ ∀ i, f i = (((f i).toReal : ℝ) : EReal) := by
  have h0 := congrFun h (fun i => Fin.elim0 i)
  dsimp only [Cert.Pre_finite.fn, Cert.Pre_finite.fn_part1] at h0
  obtain ⟨h1, hf⟩ := IntOp.andi_eq_one.1 h0
  obtain ⟨h2, hv⟩ := IntOp.andi_eq_one.1 h1
  obtain ⟨hq, hk⟩ := IntOp.andi_eq_one.1 h2
  exact ⟨fun i => real_of_lt (Host.reduce_andi_all _ _ _ _ _ hq i), fun i => real_of_lt (Host.reduce_andi_all _ _ _ _ _ hk i),
    fun i => real_of_lt (Host.reduce_andi_all _ _ _ _ _ hv i), fun i => real_of_lt (Host.reduce_andi_all _ _ _ _ _ hf i)⟩

end Cert.Attn
end
-- ==== Proof.Softmax.lean ====
/- The online softmax, one lane at a time, over the extended reals: what one tile does to a running maximum and a running
   weighted sum, and that the quotient of two such sums is the plain quotient of weighted sums. -/
module

public import Idealize.ShloMosaic.PureOps.Ideal
public import Idealize.ShloMosaic.Lib.WordCmp

@[expose] public section

noncomputable section

namespace Cert.Attn

open Idealize.ShloMosaic

theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  by_cases h : a ≤ b
  · rw [if_pos h, (WordCmp.cmpi_sle_ofNat_eq_one_iff (w := 32) ha hb).mpr h]; rfl
  · rw [if_neg h, (WordCmp.cmpi_sle_ofNat_eq_zero_iff (w := 32) ha hb).mpr h]; rfl

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  by_cases h : a < b
  · rw [if_pos h, (WordCmp.cmpi_slt_ofNat_eq_one_iff (w := 32) ha hb).mpr h]; rfl
  · rw [if_neg h, (WordCmp.cmpi_slt_ofNat_eq_zero_iff (w := 32) ha hb).mpr h]; rfl

/-- The running maximum after a tile of scores. -/
def mNew {n : ℕ} (m : EReal) (X : Fin n → EReal) : EReal := max m (Finset.univ.fold max ⊥ X)

/-- The running weighted sum after a tile of scores `X` and values `V`. -/
def aNew {n : ℕ} (m a : EReal) (V X : Fin n → EReal) : EReal :=
  a * Ideal.exp2 (m - mNew m X) + ∑ s, V s * Ideal.exp2 (X s - mNew m X)

/-- A lane's state: nothing seen yet, or a real maximum `M` and the sum `A` scaled by `2 ^ (-M)`. -/
def St (m a : EReal) (A : ℝ) : Prop :=
  (m = ⊥ ∧ a = 0 ∧ A = 0) ∨ ∃ M : ℝ, m = (M : EReal) ∧ a = ((A * (2 : ℝ) ^ (-M) : ℝ) : EReal)

/-- The weighted sum one tile contributes: over the keys `P` admits. -/
def part {n : ℕ} (P : Fin n → Prop) [DecidablePred P] (x w : Fin n → ℝ) : ℝ :=
  ∑ s, if P s then (2 : ℝ) ^ x s * w s else 0

theorem fold_real {n : ℕ} (P : Fin n → Prop) [DecidablePred P] (x : Fin n → ℝ) (X : Fin n → EReal)
    (hX : ∀ s, X s = if P s then (x s : EReal) else ⊥) (hP : ∃ s, P s) :
    ∃ M : ℝ, Finset.univ.fold max ⊥ X = (M : EReal) := by
  obtain ⟨s0, h0⟩ := hP
  have h1 : Finset.univ.fold max ⊥ X ≠ ⊥ := by
    have : (x s0 : EReal) ≤ Finset.univ.fold max ⊥ X := by
      rw [Finset.le_fold_max]
      exact .inr ⟨s0, Finset.mem_univ _, by rw [hX, if_pos h0]⟩
    exact fun h => by rw [h] at this; exact absurd (le_bot_iff.mp this) (EReal.coe_ne_bot _)
  have h2 : Finset.univ.fold max ⊥ X ≠ ⊤ := by
    refine ne_of_lt ?_
    rw [Finset.fold_max_lt]
    refine ⟨bot_lt_top, fun s _ => ?_⟩
    rw [hX]; split
    · exact EReal.coe_lt_top _
    · exact bot_lt_top
  exact ⟨_, (EReal.coe_toReal h2 h1).symm⟩

theorem mNew_real {n : ℕ} {m a : EReal} {A : ℝ} (h : St m a A) (P : Fin n → Prop) [DecidablePred P] (x : Fin n → ℝ)
    (X : Fin n → EReal) (hX : ∀ s, X s = if P s then (x s : EReal) else ⊥) (hP : ∃ s, P s) :
    ∃ M : ℝ, mNew m X = (M : EReal) := by
  obtain ⟨M, hM⟩ := fold_real P x X hX hP
  unfold mNew
  rw [hM]
  rcases h with ⟨rfl, -, -⟩ | ⟨M0, rfl, -⟩
  · exact ⟨M, max_eq_right bot_le⟩
  · exact ⟨max M0 M, (EReal.coe_strictMono.monotone.map_max).symm⟩

theorem sum_coe {n : ℕ} (f : Fin n → ℝ) : ∑ s, ((f s : ℝ) : EReal) = ((∑ s, f s : ℝ) : EReal) := by
  induction n with
  | zero => simp
  | succ n ih => rw [Fin.sum_univ_succ, Fin.sum_univ_succ, ih, EReal.coe_add]

/-- One tile, its scores real where `P` holds and `-∞` elsewhere, at least one key admitted. -/
theorem St.step {n : ℕ} {m a : EReal} {A : ℝ} (h : St m a A) (P : Fin n → Prop) [DecidablePred P] (x w : Fin n → ℝ)
    (X V : Fin n → EReal) (hX : ∀ s, X s = if P s then (x s : EReal) else ⊥) (hV : ∀ s, V s = (w s : EReal))
    (hP : ∃ s, P s) :
    ∃ M : ℝ, mNew m X = (M : EReal) ∧ aNew m a V X = (((A + part P x w) * (2 : ℝ) ^ (-M) : ℝ) : EReal) := by
  obtain ⟨M, hM⟩ := mNew_real h P x X hX hP
  refine ⟨M, hM, ?_⟩
  unfold aNew
  rw [hM]
  have h1 : ∀ s, V s * Ideal.exp2 (X s - (M : EReal))
      = (((if P s then (2 : ℝ) ^ x s * w s else 0) * (2 : ℝ) ^ (-M) : ℝ) : EReal) := fun s => by
    rw [hX, hV]
    split
    · rw [← EReal.coe_sub, Ideal.exp2_coe, ← EReal.coe_mul]
      congr 1
      show w s * (2 : ℝ) ^ (x s - M) = _
      rw [sub_eq_add_neg, Real.rpow_add two_pos]; ring
    · rw [EReal.bot_sub, Ideal.exp2_bot, mul_zero, zero_mul, EReal.coe_zero]
  rw [Finset.sum_congr rfl fun s _ => h1 s, sum_coe, ← Finset.sum_mul]
  rcases h with ⟨rfl, rfl, rfl⟩ | ⟨M0, rfl, rfl⟩
  · rw [zero_mul, zero_add, zero_add]; rfl
  · rw [← EReal.coe_sub, Ideal.exp2_coe, ← EReal.coe_mul, ← EReal.coe_add]
    congr 1
    have e : A * (2 : ℝ) ^ (-M0) * Real.rpow 2 (M0 - M) = A * (2 : ℝ) ^ (-M) := by
      show A * (2 : ℝ) ^ (-M0) * (2 : ℝ) ^ (M0 - M) = _
      rw [mul_assoc, ← Real.rpow_add two_pos]; congr 2; ring
    rw [e, add_mul]; rfl

theorem St.next {n : ℕ} {m a : EReal} {A : ℝ} (h : St m a A) (P : Fin n → Prop) [DecidablePred P] (x w : Fin n → ℝ)
    (X V : Fin n → EReal) (hX : ∀ s, X s = if P s then (x s : EReal) else ⊥) (hV : ∀ s, V s = (w s : EReal))
    (hP : ∃ s, P s) : St (mNew m X) (aNew m a V X) (A + part P x w) := by
  obtain ⟨M, h1, h2⟩ := h.step P x w X V hX hV hP
  exact .inr ⟨M, h1, h2⟩

theorem St.init : St ⊥ 0 0 := .inl ⟨rfl, rfl, rfl⟩

/-- The quotient of two weighted sums carried under one maximum. -/
theorem div_lane {A B M : ℝ} (hA : A ≠ 0) :
    Ideal.div ((B * (2 : ℝ) ^ (-M) : ℝ) : EReal) ((A * (2 : ℝ) ^ (-M) : ℝ) : EReal) = ((B / A : ℝ) : EReal) := by
  have h2 : ((2 : ℝ) ^ (-M)) ≠ 0 := (Real.rpow_pos_of_pos two_pos _).ne'
  have h0 : ((A * (2 : ℝ) ^ (-M) : ℝ) : EReal) ≠ 0 := by
    rw [← EReal.coe_zero]; exact fun h => mul_ne_zero hA h2 (EReal.coe_injective h)
  unfold Ideal.div
  rw [if_neg h0, ← EReal.coe_inv, ← EReal.coe_mul]
  congr 1
  field_simp

/-- The plain softmax of scores real where `P` holds and `-∞` elsewhere, contracted with real values. -/
theorem softmax_lane {n : ℕ} (P : Fin n → Prop) [DecidablePred P] (x w : Fin n → ℝ) (X V : Fin n → EReal)
    (hX : ∀ s, X s = if P s then (x s : EReal) else ⊥) (hV : ∀ s, V s = (w s : EReal)) (hP : ∃ s, P s) (c : ℝ) :
    ∑ s, V s * Ideal.div (Ideal.exp (X s - max ⊥ (Finset.univ.fold max ⊥ X)))
        (∑ s, Ideal.exp (X s - max ⊥ (Finset.univ.fold max ⊥ X)))
      = (((∑ s, if P s then Real.exp (x s - c) * w s else 0) / (∑ s, if P s then Real.exp (x s - c) else 0) : ℝ) : EReal) := by
  obtain ⟨M, hM⟩ := fold_real P x X hX hP
  rw [max_eq_right bot_le, hM]
  have h1 : ∀ s, Ideal.exp (X s - (M : EReal)) = (((if P s then Real.exp (x s - c) else 0) * Real.exp (c - M) : ℝ) : EReal) := fun s => by
    rw [hX]
    split
    · rw [← EReal.coe_sub, Ideal.exp_coe, ← Real.exp_add]
      congr 2; ring
    · rw [EReal.bot_sub, Ideal.exp_bot, zero_mul, EReal.coe_zero]
  have hS : ∑ s, Ideal.exp (X s - (M : EReal)) = (((∑ s, if P s then Real.exp (x s - c) else 0) * Real.exp (c - M) : ℝ) : EReal) := by
    rw [Finset.sum_congr rfl fun s _ => h1 s, sum_coe, ← Finset.sum_mul]
  have hpos : 0 < ∑ s, if P s then Real.exp (x s - c) else 0 := by
    obtain ⟨s0, h0⟩ := hP
    refine Finset.sum_pos' (fun s _ => ?_) ⟨s0, Finset.mem_univ _, ?_⟩
    · split
      · exact (Real.exp_pos _).le
      · exact le_rfl
    · rw [if_pos h0]; exact Real.exp_pos _
  have hne : (((∑ s, if P s then Real.exp (x s - c) else 0) * Real.exp (c - M) : ℝ) : EReal) ≠ 0 := by
    rw [← EReal.coe_zero]
    exact fun h => mul_ne_zero hpos.ne' (Real.exp_pos _).ne' (EReal.coe_injective h)
  rw [hS]
  unfold Ideal.div
  simp only [if_neg hne, h1, hV]
  simp only [← EReal.coe_inv, ← EReal.coe_mul, sum_coe]
  congr 1
  rw [Finset.sum_div]
  refine Finset.sum_congr rfl fun s _ => ?_
  have := (Real.exp_pos (c - M)).ne'
  split
  · field_simp
  · simp

/-- The sum of the first `n` terms. -/
def pre (f : ℕ → ℝ) (n : ℕ) : ℝ := ∑ r ∈ Finset.range n, f r

/-- The sum over the first `n` keys of their values weighted by powers of two. -/
def tot (x w : ℕ → ℝ) (n : ℕ) : ℝ := ∑ p ∈ Finset.range n, (2 : ℝ) ^ x p * w p

/-- The binary exponent of a key's weight: its score, a product over eight less the decay summed up to the key, over the logarithm of two. -/
def expo (q : Fin 64 → ℝ) (k : ℕ → Fin 64 → ℝ) (f : ℕ → ℝ) (p : ℕ) : ℝ := ((∑ y, q y * k p y) * 8⁻¹ - pre f (p + 1)) * (Real.log 2)⁻¹

/-- The attention of one query over the first `n` keys. -/
def attn (q : Fin 64 → ℝ) (k : ℕ → Fin 64 → ℝ) (f v : ℕ → ℝ) (n : ℕ) : ℝ := tot (expo q k f) v n / tot (expo q k f) (fun _ => 1) n

theorem two_expo (q : Fin 64 → ℝ) (k : ℕ → Fin 64 → ℝ) (f : ℕ → ℝ) (p : ℕ) :
    (2 : ℝ) ^ expo q k f p = Real.exp ((∑ y, q y * k p y) * 8⁻¹ - pre f (p + 1)) := by
  have h2 : Real.log 2 ≠ 0 := (Real.log_pos one_lt_two).ne'
  rw [Real.rpow_def_of_pos two_pos]
  congr 1
  unfold expo
  field_simp

end Cert.Attn

end
-- ==== Proof.Scan.lean ====
/- The running sum along the lanes by doubling: eleven rotate-and-add steps leave in every lane the sum of all lanes up to
   it. -/
module

public import proofs.«01_k».proof.Proof.Gen.KernelIdeal.Frame
public import proofs.«01_k».proof.Proof.Softmax
public import Idealize.ShloMosaic.Lib.WordCmp
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen Cert.Attn

/-- One doubling step by `d` lanes. -/
def dbl (d : BitVec 32) (v : FVec Ideal S16x2048 .f32) : FVec Ideal S16x2048 .f32 :=
  addf v (select (cmpi .sge (iota .tc S16x2048 32 [1] iota_S16x2048_d1_w32) (broadcast S16x2048 d)) (dynamicRotate 1 d none v rotates_S16x2048_d1)
    (broadcast S16x2048 (Scalar.ofBits .f32 0x00000000#32)))

theorem scan_eq (X : Vec Ideal S1x16x2048 .f32) :
    k0_pay1 (iota .tc S16x2048 32 [1] iota_S16x2048_d1_w32) (k0_pay2 X) (k0_pay3 X)
      = shapeCast S1x16x2048 (dbl 1024#32 (dbl 512#32 (dbl 256#32 (dbl 128#32 (dbl 64#32 (dbl 32#32 (dbl 16#32 (dbl 8#32 (dbl 4#32 (dbl 2#32 (dbl 1#32
          (shapeCast S16x2048 X shapeCasts_S1x16x2048_S16x2048)))))))))))) shapeCasts_S16x2048_S1x16x2048 := rfl

theorem dbl_at (f : Fin 16 → ℕ → ℝ) (d : ℕ) (hd0 : 0 < d) (hd : d < 2048) (v : FVec Ideal S16x2048 .f32)
    (hv : ∀ h p, v (ix2 h p) = ((pre (f h) (p.val + 1) - pre (f h) (p.val + 1 - d) : ℝ) : EReal)) (h : Fin 16) (p : Fin 2048) :
    dbl (BitVec.ofNat 32 d) v (ix2 h p) = ((pre (f h) (p.val + 1) - pre (f h) (p.val + 1 - (d + d)) : ℝ) : EReal) := by
  have hz : Ideal.ofBits .f32 0x00000000#32 = 0 := by simp [Ideal.ofBits, Ideal.ieee]
  have e : dbl (BitVec.ofNat 32 d) v (ix2 h p)
      = v (ix2 h p) + Scalar.select (IntOp.cmpi .sge (BitVec.ofNat 32 p.val) (BitVec.ofNat 32 d))
          (dynamicRotate 1 (BitVec.ofNat 32 d) none v rotates_S16x2048_d1 (ix2 h p)) (Ideal.ofBits .f32 0x00000000#32) := by
    unfold dbl
    show _ + Scalar.select (IntOp.cmpi .sge (iota .tc S16x2048 32 [1] iota_S16x2048_d1_w32 (ix2 h p)) _) _ _ = _
    rw [iota_single_apply]
    rfl
  rw [e, WordCmp.cmpi_sge_ofNat (w := 32) (by omega) (by omega), hz, hv]
  by_cases hp : d ≤ p.val
  · have hr : dynamicRotate 1 (BitVec.ofNat 32 d) none v rotates_S16x2048_d1 (ix2 h p) = v (ix2 h (⟨p.val - d, by omega⟩ : Fin 2048)) := by
      refine congrArg v (funext (Fin.forall_fin_two.mpr ⟨rfl, Fin.ext ?_⟩))
      show (p.val + 2048 - (BitVec.ofNat 32 d).toNat % 2048) % 2048 = p.val - d
      rw [BitVec.toNat_ofNat]
      omega
    rw [decide_eq_true hp, hr, hv]
    show _ + ((_ : ℝ) : EReal) = _
    rw [← EReal.coe_add]
    congr 1
    have h1 : p.val - d + 1 = p.val + 1 - d := by omega
    have h2 : p.val - d + 1 - d = p.val + 1 - (d + d) := by omega
    simp only [h1, h2, show p.val + 1 - d - d = p.val + 1 - (d + d) by omega]
    ring
  · rw [decide_eq_false hp]
    show _ + (0 : EReal) = _
    rw [add_zero, show p.val + 1 - d = 0 by omega, show p.val + 1 - (d + d) = 0 by omega]

theorem scan_at (f : Fin 16 → ℕ → ℝ) (X : Vec Ideal S1x16x2048 .f32) (hX : ∀ h (p : Fin 2048), X (ix3 0 h p) = (f h p.val : EReal)) (h : Fin 16) (p : Fin 2048) :
    k0_pay1 (iota .tc S16x2048 32 [1] iota_S16x2048_d1_w32) (k0_pay2 X) (k0_pay3 X) (ix3 0 h p) = (pre (f h) (p.val + 1) : EReal) := by
  have h0 : ∀ h p, shapeCast S16x2048 X shapeCasts_S1x16x2048_S16x2048 (ix2 h p) = ((pre (f h) (p.val + 1) - pre (f h) (p.val + 1 - 1) : ℝ) : EReal) := by
    intro h p
    have : shapeCast S16x2048 X shapeCasts_S1x16x2048_S16x2048 (ix2 h p) = X (ix3 0 h p) := by pointwise
    rw [this, hX, Nat.add_sub_cancel]
    unfold pre
    rw [Finset.sum_range_succ, add_sub_cancel_left]
  have s1 := dbl_at f 1 (by omega) (by omega) _ h0
  have s2 := dbl_at f 2 (by omega) (by omega) _ s1
  have s3 := dbl_at f 4 (by omega) (by omega) _ s2
  have s4 := dbl_at f 8 (by omega) (by omega) _ s3
  have s5 := dbl_at f 16 (by omega) (by omega) _ s4
  have s6 := dbl_at f 32 (by omega) (by omega) _ s5
  have s7 := dbl_at f 64 (by omega) (by omega) _ s6
  have s8 := dbl_at f 128 (by omega) (by omega) _ s7
  have s9 := dbl_at f 256 (by omega) (by omega) _ s8
  have s10 := dbl_at f 512 (by omega) (by omega) _ s9
  have s11 := dbl_at f 1024 (by omega) (by omega) _ s10
  have hc : ∀ Y : FVec Ideal S16x2048 .f32, shapeCast S1x16x2048 Y shapeCasts_S16x2048_S1x16x2048 (ix3 0 h p) = Y (ix2 h p) := fun Y => by pointwise
  rw [scan_eq, hc]
  refine (s11 h p).trans ?_
  rw [show p.val + 1 - (1024 + 1024) = 0 by omega]
  simp [pre]

end Cert.KernelIdeal.Value
end
-- ==== Proof.Lanes.lean ====
/- The attention kernel's payloads read at an index, at the extended reals: per head and query lane, one tile's new running
   maximum, new denominator and new accumulator, off the diagonal and on it; the masked queries; the closing quotient. -/
module

public import proofs.«01_k».proof.Proof.Gen.KernelIdeal.Skeleton
public import proofs.«01_k».proof.Proof.Softmax
public import Idealize.ShloMosaic.Lib.Pointwise
public import Idealize.ShloMosaic.Lib.WordCmp

@[expose] public section

set_option maxRecDepth 16384

noncomputable section

namespace Cert.KernelIdeal.Value

open Idealize.ShloMosaic Cert.KernelIdeal Cert.KernelIdeal.Gen Cert.Attn

theorem negInf : Ideal.ofBits .f32 0xFF800000#32 = ⊥ := by simp [Ideal.ofBits, Ideal.ieee]

/-- The two named constants at the extended reals. -/
theorem log2e_val (b : BitVec FTy.f32.bits) : Named.named (F := Ideal) κ "log2e" b = (((Real.log 2)⁻¹ : ℝ) : EReal) := rfl
theorem qscale_val (b : BitVec FTy.f32.bits) : Named.named (F := Ideal) κ "qscale" b = (((8 * Real.log 2)⁻¹ : ℝ) : EReal) := rfl

/-- A tile's score of key `s` for query lane `q`: head `j` of the pair. -/
def sc (Q : FVec Ideal S128x512 .bf16) (K : Vec Ideal S1x512x128 .f32) (C : Vec Ideal S1x1x1x512x2 .f32) (j : Fin 2) (q s : Fin 512) : EReal :=
  ∑ x : Fin 128, (K (ix3 0 s x) : EReal) * (Q (ix2 x q) : EReal) - (C (ix5 0 0 0 s j) : EReal) * (((Real.log 2)⁻¹ : ℝ) : EReal)

/-- The same on the diagonal tile: keys after the query masked. -/
def scD (Q : FVec Ideal S128x512 .bf16) (K : Vec Ideal S1x512x128 .f32) (C : Vec Ideal S1x1x1x512x2 .f32) (j : Fin 2) (q s : Fin 512) : EReal :=
  if s ≤ q then sc Q K C j q s else ⊥

variable (Q Q' : FVec Ideal S128x512 .bf16) (K : Vec Ideal S1x512x128 .f32) (V : Vec Ideal S1x128x512 .f32) (C : Vec Ideal S1x1x1x512x2 .f32)
  (m m' l l' : Vec Ideal S1x1x512 .f32) (a : Vec Ideal S128x512 .f32)

theorem pay4_at (s q : Fin 512) : k1_pay4 Q K C (ix2 s q) = sc Q K C 0 q s := by
  pointwise [k1_pay4, k1_pay1, k1_pay3, sc, log2e_val]

theorem pay14_at (s q : Fin 512) : k1_pay14 Q (k1_pay1 K) (k1_pay3 C) (ix2 s q) = sc Q K C 1 q s := by
  pointwise [k1_pay14, k1_pay1, k1_pay3, sc, log2e_val]

theorem pay57_at (s q : Fin 512) : k1_pay57 Q K C (ix2 s q) = scD Q K C 0 q s := by
  pointwise [k1_pay57, k1_pay54, k1_pay56, scD, sc, log2e_val, negInf]
  exact select_sle (by omega) (by omega) _ _

theorem pay67_at (s q : Fin 512) : k1_pay67 Q (k1_pay54 K) (k1_pay56 C) (ix2 s q) = scD Q K C 1 q s := by
  pointwise [k1_pay67, k1_pay54, k1_pay56, scD, sc, log2e_val, negInf]
  exact select_sle (by omega) (by omega) _ _

theorem pay6_at (q : Fin 512) : k1_pay6 Q K C m (ix2 0 q) = mNew (m (ix3 0 0 q)) (sc Q K C 0 q) := by
  pointwise [k1_pay6, k1_pay5, mNew, negInf, pay4_at]

theorem pay11_at (q : Fin 512) : k1_pay11 (k1_pay6 Q K C m) (ix3 0 0 q) = mNew (m (ix3 0 0 q)) (sc Q K C 0 q) := by
  pointwise [k1_pay11, pay6_at]

theorem pay10_at (q : Fin 512) : k1_pay10 (k1_pay9 Q K C m l) (ix3 0 0 q)
    = aNew (m (ix3 0 0 q)) (l (ix3 0 0 q)) (fun _ => 1) (sc Q K C 0 q) := by
  pointwise [k1_pay10, k1_pay9, k1_pay8, k1_pay7, k1_pay5, pay6_at, pay4_at, aNew, one_mul]
  rfl

theorem pay16_at (q : Fin 512) : k1_pay16 Q (k1_pay1 K) (k1_pay3 C) m (ix2 0 q) = mNew (m (ix3 0 0 q)) (sc Q K C 1 q) := by
  pointwise [k1_pay16, k1_pay15, mNew, negInf, pay14_at]

theorem pay20_at (q : Fin 512) : k1_pay20 Q (k1_pay1 K) (k1_pay3 C) m (ix3 0 0 q) = mNew (m (ix3 0 0 q)) (sc Q K C 1 q) := by
  pointwise [k1_pay20, pay16_at]

theorem pay19_at (q : Fin 512) : k1_pay19 Q (k1_pay1 K) (k1_pay3 C) m l (ix3 0 0 q)
    = aNew (m (ix3 0 0 q)) (l (ix3 0 0 q)) (fun _ => 1) (sc Q K C 1 q) := by
  pointwise [k1_pay19, k1_pay18, k1_pay17, k1_pay15, pay16_at, pay14_at, aNew, one_mul]
  rfl

theorem pay52_at (i : Fin 128) (q : Fin 512) :
    k1_pay52 (k1_pay12 (k1_pay2 V) (k1_pay7 Q K C m)) (k1_pay13 (k1_pay8 Q K C m)) (k1_pay18 Q' (k1_pay1 K) (k1_pay3 C) m')
      (k1_pay21 (k1_pay2 V)) (k1_pay22 Q' (k1_pay1 K) (k1_pay3 C) m') a (ix2 i q)
      = if i.val < 64 then aNew (m (ix3 0 0 q)) (a (ix2 i q)) (fun s => V (ix3 0 i s)) (sc Q K C 0 q)
        else aNew (m' (ix3 0 0 q)) (a (ix2 i q)) (fun s => V (ix3 0 i s)) (sc Q' K C 1 q) := by
  pointwise [k1_pay52, k1_pay12, k1_pay2, k1_pay7, k1_pay13, k1_pay8, k1_pay5, k1_pay18, k1_pay21, k1_pay22, k1_pay17, k1_pay15, pay6_at, pay4_at, pay16_at, pay14_at, aNew]
  by_cases h : i.val < 64
  · simp only [h, ↓reduceDIte, ↓reduceIte]; rfl
  · have e : ∀ h', (⟨64 + (i.val - 64), h'⟩ : Fin 128) = i := fun _ => Fin.ext (by show 64 + (i.val - 64) = i.val; omega)
    simp only [h, ↓reduceDIte, ↓reduceIte, e]; rfl

theorem pay59_at (q : Fin 512) : k1_pay59 Q K C m (ix2 0 q) = mNew (m (ix3 0 0 q)) (scD Q K C 0 q) := by
  pointwise [k1_pay59, k1_pay58, mNew, negInf, pay57_at]

theorem pay64_at (q : Fin 512) : k1_pay64 (k1_pay59 Q K C m) (ix3 0 0 q) = mNew (m (ix3 0 0 q)) (scD Q K C 0 q) := by
  pointwise [k1_pay64, pay59_at]

theorem pay63_at (q : Fin 512) : k1_pay63 (k1_pay60 Q K C m) (k1_pay61 Q K C m) (k1_pay62 l) (ix3 0 0 q)
    = aNew (m (ix3 0 0 q)) (l (ix3 0 0 q)) (fun _ => 1) (scD Q K C 0 q) := by
  pointwise [k1_pay63, k1_pay60, k1_pay61, k1_pay62, k1_pay58, pay59_at, pay57_at, aNew, one_mul]
  rfl

theorem pay69_at (q : Fin 512) : k1_pay69 Q (k1_pay54 K) (k1_pay56 C) m (ix2 0 q) = mNew (m (ix3 0 0 q)) (scD Q K C 1 q) := by
  pointwise [k1_pay69, k1_pay68, mNew, negInf, pay67_at]

theorem pay73_at (q : Fin 512) : k1_pay73 (k1_pay72 Q (k1_pay54 K) (k1_pay56 C) m l) (ix3 0 0 q)
    = aNew (m (ix3 0 0 q)) (l (ix3 0 0 q)) (fun _ => 1) (scD Q K C 1 q) := by
  pointwise [k1_pay73, k1_pay72, k1_pay71, k1_pay70, k1_pay68, pay69_at, pay67_at, aNew, one_mul]
  rfl

theorem pay75_at (i : Fin 128) (q : Fin 512) :
    k1_pay75 (k1_pay55 V) (k1_pay65 (k1_pay55 V) (k1_pay60 Q K C m)) (k1_pay66 (k1_pay61 Q K C m)) (k1_pay70 Q' (k1_pay54 K) (k1_pay56 C) m')
      (k1_pay71 Q' (k1_pay54 K) (k1_pay56 C) m') a (ix2 i q)
      = if i.val < 64 then aNew (m (ix3 0 0 q)) (a (ix2 i q)) (fun s => V (ix3 0 i s)) (scD Q K C 0 q)
        else aNew (m' (ix3 0 0 q)) (a (ix2 i q)) (fun s => V (ix3 0 i s)) (scD Q' K C 1 q) := by
  pointwise [k1_pay75, k1_pay65, k1_pay55, k1_pay66, k1_pay60, k1_pay61, k1_pay58, k1_pay70, k1_pay71, k1_pay68, pay59_at, pay57_at, pay69_at, pay67_at, aNew]
  by_cases h : i.val < 64
  · simp only [h, ↓reduceDIte, ↓reduceIte]; rfl
  · have e : ∀ h', (⟨64 + (i.val - 64), h'⟩ : Fin 128) = i := fun _ => Fin.ext (by show 64 + (i.val - 64) = i.val; omega)
    simp only [h, ↓reduceDIte, ↓reduceIte, e]; rfl

theorem pay76_at (q : Fin 512) (i : Fin 128) : k1_pay76 l l' a (ix3 0 q i)
    = if i.val < 64 then Ideal.div (a (ix2 i q)) (l (ix3 0 0 q)) else Ideal.div (a (ix2 i q)) (l' (ix3 0 0 q)) := by
  pointwise [k1_pay76]
  split <;> rfl

theorem pay47_at (X : Vec Ideal S1x128x512 .f32) (x : Fin 128) (q : Fin 512) : k1_pay47 X (ix2 x q)
    = if x.val < 64 then X (ix3 0 x q) * (((8 * Real.log 2)⁻¹ : ℝ) : EReal) else 0 := by
  pointwise [k1_pay47, k1_pay45, k1_pay46, qscale_val]
  exact select_slt (b := 64) (by omega) (by omega) _ _

theorem pay48_at (X : Vec Ideal S1x128x512 .f32) (x : Fin 128) (q : Fin 512) : k1_pay48 X (ix2 x q)
    = if x.val < 64 then 0 else X (ix3 0 x q) * (((8 * Real.log 2)⁻¹ : ℝ) : EReal) := by
  pointwise [k1_pay48, k1_pay45, k1_pay46, qscale_val]
  exact select_slt (b := 64) (by omega) (by omega) _ _

theorem pay49_at (j : Fin 2) (q : Fin 512) : k1_pay49 (F := Ideal) (ix3 j 0 q) = ⊥ := by pointwise [k1_pay49, negInf]
theorem pay50_at (j : Fin 2) (q : Fin 512) : k1_pay50 (F := Ideal) (ix3 j 0 q) = 0 := by pointwise [k1_pay50]
theorem pay51_at (i : Fin 128) (q : Fin 512) : k1_pay51 (F := Ideal) (ix2 i q) = 0 := by pointwise [k1_pay51]

end Cert.KernelIdeal.Value
end
-- ==== Proof.Trip.lean ====
/- The attention kernel's loop: one trip's stores over the payloads, what each scratch row reads after them, and the
   running state of every lane after any number of trips. -/
module

public import proofs.«01_k».proof.Proof.Gen.KernelIdeal.Frame
public import proofs.«01_k».proof.Proof.Lanes
public import Idealize.ShloMosaic.Lib.VecWindow
public import Idealize.ShloMosaic.Lib.LoopRemainder

@[expose] public section

set_option maxRecDepth 16384

noncomputable section

namespace Cert.KernelIdeal.Value

open Idealize.ShloMosaic Idealize.ShloMosaic.TcCoe Idealize.SL.Sem Cert.KernelIdeal Cert.KernelIdeal.Gen Cert.Attn

section Pieces

variable {F : FTy → Type} [FloatOps F] [Named F]

/-- Row `j` of a two-row scratch buffer. -/
abbrev row0 : Rect S2x1x512 := Rect.unit (s := S2x1x512) ![0, 0, 0] S1x1x512.size inb_S2x1x512_S1x1x512_0_0_0
abbrev row1 : Rect S2x1x512 := Rect.unit (s := S2x1x512) ![1, 0, 0] S1x1x512.size inb_S2x1x512_S1x1x512_1_0_0
abbrev whole : Rect S128x512 := Rect.unit (s := S128x512) ![0, 0] S128x512.size inb_S128x512_S128x512_0_0

/-- One trip's stores, over the loaded tile `K`, `V`, `C` and the scratch rows read before it. -/
def stores8 (Q0 Q1 : FVec F S128x512 .bf16) (K : Vec F S1x512x128 .f32) (C : Vec F S1x1x1x512x2 .f32) (m0 m1 : Vec F S1x1x512 .f32) :
    List (View.Piece (Elt F) S2x1x512 .f32) :=
  [⟨row1, k1_pay20 Q1 (k1_pay1 K) (k1_pay3 C) m1⟩, ⟨row0, k1_pay11 (k1_pay6 Q0 K C m0)⟩]
def stores9 (Q0 Q1 : FVec F S128x512 .bf16) (K : Vec F S1x512x128 .f32) (C : Vec F S1x1x1x512x2 .f32) (m0 m1 l0 l1 : Vec F S1x1x512 .f32) :
    List (View.Piece (Elt F) S2x1x512 .f32) :=
  [⟨row1, k1_pay19 Q1 (k1_pay1 K) (k1_pay3 C) m1 l1⟩, ⟨row0, k1_pay10 (k1_pay9 Q0 K C m0 l0)⟩]
def stores10 (Q0 Q1 : FVec F S128x512 .bf16) (K : Vec F S1x512x128 .f32) (V : Vec F S1x128x512 .f32) (C : Vec F S1x1x1x512x2 .f32)
    (m0 m1 : Vec F S1x1x512 .f32) (a : Vec F S128x512 .f32) : List (View.Piece (Elt F) S128x512 .f32) :=
  [⟨whole, k1_pay52 (k1_pay12 (k1_pay2 V) (k1_pay7 Q0 K C m0)) (k1_pay13 (k1_pay8 Q0 K C m0)) (k1_pay18 Q1 (k1_pay1 K) (k1_pay3 C) m1)
      (k1_pay21 (k1_pay2 V)) (k1_pay22 Q1 (k1_pay1 K) (k1_pay3 C) m1) a⟩]

variable (𝒱 : Variants) (c : Dev nD) (bd : Option 𝒱.V) (i : grid1.Coords) (arg3 : Memref sig .tc .vmem S1x128x512 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1x4x512x2 .f32) (harg6 : arg6.IsWhole) (arg7 : Memref sig .tc .vmem S1x512x128 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S128x512 .f32) (harg10 : arg10.IsWhole)
  (arg2 : BitVec 32) (v11 v16 : FVec F S128x512 .bf16) (c0 v32 : BitVec 32)

theorem tripL_eq (X4 : BufTy.Contents (Elt F) arg4.view.ty) (X5 : BufTy.Contents (Elt F) arg5.view.ty) (X6 : BufTy.Contents (Elt F) arg6.view.ty)
    (k : Fin (k1_t1_loop i).trips) (f8 : BufTy.Contents (Elt F) arg8.view.ty) (f9 : BufTy.Contents (Elt F) arg9.view.ty) (f10 : BufTy.Contents (Elt F) arg10.view.ty) :
    tripL_k1_t1 (F := F) 𝒱 c bd i arg3 harg3 arg4 harg4 arg5 harg5 arg6 harg6 arg7 harg7 arg8 harg8 arg9 harg9 arg10 harg10 arg2 v11 v16 c0 v32 X4 X5 X6 k f8 f9 f10
      = let K := arg4.view.readAt (Elt F) (Rect.unit (s := S1x2048x128) (k1_off1 i k) S1x512x128.size (k1_off1_inb i k)).toLoadRect X4
        let V := arg5.view.readAt (Elt F) (Rect.unit (s := S1x128x2048) (k1_off2 i k) S1x128x512.size (k1_off2_inb i k)).toLoadRect X5
        let C := arg6.view.readAt (Elt F) (Rect.unit (s := S1x1x4x512x2) (k1_off3 i k) S1x1x1x512x2.size (k1_off3_inb i k)).toLoadRect X6
        let m0 := arg8.view.readAt (Elt F) row0.toLoadRect f8
        let m1 := arg8.view.readAt (Elt F) row1.toLoadRect f8
        (stores8 v11 v16 K C m0 m1, stores9 v11 v16 K C m0 m1 (arg9.view.readAt (Elt F) row0.toLoadRect f9) (arg9.view.readAt (Elt F) row1.toLoadRect f9),
          stores10 v11 v16 K V C m0 m1 (arg10.view.readAt (Elt F) whole.toLoadRect f10)) := by
  unfold tripL_k1_t1 trip_k1_t1
  rfl

/-- Both rows of a two-row buffer just stored: each reads its own payload. -/
theorem read_rows {κ : Kind} {sp : Space} {e : EltTy} (v : View sig κ sp S2x1x512 e) (f : BufTy.Contents (Elt F) v.ty) (w0 w1 : S1x1x512.Idx → Elt F e)
    (L : List (View.Piece (Elt F) S2x1x512 e)) (q : Fin 512) :
    v.read (Elt F) (v.writes (Elt F) f (⟨row1, w1⟩ :: ⟨row0, w0⟩ :: L)) (ix3 0 0 q) = w0 (ix3 0 0 q)
    ∧ v.read (Elt F) (v.writes (Elt F) f (⟨row1, w1⟩ :: ⟨row0, w0⟩ :: L)) (ix3 1 0 q) = w1 (ix3 0 0 q) := by
  constructor
  · rw [View.read_writes_cons_unit_of_not_mem v f _ _ _ (ix3 0 0 q) rfl (0 : Fin 3) (.inl Nat.zero_lt_one)]
    exact View.read_writes_cons_unit_of_mem v f _ _ _ (ix3 0 0 q) (ix3 0 0 q) rfl (Fin.forall_fin_succ.mpr ⟨rfl, Fin.forall_fin_two.mpr ⟨rfl, (Nat.zero_add _).symm⟩⟩)
  · exact View.read_writes_cons_unit_of_mem v f _ _ _ (ix3 1 0 q) (ix3 0 0 q) rfl (Fin.forall_fin_succ.mpr ⟨rfl, Fin.forall_fin_two.mpr ⟨rfl, (Nat.zero_add _).symm⟩⟩)

/-- Row 0 just stored: row 1 reads what was there. -/
theorem read_row1_of_row0 {κ : Kind} {sp : Space} {e : EltTy} (v : View sig κ sp S2x1x512 e) (f : BufTy.Contents (Elt F) v.ty) (w0 : S1x1x512.Idx → Elt F e)
    (L : List (View.Piece (Elt F) S2x1x512 e)) (q : Fin 512) :
    v.read (Elt F) (v.writes (Elt F) f (⟨row0, w0⟩ :: L)) (ix3 1 0 q) = v.read (Elt F) (v.writes (Elt F) f L) (ix3 1 0 q) :=
  View.read_writes_cons_unit_of_not_mem v f _ _ _ (ix3 1 0 q) rfl (0 : Fin 3) (.inr (Nat.le_refl 1))

theorem readAt_row0 {κ : Kind} {sp : Space} {e : EltTy} (v : View sig κ sp S2x1x512 e) (f : BufTy.Contents (Elt F) v.ty) (q : Fin 512) :
    v.readAt (Elt F) row0.toLoadRect f (ix3 0 0 q) = v.read (Elt F) f (ix3 0 0 q) :=
  congrArg (v.read (Elt F) f) (funext (Fin.forall_fin_succ.mpr ⟨rfl, Fin.forall_fin_two.mpr ⟨rfl, Fin.ext (by show 0 + 1 * q.val = q.val; omega)⟩⟩))
theorem readAt_row1 {κ : Kind} {sp : Space} {e : EltTy} (v : View sig κ sp S2x1x512 e) (f : BufTy.Contents (Elt F) v.ty) (q : Fin 512) :
    v.readAt (Elt F) row1.toLoadRect f (ix3 0 0 q) = v.read (Elt F) f (ix3 1 0 q) :=
  congrArg (v.read (Elt F) f) (funext (Fin.forall_fin_succ.mpr ⟨rfl, Fin.forall_fin_two.mpr ⟨rfl, Fin.ext (by show 0 + 1 * q.val = q.val; omega)⟩⟩))

/-- A load of 512 keys from position `b`. -/
theorem load_rows (v : View sig .tc .vmem S1x2048x128 .f32) (f : BufTy.Contents (Elt F) v.ty) (off : Fin 3 → ℕ) (inb : ∀ a, off a + S1x512x128.size a ≤ S1x2048x128.size a)
    (b : ℕ) (hb : b + 512 ≤ 2048) (h : off = ![0, b, 0]) (s : Fin 512) (x : Fin 128) :
    v.readAt (Elt F) (Rect.unit (s := S1x2048x128) off S1x512x128.size inb).toLoadRect f (ix3 0 s x)
      = v.read (Elt F) f (ix3 0 (⟨b + s.val, by omega⟩ : Fin 2048) x) := by
  subst h
  exact congrArg (v.read (Elt F) f) (funext (Fin.forall_fin_succ.mpr ⟨rfl, Fin.forall_fin_two.mpr ⟨Fin.ext (by show b + 1 * s.val = b + s.val; omega), Fin.ext (by show 0 + 1 * x.val = x.val; omega)⟩⟩))
theorem load_cols (v : View sig .tc .vmem S1x128x2048 .f32) (f : BufTy.Contents (Elt F) v.ty) (off : Fin 3 → ℕ) (inb : ∀ a, off a + S1x128x512.size a ≤ S1x128x2048.size a)
    (b : ℕ) (hb : b + 512 ≤ 2048) (h : off = ![0, 0, b]) (i : Fin 128) (s : Fin 512) :
    v.readAt (Elt F) (Rect.unit (s := S1x128x2048) off S1x128x512.size inb).toLoadRect f (ix3 0 i s)
      = v.read (Elt F) f (ix3 0 i (⟨b + s.val, by omega⟩ : Fin 2048)) := by
  subst h
  exact congrArg (v.read (Elt F) f) (funext (Fin.forall_fin_succ.mpr ⟨rfl, Fin.forall_fin_two.mpr ⟨Fin.ext (by show 0 + 1 * i.val = i.val; omega), Fin.ext (by show b + 1 * s.val = b + s.val; omega)⟩⟩))
theorem load_tile (v : View sig .tc .vmem S1x1x4x512x2 .f32) (f : BufTy.Contents (Elt F) v.ty) (off : Fin 5 → ℕ) (inb : ∀ a, off a + S1x1x1x512x2.size a ≤ S1x1x4x512x2.size a)
    (t : Fin 4) (h : off = ![0, 0, t.val, 0, 0]) (s : Fin 512) (j : Fin 2) :
    v.readAt (Elt F) (Rect.unit (s := S1x1x4x512x2) off S1x1x1x512x2.size inb).toLoadRect f (ix5 0 0 0 s j)
      = v.read (Elt F) f (ix5 0 0 t s j) := by
  subst h
  exact congrArg (v.read (Elt F) f) (funext (Fin.forall_fin_succ.mpr ⟨rfl, Fin.forall_fin_succ.mpr ⟨rfl, Fin.forall_fin_succ.mpr ⟨Fin.ext (by show t.val + 1 * 0 = t.val; omega), Fin.forall_fin_two.mpr ⟨Fin.ext (by show 0 + 1 * s.val = s.val; omega), Fin.ext (by show 0 + 1 * j.val = j.val; omega)⟩⟩⟩⟩))

theorem trips1 : (k1_t1_loop i).trips = (i 2).val := by
  have : (i 2).val < 4 := (i 2).isLt
  have h0 : Affine.IsInt 0#32 (0) := Affine.ofNat _ (by omega)
  have h1 : Affine.IsInt 1#32 (1) := Affine.ofNat _ (by omega)
  have h_arg2 : Affine.IsInt (BitVec.ofNat 32 (i 2).val) (((i 2).val : Int)) := Affine.ofNat _ (by omega)
  have h_v29 : Affine.IsInt _ (((i 2).val : Int)) := Affine.subi h_arg2 h0 (by omega)
  have h_v31 : Affine.IsInt _ (((i 2).val : Int)) := Affine.divsi h_v29 h1 (by omega)
  have h_v32 : Affine.IsInt _ (((i 2).val : Int)) := Affine.muli h_v31 h1 (by omega)
  have h_v33 : Affine.IsInt _ (((i 2).val : Int)) := Affine.addi h0 h_v32 (by omega)
  exact Affine.trips_eq h0 h_v33 h1 _ (by omega)

theorem trips2 : (k1_t2_loop i).trips = 0 := Scf.rem_trips 0#32 (Scalar.subi (BitVec.ofNat 32 (i 2).val) 0#32)

theorem run_eq (x0 : Vec F S1x128x512 .f32) (x1 : Vec F S1x2048x128 .f32) (x2 : Vec F S1x128x2048 .f32) (x3 : Vec F S1x1x4x512x2 .f32)
    (Q0 Q1 : FVec F S128x512 .bf16)
    (hQ0 : Q0 = k1_pay47 (arg3.view.readAt (Elt F) (Rect.unit (s := S1x128x512) ![0, 0, 0] S1x128x512.size inb_S1x128x512_S1x128x512_0_0_0).toLoadRect (harg3.unread x0)))
    (hQ1 : Q1 = k1_pay48 (arg3.view.readAt (Elt F) (Rect.unit (s := S1x128x512) ![0, 0, 0] S1x128x512.size inb_S1x128x512_S1x128x512_0_0_0).toLoadRect (harg3.unread x0))) :
    ∃ (v33 : BitVec 32), (kernelRun1_A (F := F) c i arg3 harg3 arg4 harg4 arg5 harg5 arg6 harg6 arg7 harg7 arg8 harg8 arg9 harg9 arg10 harg10 x0 x1 x2 x3).1
      = let H8 : List (View.Piece (Elt F) S2x1x512 .f32) := [⟨Rect.unit (s := S2x1x512) ![0, 0, 0] S2x1x512.size inb_S2x1x512_S2x1x512_0_0_0, k1_pay49⟩]
        let H9 : List (View.Piece (Elt F) S2x1x512 .f32) := [⟨Rect.unit (s := S2x1x512) ![0, 0, 0] S2x1x512.size inb_S2x1x512_S2x1x512_0_0_0, k1_pay50⟩]
        let H10 : List (View.Piece (Elt F) S128x512 .f32) := [⟨whole, k1_pay51⟩]
        let v32 : BitVec 32 := Scalar.muli (Scalar.divsi (Scalar.subi (BitVec.ofNat 32 (i 2).val) 0#32) 1#32) 1#32
        let p1 := pb_k1_t1 (F := F) Variants.none c none i arg3 harg3 arg4 harg4 arg5 harg5 arg6 harg6 arg7 harg7 arg8 harg8 arg9 harg9 arg10 harg10 (BitVec.ofNat 32 (i 2).val) Q0 Q1 0#32 v32
          (harg4.unread x1) (harg5.unread x2) (harg6.unread x3) (arg8.view.writes (Elt F) arg8.view.junk H8) (arg9.view.writes (Elt F) arg9.view.junk H9) (arg10.view.writes (Elt F) arg10.view.junk H10) (k1_t1_loop i).trips
        let p2 := pb_k1_t2 (F := F) Variants.none c none i arg3 harg3 arg4 harg4 arg5 harg5 arg6 harg6 arg7 harg7 arg8 harg8 arg9 harg9 arg10 harg10 (BitVec.ofNat 32 (i 2).val) Q0 Q1 0#32 v32 v33
          (harg4.unread x1) (harg5.unread x2) (harg6.unread x3) (arg8.view.writes (Elt F) arg8.view.junk (p1.1 ++ H8)) (arg9.view.writes (Elt F) arg9.view.junk (p1.2.1 ++ H9)) (arg10.view.writes (Elt F) arg10.view.junk (p1.2.2 ++ H10)) (k1_t2_loop i).trips
        let L8 := p2.1 ++ (p1.1 ++ H8)
        let L9 := p2.2.1 ++ (p1.2.1 ++ H9)
        let L10 := p2.2.2 ++ (p1.2.2 ++ H10)
        let K := arg4.view.readAt (Elt F) (Rect.unit (s := S1x2048x128) (k1_off7 i) S1x512x128.size (k1_off7_inb i)).toLoadRect (harg4.unread x1)
        let V := arg5.view.readAt (Elt F) (Rect.unit (s := S1x128x2048) (k1_off8 i) S1x128x512.size (k1_off8_inb i)).toLoadRect (harg5.unread x2)
        let C := arg6.view.readAt (Elt F) (Rect.unit (s := S1x1x4x512x2) (k1_off9 i) S1x1x1x512x2.size (k1_off9_inb i)).toLoadRect (harg6.unread x3)
        let m0 := arg8.view.readCov L8 row0.toLoadRect
        let l0 := arg9.view.readCov L9 row0.toLoadRect
        let D8 : List (View.Piece (Elt F) S2x1x512 .f32) := ⟨row0, k1_pay64 (k1_pay59 Q0 K C m0)⟩ :: L8
        let D9 : List (View.Piece (Elt F) S2x1x512 .f32) := ⟨row0, k1_pay63 (k1_pay60 Q0 K C m0) (k1_pay61 Q0 K C m0) (k1_pay62 l0)⟩ :: L9
        let m1 := arg8.view.readCov D8 row1.toLoadRect
        let l1 := arg9.view.readCov D9 row1.toLoadRect
        let E9 : List (View.Piece (Elt F) S2x1x512 .f32) := ⟨row1, k1_pay73 (k1_pay72 Q1 (k1_pay54 K) (k1_pay56 C) m1 l1)⟩ :: D9
        let E10 : List (View.Piece (Elt F) S128x512 .f32) := ⟨whole, k1_pay75 (k1_pay55 V) (k1_pay65 (k1_pay55 V) (k1_pay60 Q0 K C m0)) (k1_pay66 (k1_pay61 Q0 K C m0))
          (k1_pay70 Q1 (k1_pay54 K) (k1_pay56 C) m1) (k1_pay71 Q1 (k1_pay54 K) (k1_pay56 C) m1) (arg10.view.readCov L10 whole.toLoadRect)⟩ :: L10
        [⟨Rect.unit (s := S1x512x128) ![0, 0, 0] S1x512x128.size inb_S1x512x128_S1x512x128_0_0_0,
          k1_pay76 (arg9.view.readCov E9 row0.toLoadRect) (arg9.view.readCov E9 row1.toLoadRect) (arg10.view.readCov E10 whole.toLoadRect)⟩] := by
  subst hQ0 hQ1
  exact ⟨_, rfl⟩

end Pieces

end Cert.KernelIdeal.Value
end
-- ==== Proof.Body.lean ====
/- What the attention kernel's body writes, on real-valued blocks: the running state of every lane through the loop and
   the diagonal tile, and the quotient it stores. -/
module

public import proofs.«01_k».proof.Proof.Trip

@[expose] public section

set_option maxRecDepth 16384

noncomputable section

namespace Cert.KernelIdeal.Value

open Idealize.ShloMosaic Idealize.ShloMosaic.TcCoe Idealize.SL.Sem Cert.KernelIdeal Cert.KernelIdeal.Gen Cert.Attn

/-- The head of the pair a lane belongs to. -/
def hd (i : Fin 128) : Fin 2 := if i.val < 64 then 0 else 1

theorem hd_lo {i : Fin 128} (h : i.val < 64) : hd i = 0 := if_pos h
theorem hd_hi {i : Fin 128} (h : ¬ i.val < 64) : hd i = 1 := if_neg h

/-- The score of key `p` for query lane `q` under head `j`, to the base 2. -/
def xs (q0 : Fin 128 → Fin 512 → ℝ) (k1 : ℕ → Fin 128 → ℝ) (c3 : ℕ → Fin 2 → ℝ) (j : Fin 2) (q : Fin 512) (p : ℕ) : ℝ :=
  ∑ x : Fin 128, k1 p x * (if hd x = j then q0 x q * (8 * Real.log 2)⁻¹ else 0) - c3 p j * (Real.log 2)⁻¹

theorem tot_full (x w : ℕ → ℝ) (b : ℕ) :
    tot x w b + part (fun _ : Fin 512 => True) (fun s => x (b + s.val)) (fun s => w (b + s.val)) = tot x w (b + 512) := by
  unfold tot part
  rw [Finset.sum_range_add, Finset.sum_range (n := 512)]
  simp

theorem tot_diag (x w : ℕ → ℝ) (b : ℕ) (q : Fin 512) :
    tot x w b + part (fun s : Fin 512 => s ≤ q) (fun s => x (b + s.val)) (fun s => w (b + s.val)) = tot x w (b + (q.val + 1)) := by
  unfold tot part
  rw [Finset.sum_range_add]
  congr 1
  have h := Finset.sum_range (n := 512) (fun p => if p ≤ q.val then (2 : ℝ) ^ x (b + p) * w (b + p) else 0)
  simp only [Fin.le_def]
  rw [← h, ← Finset.sum_filter]
  refine Finset.sum_congr ?_ fun _ _ => rfl
  ext p
  simp only [Finset.mem_filter, Finset.mem_range]
  omega

theorem tot_pos (x : ℕ → ℝ) (n : ℕ) : tot x (fun _ => 1) (n + 1) ≠ 0 := by
  unfold tot
  refine (Finset.sum_pos (fun p _ => ?_) ⟨0, by simp⟩).ne'
  rw [mul_one]; exact Real.rpow_pos_of_pos two_pos _

section Score

variable (q0 : Fin 128 → Fin 512 → ℝ) (k1 : ℕ → Fin 128 → ℝ) (v2 : Fin 128 → ℕ → ℝ) (c3 : ℕ → Fin 2 → ℝ)

theorem sc_real (X : Vec Ideal S1x128x512 .f32) (K : Vec Ideal S1x512x128 .f32) (C : Vec Ideal S1x1x1x512x2 .f32) (b : ℕ)
    (hX : ∀ x q, X (ix3 0 x q) = (q0 x q : EReal)) (hK : ∀ s x, K (ix3 0 s x) = (k1 (b + s.val) x : EReal))
    (hC : ∀ s j, C (ix5 0 0 0 s j) = (c3 (b + s.val) j : EReal)) (q s : Fin 512) :
    sc (k1_pay47 X) K C 0 q s = (xs q0 k1 c3 0 q (b + s.val) : EReal) ∧ sc (k1_pay48 X) K C 1 q s = (xs q0 k1 c3 1 q (b + s.val) : EReal) := by
  constructor
  · unfold sc xs
    rw [EReal.coe_sub, EReal.coe_mul, hC, ← sum_coe]
    congr 1
    refine Finset.sum_congr rfl fun x _ => ?_
    rw [pay47_at, hK, hX, EReal.coe_mul]
    congr 1
    by_cases h : x.val < 64
    · rw [if_pos h, if_pos (hd_lo h), EReal.coe_mul]
    · rw [if_neg h, if_neg (by rw [hd_hi h]; decide), EReal.coe_zero]
  · unfold sc xs
    rw [EReal.coe_sub, EReal.coe_mul, hC, ← sum_coe]
    congr 1
    refine Finset.sum_congr rfl fun x _ => ?_
    rw [pay48_at, hK, hX, EReal.coe_mul]
    congr 1
    by_cases h : x.val < 64
    · rw [if_pos h, if_neg (by rw [hd_lo h]; decide), EReal.coe_zero]
    · rw [if_neg h, if_pos (hd_hi h), EReal.coe_mul]

end Score

/-- The scratch buffers' state: every lane's maximum, denominator and accumulator carry the sums `A`, `B`. -/
structure Lanes (v8 : View sig .tc .vmem S2x1x512 .f32) (v9 : View sig .tc .vmem S2x1x512 .f32) (v10 : View sig .tc .vmem S128x512 .f32)
    (f8 : BufTy.Contents (Elt Ideal) v8.ty) (f9 : BufTy.Contents (Elt Ideal) v9.ty) (f10 : BufTy.Contents (Elt Ideal) v10.ty)
    (A : Fin 2 → Fin 512 → ℝ) (B : Fin 128 → Fin 512 → ℝ) : Prop where
  den : ∀ j q, St (v8.read (Elt Ideal) f8 (ix3 j 0 q)) (v9.read (Elt Ideal) f9 (ix3 j 0 q)) (A j q)
  num : ∀ i q, St (v8.read (Elt Ideal) f8 (ix3 (hd i) 0 q)) (v10.read (Elt Ideal) f10 (ix2 i q)) (B i q)

variable {v8 : View sig .tc .vmem S2x1x512 .f32} {v9 : View sig .tc .vmem S2x1x512 .f32} {v10 : View sig .tc .vmem S128x512 .f32}
    {f8 : BufTy.Contents (Elt Ideal) v8.ty} {f9 : BufTy.Contents (Elt Ideal) v9.ty} {f10 : BufTy.Contents (Elt Ideal) v10.ty}
    {A : Fin 2 → Fin 512 → ℝ} {B : Fin 128 → Fin 512 → ℝ}

theorem Lanes.trip (h : Lanes v8 v9 v10 f8 f9 f10 A B) (Q0 Q1 : FVec Ideal S128x512 .bf16) (K : Vec Ideal S1x512x128 .f32) (V : Vec Ideal S1x128x512 .f32)
    (C : Vec Ideal S1x1x1x512x2 .f32) (x : Fin 2 → Fin 512 → Fin 512 → ℝ) (w : Fin 128 → Fin 512 → ℝ)
    (hx0 : ∀ q s, sc Q0 K C 0 q s = (x 0 q s : EReal)) (hx1 : ∀ q s, sc Q1 K C 1 q s = (x 1 q s : EReal)) (hV : ∀ i s, V (ix3 0 i s) = (w i s : EReal)) :
    Lanes v8 v9 v10
      (v8.writes (Elt Ideal) f8 (stores8 Q0 Q1 K C (v8.readAt (Elt Ideal) row0.toLoadRect f8) (v8.readAt (Elt Ideal) row1.toLoadRect f8)))
      (v9.writes (Elt Ideal) f9 (stores9 Q0 Q1 K C (v8.readAt (Elt Ideal) row0.toLoadRect f8) (v8.readAt (Elt Ideal) row1.toLoadRect f8)
        (v9.readAt (Elt Ideal) row0.toLoadRect f9) (v9.readAt (Elt Ideal) row1.toLoadRect f9)))
      (v10.writes (Elt Ideal) f10 (stores10 Q0 Q1 K V C (v8.readAt (Elt Ideal) row0.toLoadRect f8) (v8.readAt (Elt Ideal) row1.toLoadRect f8)
        (v10.readAt (Elt Ideal) whole.toLoadRect f10)))
      (fun j q => A j q + part (fun _ => True) (x j q) (fun _ => 1)) (fun i q => B i q + part (fun _ => True) (x (hd i) q) (w i)) := by
  have e0 : ∀ q s, sc Q0 K C 0 q s = if True then (x 0 q s : EReal) else ⊥ := fun q s => by rw [hx0, if_pos trivial]
  have e1 : ∀ q s, sc Q1 K C 1 q s = if True then (x 1 q s : EReal) else ⊥ := fun q s => by rw [hx1, if_pos trivial]
  have h10 : v10.readAt (Elt Ideal) whole.toLoadRect f10 = v10.read (Elt Ideal) f10 := View.readAt_full v10 f10 _
  refine ⟨Fin.forall_fin_two.mpr ⟨fun q => ?_, fun q => ?_⟩, fun i q => ?_⟩
  · unfold stores8 stores9
    rw [(read_rows v8 f8 _ _ [] q).1, (read_rows v9 f9 _ _ [] q).1, pay11_at, pay10_at, readAt_row0, readAt_row0]
    exact (h.den 0 q).next _ _ _ _ _ (e0 q) (fun _ => EReal.coe_one.symm) ⟨q, trivial⟩
  · unfold stores8 stores9
    rw [(read_rows v8 f8 _ _ [] q).2, (read_rows v9 f9 _ _ [] q).2, pay20_at, pay19_at, readAt_row1, readAt_row1]
    exact (h.den 1 q).next _ _ _ _ _ (e1 q) (fun _ => EReal.coe_one.symm) ⟨q, trivial⟩
  · unfold stores8 stores10
    rw [View.read_writes_full v10, pay52_at, h10, readAt_row0, readAt_row1]
    have hn := h.num i q
    by_cases hi : i.val < 64
    · rw [hd_lo hi] at hn ⊢
      rw [if_pos hi, (read_rows v8 f8 _ _ [] q).1, pay11_at, readAt_row0]
      exact hn.next _ _ _ _ _ (e0 q) (fun s => hV i s) ⟨q, trivial⟩
    · rw [hd_hi hi] at hn ⊢
      rw [if_neg hi, (read_rows v8 f8 _ _ [] q).2, pay20_at, readAt_row1]
      exact hn.next _ _ _ _ _ (e1 q) (fun s => hV i s) ⟨q, trivial⟩

/-- The diagonal tile and the stored quotient. -/
theorem Lanes.last {L8 : List (View.Piece (Elt Ideal) S2x1x512 .f32)} {L9 : List (View.Piece (Elt Ideal) S2x1x512 .f32)} {L10 : List (View.Piece (Elt Ideal) S128x512 .f32)}
    (h : Lanes v8 v9 v10 (v8.writes (Elt Ideal) v8.junk L8) (v9.writes (Elt Ideal) v9.junk L9) (v10.writes (Elt Ideal) v10.junk L10) A B)
    (Q0 Q1 : FVec Ideal S128x512 .bf16) (K : Vec Ideal S1x512x128 .f32) (V : Vec Ideal S1x128x512 .f32)
    (C : Vec Ideal S1x1x1x512x2 .f32) (x : Fin 2 → Fin 512 → Fin 512 → ℝ) (w : Fin 128 → Fin 512 → ℝ)
    (hx0 : ∀ q s, sc Q0 K C 0 q s = (x 0 q s : EReal)) (hx1 : ∀ q s, sc Q1 K C 1 q s = (x 1 q s : EReal)) (hV : ∀ i s, V (ix3 0 i s) = (w i s : EReal))
    (hA : ∀ j q, A j q + part (fun s => s ≤ q) (x j q) (fun _ => 1) ≠ 0) (q : Fin 512) (i : Fin 128) :
    let m0 := v8.readCov L8 row0.toLoadRect
    let l0 := v9.readCov L9 row0.toLoadRect
    let D8 : List (View.Piece (Elt Ideal) S2x1x512 .f32) := ⟨row0, k1_pay64 (k1_pay59 Q0 K C m0)⟩ :: L8
    let D9 : List (View.Piece (Elt Ideal) S2x1x512 .f32) := ⟨row0, k1_pay63 (k1_pay60 Q0 K C m0) (k1_pay61 Q0 K C m0) (k1_pay62 l0)⟩ :: L9
    let m1 := v8.readCov D8 row1.toLoadRect
    let l1 := v9.readCov D9 row1.toLoadRect
    let E9 : List (View.Piece (Elt Ideal) S2x1x512 .f32) := ⟨row1, k1_pay73 (k1_pay72 Q1 (k1_pay54 K) (k1_pay56 C) m1 l1)⟩ :: D9
    let E10 : List (View.Piece (Elt Ideal) S128x512 .f32) := ⟨whole, k1_pay75 (k1_pay55 V) (k1_pay65 (k1_pay55 V) (k1_pay60 Q0 K C m0)) (k1_pay66 (k1_pay61 Q0 K C m0))
          (k1_pay70 Q1 (k1_pay54 K) (k1_pay56 C) m1) (k1_pay71 Q1 (k1_pay54 K) (k1_pay56 C) m1) (v10.readCov L10 whole.toLoadRect)⟩ :: L10
    k1_pay76 (v9.readCov E9 row0.toLoadRect) (v9.readCov E9 row1.toLoadRect) (v10.readCov E10 whole.toLoadRect) (ix3 0 q i)
      = (((B i q + part (fun s => s ≤ q) (x (hd i) q) (w i)) / (A (hd i) q + part (fun s => s ≤ q) (x (hd i) q) (fun _ => 1)) : ℝ) : EReal) := by
  intro m0 l0 D8 D9 m1 l1 E9 E10
  have e0 : ∀ s, scD Q0 K C 0 q s = if s ≤ q then (x 0 q s : EReal) else ⊥ := fun s => by unfold scD; rw [hx0]
  have e1 : ∀ s, scD Q1 K C 1 q s = if s ≤ q then (x 1 q s : EReal) else ⊥ := fun s => by unfold scD; rw [hx1]
  have h10 : v10.readCov E10 whole.toLoadRect = k1_pay75 (k1_pay55 V) (k1_pay65 (k1_pay55 V) (k1_pay60 Q0 K C m0)) (k1_pay66 (k1_pay61 Q0 K C m0))
          (k1_pay70 Q1 (k1_pay54 K) (k1_pay56 C) m1) (k1_pay71 Q1 (k1_pay54 K) (k1_pay56 C) m1) (v10.readCov L10 whole.toLoadRect) :=
    View.readCov_full v10 _ _ _ _
  have a10 : v10.readCov L10 whole.toLoadRect = v10.read (Elt Ideal) (v10.writes (Elt Ideal) v10.junk L10) := View.readAt_full v10 _ _
  have r0 : v9.readCov E9 row0.toLoadRect (ix3 0 0 q) = _ := (readAt_row0 v9 _ q).trans (read_rows v9 _ _ _ L9 q).1
  have r1 : v9.readCov E9 row1.toLoadRect (ix3 0 0 q) = _ := (readAt_row1 v9 _ q).trans (read_rows v9 _ _ _ L9 q).2
  have hm0 : m0 (ix3 0 0 q) = _ := readAt_row0 v8 _ q
  have hl0 : l0 (ix3 0 0 q) = _ := readAt_row0 v9 _ q
  have hm1 : m1 (ix3 0 0 q) = _ := (readAt_row1 v8 _ q).trans (read_row1_of_row0 v8 _ _ L8 q)
  have hl1 : l1 (ix3 0 0 q) = _ := (readAt_row1 v9 _ q).trans (read_row1_of_row0 v9 _ _ L9 q)
  rw [pay76_at, h10, pay75_at, r0, r1, pay63_at, pay73_at, hm0, hm1, hl0, hl1, a10]
  have hn := h.num i q
  have key : ∀ (m a l : EReal) (X V : Fin 512 → EReal) (j : Fin 2) (hd' : hd i = j), St m a (B i q) → St m l (A j q) →
      (∀ s, X s = if s ≤ q then (x j q s : EReal) else ⊥) → (∀ s, V s = (w i s : EReal)) →
      Ideal.div (aNew m a V X) (aNew m l (fun _ => 1) X)
        = (((B i q + part (fun s => s ≤ q) (x (hd i) q) (w i)) / (A (hd i) q + part (fun s => s ≤ q) (x (hd i) q) (fun _ => 1)) : ℝ) : EReal) := by
    intro m a l X V j hj hB hA' hX hV
    subst hj
    obtain ⟨M, h1, h2⟩ := hB.step _ _ _ X V hX hV ⟨q, le_refl q⟩
    obtain ⟨M', h1', h2'⟩ := hA'.step _ _ _ X (fun _ => 1) hX (fun _ => EReal.coe_one.symm) ⟨q, le_refl q⟩
    have : M = M' := EReal.coe_injective (h1.symm.trans h1')
    subst this
    rw [h2, h2', div_lane (hA _ q)]
  by_cases hi : i.val < 64
  · rw [hd_lo hi] at hn
    rw [if_pos hi, if_pos hi]
    exact key _ _ _ _ _ 0 (hd_lo hi) hn (h.den 0 q) e0 (fun s => hV i s)
  · rw [hd_hi hi] at hn
    rw [if_neg hi, if_neg hi]
    exact key _ _ _ _ _ 1 (hd_hi hi) hn (h.den 1 q) e1 (fun s => hV i s)

section Run

variable (c : Dev nD) (i : grid1.Coords) (arg3 : Memref sig .tc .vmem S1x128x512 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1x4x512x2 .f32) (harg6 : arg6.IsWhole) (arg7 : Memref sig .tc .vmem S1x512x128 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S128x512 .f32) (harg10 : arg10.IsWhole)
  (q0 : Fin 128 → Fin 512 → ℝ) (k1 : ℕ → Fin 128 → ℝ) (v2 : Fin 128 → ℕ → ℝ) (c3 : ℕ → Fin 2 → ℝ)

/-- After `k` trips the scratch carries the sums over the first `512 * k` keys. -/
theorem loop_lanes (𝒱 : Variants) (bd : Option 𝒱.V) (arg2 c0 v32 : BitVec 32) (X : Vec Ideal S1x128x512 .f32) (X4 : BufTy.Contents (Elt Ideal) arg4.view.ty) (X5 : BufTy.Contents (Elt Ideal) arg5.view.ty) (X6 : BufTy.Contents (Elt Ideal) arg6.view.ty)
    (hX : ∀ x q, X (ix3 0 x q) = (q0 x q : EReal)) (h4 : ∀ (p : Fin 2048) x, arg4.view.read (Elt Ideal) X4 (ix3 0 p x) = (k1 p.val x : EReal))
    (h5 : ∀ e (p : Fin 2048), arg5.view.read (Elt Ideal) X5 (ix3 0 e p) = (v2 e p.val : EReal))
    (h6 : ∀ (t : Fin 4) (s : Fin 512) j, arg6.view.read (Elt Ideal) X6 (ix5 0 0 t s j) = (c3 (512 * t.val + s.val) j : EReal))
    (G8 : BufTy.Contents (Elt Ideal) arg8.view.ty) (G9 : BufTy.Contents (Elt Ideal) arg9.view.ty) (G10 : BufTy.Contents (Elt Ideal) arg10.view.ty)
    (hG : Lanes arg8.view arg9.view arg10.view G8 G9 G10 (fun _ _ => 0) (fun _ _ => 0)) (k : ℕ) (hk : k ≤ (k1_t1_loop i).trips) :
    let p := pb_k1_t1 (F := Ideal) 𝒱 c bd i arg3 harg3 arg4 harg4 arg5 harg5 arg6 harg6 arg7 harg7 arg8 harg8 arg9 harg9 arg10 harg10 arg2 (k1_pay47 X) (k1_pay48 X) c0 v32 X4 X5 X6 G8 G9 G10 k
    Lanes arg8.view arg9.view arg10.view (arg8.view.writes (Elt Ideal) G8 p.1) (arg9.view.writes (Elt Ideal) G9 p.2.1) (arg10.view.writes (Elt Ideal) G10 p.2.2)
      (fun j q => tot (xs q0 k1 c3 j q) (fun _ => 1) (512 * k)) (fun e q => tot (xs q0 k1 c3 (hd e) q) (v2 e) (512 * k)) := by
  induction k with
  | zero => simpa [tot, pb_k1_t1] using hG
  | succ k ih =>
    have hlt : k < (k1_t1_loop i).trips := hk
    have ht : k < 3 := by have := trips1 i; have h4 : (i 2).val < 4 := (i 2).isLt; omega
    intro p
    have hp : p = _ := pb_k1_t1_succ (F := Ideal) 𝒱 c bd i arg3 harg3 arg4 harg4 arg5 harg5 arg6 harg6 arg7 harg7 arg8 harg8 arg9 harg9 arg10 harg10 arg2 (k1_pay47 X) (k1_pay48 X) c0 v32 X4 X5 X6 G8 G9 G10 ⟨k, hlt⟩
    rw [hp, tripL_eq]
    dsimp only
    rw [View.writes_append, View.writes_append, View.writes_append]
    have hb : 512 * k + 512 ≤ 2048 := by omega
    have hs := sc_real q0 k1 c3 X _ _ (512 * k) hX
      (fun s x => (load_rows arg4.view X4 _ (k1_off1_inb i ⟨k, hlt⟩) (512 * k) hb (k1_off1_eq i ⟨k, hlt⟩) s x).trans (h4 _ x))
      (fun s j => (load_tile arg6.view X6 _ (k1_off3_inb i ⟨k, hlt⟩) ⟨k, by omega⟩ (k1_off3_eq i ⟨k, hlt⟩) s j).trans (h6 _ s j))
    have h := (ih (Nat.le_of_lt hlt)).trip _ _ _ _ _ (fun j q s => xs q0 k1 c3 j q (512 * k + s.val)) (fun e s => v2 e (512 * k + s.val))
      (fun q s => (hs q s).1) (fun q s => (hs q s).2)
      (fun e s => (load_cols arg5.view X5 _ (k1_off2_inb i ⟨k, hlt⟩) (512 * k) hb (k1_off2_eq i ⟨k, hlt⟩) e s).trans (h5 e _))
    have eA : (fun j q => tot (xs q0 k1 c3 j q) (fun _ => 1) (512 * k) + part (fun _ : Fin 512 => True) (fun s => xs q0 k1 c3 j q (512 * k + s.val)) (fun _ => 1))
        = fun j q => tot (xs q0 k1 c3 j q) (fun _ => 1) (512 * (k + 1)) := funext fun j => funext fun q => tot_full _ _ _
    have eB : (fun e q => tot (xs q0 k1 c3 (hd e) q) (v2 e) (512 * k) + part (fun _ : Fin 512 => True) (fun s => xs q0 k1 c3 (hd e) q (512 * k + s.val)) (fun s => v2 e (512 * k + s.val)))
        = fun e q => tot (xs q0 k1 c3 (hd e) q) (v2 e) (512 * (k + 1)) := funext fun e => funext fun q => tot_full _ _ _
    rw [eA, eB] at h
    exact h

/-- The output block: the causal weighted mean at every lane. -/
theorem out_at (x0 : Vec Ideal S1x128x512 .f32) (x1 : Vec Ideal S1x2048x128 .f32) (x2 : Vec Ideal S1x128x2048 .f32) (x3 : Vec Ideal S1x1x4x512x2 .f32)
    (h3 : ∀ x q, x0 (ix3 0 x q) = (q0 x q : EReal)) (h4 : ∀ (p : Fin 2048) x, x1 (ix3 0 p x) = (k1 p.val x : EReal))
    (h5 : ∀ e (p : Fin 2048), x2 (ix3 0 e p) = (v2 e p.val : EReal))
    (h6 : ∀ (t : Fin 4) (s : Fin 512) j, x3 (ix5 0 0 t s j) = (c3 (512 * t.val + s.val) j : EReal)) (q : Fin 512) (e : Fin 128) :
    out1_A_4 c i arg3 harg3 arg4 harg4 arg5 harg5 arg6 harg6 arg7 harg7 arg8 harg8 arg9 harg9 arg10 harg10 x0 x1 x2 x3 (ix3 0 q e)
      = ((tot (xs q0 k1 c3 (hd e) q) (v2 e) (512 * (i 2).val + (q.val + 1)) / tot (xs q0 k1 c3 (hd e) q) (fun _ => 1) (512 * (i 2).val + (q.val + 1)) : ℝ) : EReal) := by
  have hi4 : (i 2).val < 4 := (i 2).isLt
  obtain ⟨v33, hr⟩ := run_eq (F := Ideal) c i arg3 harg3 arg4 harg4 arg5 harg5 arg6 harg6 arg7 harg7 arg8 harg8 arg9 harg9 arg10 harg10 x0 x1 x2 x3 _ _ rfl rfl
  unfold out1_A_4
  rw [hr]
  dsimp only
  rw [View.read_writes_full, View.readAt_full, harg3.read_unread]
  have r4 : arg4.view.read (Elt Ideal) (harg4.unread x1) = x1 := harg4.read_unread _
  have r5 : arg5.view.read (Elt Ideal) (harg5.unread x2) = x2 := harg5.read_unread _
  have r6 : arg6.view.read (Elt Ideal) (harg6.unread x3) = x3 := harg6.read_unread _
  have hG : Lanes arg8.view arg9.view arg10.view
      (arg8.view.writes (Elt Ideal) arg8.view.junk [⟨Rect.unit (s := S2x1x512) ![0, 0, 0] S2x1x512.size inb_S2x1x512_S2x1x512_0_0_0, k1_pay49 (F := Ideal)⟩])
      (arg9.view.writes (Elt Ideal) arg9.view.junk [⟨Rect.unit (s := S2x1x512) ![0, 0, 0] S2x1x512.size inb_S2x1x512_S2x1x512_0_0_0, k1_pay50 (F := Ideal)⟩])
      (arg10.view.writes (Elt Ideal) arg10.view.junk [⟨whole, k1_pay51 (F := Ideal)⟩]) (fun _ _ => 0) (fun _ _ => 0) := by
    refine ⟨fun j q => ?_, fun e q => ?_⟩
    · rw [View.read_writes_full arg8.view, View.read_writes_full arg9.view, pay49_at, pay50_at]; exact St.init
    · rw [View.read_writes_full arg8.view, View.read_writes_full arg10.view, pay49_at, pay51_at]; exact St.init
  have hl := loop_lanes c i arg3 harg3 arg4 harg4 arg5 harg5 arg6 harg6 arg7 harg7 arg8 harg8 arg9 harg9 arg10 harg10 q0 k1 v2 c3 Variants.none none
    (BitVec.ofNat 32 (i 2).val) 0#32 (Scalar.muli (Scalar.divsi (Scalar.subi (BitVec.ofNat 32 (i 2).val) 0#32) 1#32) 1#32) x0 (harg4.unread x1) (harg5.unread x2) (harg6.unread x3)
    h3 (fun p x => by rw [r4, h4]) (fun e p => by rw [r5, h5]) (fun t s j => by rw [r6, h6]) _ _ _ hG _ le_rfl
  dsimp only at hl
  rw [← View.writes_append, ← View.writes_append, ← View.writes_append, trips1] at hl
  have hs := sc_real q0 k1 c3 x0 _ _ (512 * (i 2).val) h3
      (fun s x => (load_rows arg4.view (harg4.unread x1) _ (k1_off7_inb i) (512 * (i 2).val) (by omega) (k1_off7_eq i) s x).trans (by rw [r4, h4]))
      (fun s j => (load_tile arg6.view (harg6.unread x3) _ (k1_off9_inb i) ⟨(i 2).val, hi4⟩ (k1_off9_eq i) s j).trans (by rw [r6, h6]))
  rw [trips2]
  have h := hl.last _ _ _ _ _ (fun j q s => xs q0 k1 c3 j q (512 * (i 2).val + s.val)) (fun e s => v2 e (512 * (i 2).val + s.val))
      (fun q s => (hs q s).1) (fun q s => (hs q s).2)
      (fun e s => (load_cols arg5.view (harg5.unread x2) _ (k1_off8_inb i) (512 * (i 2).val) (by omega) (k1_off8_eq i) e s).trans (by rw [r5, h5]))
      (fun j q => by rw [tot_diag (xs q0 k1 c3 j q) (fun _ => 1)]; exact tot_pos _ _) q e
  rw [tot_diag (xs q0 k1 c3 (hd e) q) (v2 e), tot_diag (xs q0 k1 c3 (hd e) q) (fun _ => 1)] at h
  rw [trips1]
  exact h

end Run

end Cert.KernelIdeal.Value
end
-- ==== Proof.Value.lean ====
/- What the two calls leave in their result arrays: the running sums of the decays, and the attention of every query. -/
module

public import proofs.«01_k».proof.Proof.Scan
public import proofs.«01_k».proof.Proof.Body
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen Cert.Attn
open Idealize.ShloMosaic.Pipeline (Dat)

variable (V : (c : Dev nD) → (b : Ref sig .tc) → Buf (Elt Ideal) ((c : Thread nD τ).loc b))

theorem idx0 : ∀ t : Fin cfg0.N, win0_0.index t = ![t.val, 0, 0] ∧ win0_1.index t = ![t.val, 0, 0] ∧ t.val < 8 :=
  (by decide +kernel : ∀ t : Fin grid0.N, _)

theorem idx1 : ∀ t : Fin cfg1.N, win1_0.index t = ![(grid1.coords t 0).val, (grid1.coords t 1).val, (grid1.coords t 2).val]
    ∧ win1_1.index t = ![(grid1.coords t 0).val, 0, (grid1.coords t 1).val]
    ∧ win1_2.index t = ![(grid1.coords t 0).val, (grid1.coords t 1).val, 0]
    ∧ win1_3.index t = ![(grid1.coords t 0).val, (grid1.coords t 1).val, 0, 0, 0]
    ∧ win1_4.index t = ![(grid1.coords t 0).val, (grid1.coords t 2).val, (grid1.coords t 1).val] :=
  (by decide +kernel : ∀ t : Fin grid1.N, _)

theorem blk0_0 (c : Dev nD) (t : Fin cfg0.N) (h : Fin 16) (p : Fin 2048) :
    iblk0 V c 0 t (ix3 0 h p) = V c main_v4 (ix3 (⟨t.val, (idx0 t).2.2⟩ : Fin 8) h p) := by
  blk_ext [iblk0, idx0 t]

/-- The first call's result: the decays summed up to every position. -/
theorem cum_at (c : Dev nD) (f : Fin 8 → Fin 16 → ℕ → ℝ) (hX : ∀ b h (p : Fin 2048), V c main_v4 (ix3 b h p) = (f b h p.val : EReal)) :
    (dat0 V c).arrAt 1 cfg0.N = fun i : S8x16x2048.Idx => ((pre (f (i 0) (i 1)) ((i 2).val + 1) : ℝ) : EReal) := by
  refine (dat0 V c).arrAt_eq_of_covers 1 _ (by decide +kernel) fun t _ y => ?_
  have he : ((cfg0.win 1).blk t).view.emb y = (ix3 (⟨t.val, (idx0 t).2.2⟩ : Fin 8) (y 1) (y 2) : S8x16x2048.Idx) := by blk_ext [idx0 t]
  have hy : y = (ix3 (0 : Fin 1) (y 1) (y 2) : S1x16x2048.Idx) := by blk_ext
  rw [he]
  blk_simp
  rw [after0_1]
  unfold out0_1
  frame_out
  rw [hy]
  exact scan_at (f (⟨t.val, (idx0 t).2.2⟩ : Fin 8)) (iblk0 V c 0 t) (fun h p => (blk0_0 V c t h p).trans (hX _ h p)) (y 1) (y 2)

theorem blk1_0 (c : Dev nD) (t : Fin cfg1.N) (x : Fin 128) (q : Fin 512) : iblk1 V c 0 t (ix3 0 x q)
    = V c main_v1 (ix3 (grid1.coords t 0) (⟨(grid1.coords t 1).val * 128 + x.val, by have := (grid1.coords t 1).isLt; change _ < 8 at this; omega⟩ : Fin 1024)
        (⟨(grid1.coords t 2).val * 512 + q.val, by have := (grid1.coords t 2).isLt; change _ < 4 at this; omega⟩ : Fin 2048)) := by
  blk_ext [iblk1, idx1 t]

theorem blk1_1 (c : Dev nD) (t : Fin cfg1.N) (p : Fin 2048) (x : Fin 128) : iblk1 V c 1 t (ix3 0 p x)
    = V c main_v6 (ix3 (grid1.coords t 0) p (⟨(grid1.coords t 1).val * 128 + x.val, by have := (grid1.coords t 1).isLt; change _ < 8 at this; omega⟩ : Fin 1024)) := by
  blk_ext [iblk1, idx1 t]

theorem blk1_2 (c : Dev nD) (t : Fin cfg1.N) (x : Fin 128) (p : Fin 2048) : iblk1 V c 2 t (ix3 0 x p)
    = V c main_v3 (ix3 (grid1.coords t 0) (⟨(grid1.coords t 1).val * 128 + x.val, by have := (grid1.coords t 1).isLt; change _ < 8 at this; omega⟩ : Fin 1024) p) := by
  blk_ext [iblk1, idx1 t]

theorem blk1_3 (c : Dev nD) (t : Fin cfg1.N) (u : Fin 4) (s : Fin 512) (j : Fin 2) : iblk1 V c 3 t (ix5 0 0 u s j)
    = V c main_v8 (ix5 (grid1.coords t 0) (grid1.coords t 1) u s j) := by
  blk_ext [iblk1, idx1 t]

/-- The head and the lane within it of a column of the heads laid side by side. -/
def hh (y : Fin 1024) : Fin 16 := ⟨y.val / 64, by omega⟩
def dd (y : Fin 1024) : Fin 64 := ⟨y.val % 64, by omega⟩

/-- The kernel's exponent over two heads side by side is the exponent of the head picked out. -/
theorem xs_expo (q0 : Fin 128 → Fin 512 → ℝ) (k1 : ℕ → Fin 128 → ℝ) (c3 : ℕ → Fin 2 → ℝ) (j : Fin 2) (q : Fin 512)
    (qq : Fin 64 → ℝ) (kk : ℕ → Fin 64 → ℝ) (f : ℕ → ℝ) (hq : ∀ y : Fin 64, q0 ⟨64 * j.val + y.val, by omega⟩ q = qq y)
    (hk : ∀ p (y : Fin 64), k1 p ⟨64 * j.val + y.val, by omega⟩ = kk p y) (hc : ∀ p, c3 p j = pre f (p + 1)) :
    xs q0 k1 c3 j q = expo qq kk f := by
  funext p
  have h2 : Real.log 2 ≠ 0 := (Real.log_pos one_lt_two).ne'
  have e : ∑ x : Fin 128, k1 p x * (if hd x = j then q0 x q * (8 * Real.log 2)⁻¹ else 0) = ∑ y : Fin 64, kk p y * (qq y * (8 * Real.log 2)⁻¹) := by
    refine (Fin.sum_univ_add (a := 64) (b := 64) fun x : Fin 128 => k1 p x * (if hd x = j then q0 x q * (8 * Real.log 2)⁻¹ else 0)).trans ?_
    have hlo : ∀ y : Fin 64, hd (Fin.castAdd 64 y) = 0 := fun y => if_pos y.isLt
    have hhi : ∀ y : Fin 64, hd (Fin.natAdd 64 y) = 1 := fun y => if_neg (by show ¬ 64 + y.val < 64; omega)
    simp only [hlo, hhi]
    match j, hq, hk with
    | 0, hq, hk =>
      simp only [if_true, show (1 : Fin 2) = 0 ↔ False by decide, if_false, mul_zero, Finset.sum_const_zero, add_zero]
      refine Finset.sum_congr rfl fun y _ => ?_
      rw [← hq, ← hk]
      congr <;> exact Fin.ext (by show y.val = 64 * 0 + y.val; omega)
    | 1, hq, hk =>
      simp only [if_true, show (0 : Fin 2) = 1 ↔ False by decide, if_false, mul_zero, Finset.sum_const_zero, zero_add]
      refine Finset.sum_congr rfl fun y _ => ?_
      rw [← hq, ← hk]
      congr <;> exact Fin.ext (by show 64 + y.val = 64 * 1 + y.val; omega)
  unfold xs expo
  rw [e, hc, sub_mul, Finset.sum_mul, Finset.sum_mul, mul_inv]
  congr 1
  exact Finset.sum_congr rfl fun y _ => by ring

/-- The second call's result: the attention of every query over the keys up to its own. -/
theorem attn_at (c : Dev nD) (q : Fin 8 → Fin 2048 → Fin 16 → Fin 64 → ℝ) (k v : Fin 8 → ℕ → Fin 16 → Fin 64 → ℝ) (f : Fin 8 → ℕ → Fin 16 → ℝ)
    (hQ : ∀ b y t, V c main_v1 (ix3 b y t) = (q b t (hh y) (dd y) : EReal)) (hK : ∀ b (p : Fin 2048) y, V c main_v6 (ix3 b p y) = (k b p.val (hh y) (dd y) : EReal))
    (hV : ∀ b y (p : Fin 2048), V c main_v3 (ix3 b y p) = (v b p.val (hh y) (dd y) : EReal))
    (hC : ∀ b (g : Fin 8) (u : Fin 4) (s : Fin 512) (j : Fin 2), V c main_v8 (ix5 b g u s j)
      = (pre (fun p => f b p ⟨2 * g.val + j.val, by omega⟩) (512 * u.val + s.val + 1) : EReal)) :
    (dat1 V c).arrAt 4 cfg1.N = fun i : S8x2048x1024.Idx =>
      ((attn (q (i 0) (i 1) (hh (i 2))) (fun p => k (i 0) p (hh (i 2))) (fun p => f (i 0) p (hh (i 2))) (fun p => v (i 0) p (hh (i 2)) (dd (i 2))) ((i 1).val + 1) : ℝ) : EReal) := by
  refine (dat1 V c).arrAt_eq_of_covers 4 _ (by decide +kernel) fun t _ y => ?_
  have l1 : (grid1.coords t 1).val < 8 := (grid1.coords t 1).isLt
  have l2 : (grid1.coords t 2).val < 4 := (grid1.coords t 2).isLt
  have m1 : (y 1).val < 512 := (y 1).isLt
  have m2 : (y 2).val < 128 := (y 2).isLt
  have he : ((cfg1.win 4).blk t).view.emb y = (ix3 (grid1.coords t 0) (⟨(grid1.coords t 2).val * 512 + (y 1).val, by omega⟩ : Fin 2048)
      (⟨(grid1.coords t 1).val * 128 + (y 2).val, by omega⟩ : Fin 1024) : S8x2048x1024.Idx) := by blk_ext [idx1 t]
  have hy : y = (ix3 (0 : Fin 1) (y 1) (y 2) : S1x512x128.Idx) := by blk_ext
  rw [he]
  blk_simp
  rw [after1_4]
  refine (congrArg (outsAt1 V c t) hy).trans ?_
  unfold outsAt1
  refine (out_at c (grid1.coords t) _ _ _ _ _ _ _ _ _ _ _ _ _ _ _ _
    (fun x s => q (grid1.coords t 0) ⟨(grid1.coords t 2).val * 512 + s.val, by omega⟩ (hh ⟨(grid1.coords t 1).val * 128 + x.val, by omega⟩) (dd ⟨(grid1.coords t 1).val * 128 + x.val, by omega⟩))
    (fun p x => k (grid1.coords t 0) p (hh ⟨(grid1.coords t 1).val * 128 + x.val, by omega⟩) (dd ⟨(grid1.coords t 1).val * 128 + x.val, by omega⟩))
    (fun x p => v (grid1.coords t 0) p (hh ⟨(grid1.coords t 1).val * 128 + x.val, by omega⟩) (dd ⟨(grid1.coords t 1).val * 128 + x.val, by omega⟩))
    (fun p j => pre (fun p => f (grid1.coords t 0) p ⟨2 * (grid1.coords t 1).val + j.val, by omega⟩) (p + 1))
    _ _ _ _ (fun x s => (blk1_0 V c t x s).trans (hQ _ _ _)) (fun p x => (blk1_1 V c t p x).trans (hK _ _ _)) (fun x p => (blk1_2 V c t x p).trans (hV _ _ _))
    (fun u s j => (blk1_3 V c t u s j).trans (hC _ _ u s j)) (y 1) (y 2)).trans ?_
  have hj : (hd (y 2)).val = (y 2).val / 64 := by
    unfold hd
    split
    · show 0 = _; omega
    · show 1 = _; omega
  have hf : (⟨2 * (grid1.coords t 1).val + (hd (y 2)).val, by omega⟩ : Fin 16) = hh ⟨(grid1.coords t 1).val * 128 + (y 2).val, by omega⟩ :=
    Fin.ext (by show _ = _ / 64; dsimp only; omega)
  rw [xs_expo _ _ _ (hd (y 2)) (y 1)
    (q (grid1.coords t 0) ⟨(grid1.coords t 2).val * 512 + (y 1).val, by omega⟩ (hh ⟨(grid1.coords t 1).val * 128 + (y 2).val, by omega⟩))
    (fun p => k (grid1.coords t 0) p (hh ⟨(grid1.coords t 1).val * 128 + (y 2).val, by omega⟩))
    (fun p => f (grid1.coords t 0) p (hh ⟨(grid1.coords t 1).val * 128 + (y 2).val, by omega⟩))
    (fun z => congrArg₂ (q (grid1.coords t 0) _) (Fin.ext (by show _ / 64 = _ / 64; dsimp only; omega)) (Fin.ext (by show _ % 64 = z.val; dsimp only; omega)))
    (fun p z => congrArg₂ (k (grid1.coords t 0) p) (Fin.ext (by show _ / 64 = _ / 64; dsimp only; omega)) (Fin.ext (by show _ % 64 = z.val; dsimp only; omega)))
    (fun p => congrArg (fun h : Fin 16 => pre (fun p => f (grid1.coords t 0) p h) (p + 1)) hf)]
  have hn : 512 * (grid1.coords t 2).val + ((y 1).val + 1) = (grid1.coords t 2).val * 512 + (y 1).val + 1 := by omega
  rw [hn]
  rfl

end Cert.KernelIdeal.Value
end
-- ==== Proof.Host.lean ====
/- The host code around the two calls read at an index, and the kernel's run: its result array holds the attention of its arguments. -/
module

public import proofs.«01_k».proof.Proof.Value
public import Idealize.ShloMosaic.Lib.StableHlo.ReadAt
public import Idealize.ShloMosaic.Lib.Claim

@[expose] public section

set_option maxRecDepth 16384

noncomputable section

namespace Cert.KernelIdeal.Value

open Idealize.ShloMosaic Idealize.ShloMosaic.TcCoe Idealize.SL.Sem Cert.KernelIdeal Cert.KernelIdeal.Gen Cert.Attn

variable (m : (ℓ : Loc nD τ sig) → Buf (Elt Ideal) ℓ) (ρ : Dev nD → PrngReg) (c : Dev nD)

theorem v1_at (b : Fin 8) (y : Fin 1024) (t : Fin 2048) :
    V3 m ρ c main_v1 (ix3 b y t) = m ((c.tc : Thread nD τ).loc main_arg0) (ix4 b t (hh y) (dd y)) := by
  have e : V3 m ρ c main_v1 = W1 m ρ c (Proc.devRef .tc main_v1) := (W3_of m ρ c main_v1 (by decide)).trans (W2_of m ρ c main_v1 (by decide))
  rw [e]
  after_reads_at
  blk_ext [hh, dd]

theorem v3_at (b : Fin 8) (y : Fin 1024) (t : Fin 2048) :
    V3 m ρ c main_v3 (ix3 b y t) = m ((c.tc : Thread nD τ).loc main_arg2) (ix4 b t (hh y) (dd y)) := by
  have e : V3 m ρ c main_v3 = W1 m ρ c (Proc.devRef .tc main_v3) := (W3_of m ρ c main_v3 (by decide)).trans (W2_of m ρ c main_v3 (by decide))
  rw [e]
  after_reads_at
  blk_ext [hh, dd]

theorem v4_at (b : Fin 8) (h : Fin 16) (p : Fin 2048) :
    V1 m ρ c main_v4 (ix3 b h p) = m ((c.tc : Thread nD τ).loc main_arg3) (ix3 b p h) := by
  show W1 m ρ c (Proc.devRef .tc main_v4) _ = _
  after_reads_at

theorem v6_read (W : Valuation τ sig (Elt Ideal)) (b : Fin 8) (p : Fin 2048) (y : Fin 1024) :
    StableHlo.after (hostOps1 (F := Ideal)) W (Proc.devRef .tc main_v6) (ix3 b p y) = W (Proc.devRef .tc main_arg1) (ix4 b p (hh y) (dd y)) := by
  after_reads_at
  blk_ext [hh, dd]

theorem v6_at (b : Fin 8) (p : Fin 2048) (y : Fin 1024) :
    V3 m ρ c main_v6 (ix3 b p y) = m ((c.tc : Thread nD τ).loc main_arg1) (ix4 b p (hh y) (dd y)) :=
  (v6_read (W2 m ρ c) b p y).trans (congrFun (W2_args m ρ c main_arg1 (by decide)) _)

theorem v8_read (W : Valuation τ sig (Elt Ideal)) (b g : Fin 8) (u : Fin 4) (s : Fin 512) (j : Fin 2) :
    StableHlo.after (hostOps1 (F := Ideal)) W (Proc.devRef .tc main_v8) (ix5 b g u s j)
      = W (Proc.devRef .tc main_v5) (ix3 b (⟨2 * g.val + j.val, by omega⟩ : Fin 16) (⟨512 * u.val + s.val, by omega⟩ : Fin 2048)) := by
  after_reads_at
  blk_ext []

theorem v8_at (b g : Fin 8) (u : Fin 4) (s : Fin 512) (j : Fin 2) :
    V3 m ρ c main_v8 (ix5 b g u s j) = (dat0 (V1 m ρ) c).arrAt 1 cfg0.N (ix3 b (⟨2 * g.val + j.val, by omega⟩ : Fin 16) (⟨512 * u.val + s.val, by omega⟩ : Fin 2048)) :=
  (v8_read (W2 m ρ c) b g u s j).trans (congrFun (W2_arr m ρ c 1) _)

/-- The result array over real arguments: the attention of every query. -/
theorem final (q : Fin 8 → Fin 2048 → Fin 16 → Fin 64 → ℝ) (k v : Fin 8 → ℕ → Fin 16 → Fin 64 → ℝ) (f : Fin 8 → ℕ → Fin 16 → ℝ)
    (hQ : ∀ b t h y, m ((c.tc : Thread nD τ).loc main_arg0) (ix4 b t h y) = (q b t h y : EReal))
    (hK : ∀ b (p : Fin 2048) h y, m ((c.tc : Thread nD τ).loc main_arg1) (ix4 b p h y) = (k b p.val h y : EReal))
    (hV : ∀ b (p : Fin 2048) h y, m ((c.tc : Thread nD τ).loc main_arg2) (ix4 b p h y) = (v b p.val h y : EReal))
    (hL : ∀ b (p : Fin 2048) h, m ((c.tc : Thread nD τ).loc main_arg3) (ix3 b p h) = (f b p.val h : EReal)) :
    (dat1 (V3 m ρ) c).arrAt 4 cfg1.N = fun i : S8x2048x1024.Idx =>
      ((attn (q (i 0) (i 1) (hh (i 2))) (fun p => k (i 0) p (hh (i 2))) (fun p => f (i 0) p (hh (i 2))) (fun p => v (i 0) p (hh (i 2)) (dd (i 2))) ((i 1).val + 1) : ℝ) : EReal) :=
  attn_at (V3 m ρ) c q k v f (fun b y t => (v1_at m ρ c b y t).trans (hQ _ _ _ _)) (fun b p y => (v6_at m ρ c b p y).trans (hK _ _ _ _))
    (fun b y p => (v3_at m ρ c b y p).trans (hV _ _ _ _))
    (fun b g u s j => (v8_at m ρ c b g u s j).trans
      (congrFun (cum_at (V1 m ρ) c (fun b h p => f b p h) fun b h p => (v4_at m ρ c b h p).trans (hL b p h)) _))

end Cert.KernelIdeal.Value
end
-- ==== Proof.Run.lean ====
/- The kernel's run with the contents it leaves: the result array holds what the second call's points wrote. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the kernel ends with its result array at what the second call's write-backs leave, its arguments as launched. -/
theorem run : θ_run defs (onTc (τ := τ) (main (F := F))) ⟨m, fun _ => 0, ρ⟩ (fun r => ∀ c : Dev nD,
      r.2.mem ((c.tc : Thread nD τ).loc main_v9) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v9 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Value
end
-- ==== Proof.Ref.lean ====
/- The reference read at an index: the score of a key, the running maximum, the weights and their mean. -/
module

public import proofs.«01_k».proof.Proof.Gen.ReferenceIdeal.Run
public import proofs.«01_k».proof.Proof.Softmax
public import Idealize.ShloMosaic.Lib.WordCmp
public import Idealize.ShloMosaic.Lib.Pipeline.ValueKit

@[expose] public section

set_option maxRecDepth 16384

noncomputable section

namespace Cert.ReferenceIdeal.Value

open Idealize.ShloMosaic Idealize.ShloMosaic.TcCoe Idealize.SL.Sem Cert.ReferenceIdeal Cert.ReferenceIdeal.Gen Cert.Attn

variable (Q K V : FVec Ideal S8x2048x16x64 .f32) (L : FVec Ideal S8x2048x16 .f32)

/-- Sum from each position to the end, by the window the reference prints. -/
def win : FVec Ideal S8x2048x16 .f32 :=
  Host.reduceWindowAdd ![1, 2048, 1] ![1, 1, 1] ![0, 0, 0] ![0, 2047, 0] L (broadcastInDim S_ ![] bcast_S_S_ (constant S_ .f32 0x00000000#32))
    reduceWindows_S8x2048x16_S8x2048x16_w1s1p0_0_w2048s1p0_2047_w1s1p0_0 h_S_

/-- The decay after each position, head-major. -/
def suf : FVec Ideal S8x16x2048 .f32 := transpose S8x16x2048 [0, 2, 1] (subf (win L) L) transposes_S8x2048x16_S8x16x2048_0_2_1

def score : FVec Ideal S8x16x2048x2048 .f32 :=
  subf (addf (mulf (Host.dotGeneral dot_S8x2048x16x64_S8x2048x16x64_S8x16x2048x2048_3_3_1_1_02_02 none Q K) (broadcastInDim S8x16x2048x2048 ![] bcast_S_S8x16x2048x2048 (constant S_ .f32 0x3E000000#32)))
      (broadcastInDim S8x16x2048x2048 ![0, 1, 2, 3] bcast_S8x16x1x2048_S8x16x2048x2048_0_1_2_3 (broadcastInDim S8x16x1x2048 ![0, 1, 3] bcast_S8x16x2048_S8x16x1x2048_0_1_3 (suf L))))
    (broadcastInDim S8x16x2048x2048 ![0, 1, 2, 3] bcast_S8x16x2048x1_S8x16x2048x2048_0_1_2_3 (broadcastInDim S8x16x2048x1 ![0, 1, 2] bcast_S8x16x2048_S8x16x2048x1_0_1_2 (suf L)))

def masked (S : FVec Ideal S8x16x2048x2048 .f32) : FVec Ideal S8x16x2048x2048 .f32 :=
  select (broadcastInDim S8x16x2048x2048 ![2, 3] bcast_S2048x2048_S8x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    S (broadcastInDim S8x16x2048x2048 ![] bcast_S_S8x16x2048x2048 (id (constant S_ .f32 0xFF800000#32)))

def top (M : FVec Ideal S8x16x2048x2048 .f32) : FVec Ideal S8x16x2048 .f32 :=
  maximumf (broadcastInDim S8x16x2048 ![] bcast_S_S8x16x2048 (constant S_ .f32 0xFF800000#32))
    (Host.reduce FloatOps.maximumf M (constant S_ .f32 0xFF800000#32) reducesTo_S8x16x2048x2048_S8x16x2048_d3 h_S_)

def weight (M : FVec Ideal S8x16x2048x2048 .f32) : FVec Ideal S8x16x2048x2048 .f32 :=
  Host.exp (subf M (broadcastInDim S8x16x2048x2048 ![0, 1, 2, 3] bcast_S8x16x2048x1_S8x16x2048x2048_0_1_2_3 (broadcastInDim S8x16x2048x1 ![0, 1, 2] bcast_S8x16x2048_S8x16x2048x1_0_1_2 (top M))))

def mean (E : FVec Ideal S8x16x2048x2048 .f32) : FVec Ideal S8x2048x1024 .bf16 :=
  truncf .bf16 (shapeCast S8x2048x1024 (transpose S8x2048x16x64 [0, 3, 1, 2] (Host.dotGeneral dot_S8x2048x16x64_S8x16x2048x2048_S8x16x64x2048_1_3_3_2_02_01 none V
    (Host.divf E (broadcastInDim S8x16x2048x2048 ![0, 1, 2, 3] bcast_S8x16x2048x1_S8x16x2048x2048_0_1_2_3 (broadcastInDim S8x16x2048x1 ![0, 1, 2] bcast_S8x16x2048_S8x16x2048x1_0_1_2
      (Host.reduceAdd E (constant S_ .f32 0x00000000#32) reducesTo_S8x16x2048x2048_S8x16x2048_d3 h_S_)))))
    transposes_S8x16x64x2048_S8x2048x16x64_0_3_1_2) shapeCasts_S8x2048x16x64_S8x2048x1024) bitsLt_bf16_f32

theorem res_eq (m : (ℓ : Loc nD τ sig) → Buf (Elt Ideal) ℓ) (c : Dev nD) :
    res_main_v33 (F := Ideal) m c = mean (m ((c.tc : Thread nD τ).loc main_arg2))
      (weight (masked (score (m ((c.tc : Thread nD τ).loc main_arg0)) (m ((c.tc : Thread nD τ).loc main_arg1)) (m ((c.tc : Thread nD τ).loc main_arg3))))) := rfl

theorem foldl_add {β : Type} (l : List β) (g : β → EReal) (a : EReal) : l.foldl (fun r n => r + g n) a = a + (l.map g).sum := by
  induction l generalizing a with
  | nil => simp
  | cons b l ih => rw [List.foldl_cons, ih, List.map_cons, List.sum_cons, add_assoc]

theorem win_at (b : Fin 8) (t : Fin 2048) (h : Fin 16) :
    win L (ix3 b t h) = ∑ r : Fin 2048, if hr : t.val + r.val < 2048 then L (ix3 b (⟨t.val + r.val, hr⟩ : Fin 2048) h) else 0 := by
  have hz : Ideal.ofBits .f32 0x00000000#32 = 0 := by simp [Ideal.ofBits, Ideal.ieee]
  unfold win Host.reduceWindowAdd
  rw [Ideal.hostReduceWindowAdd_def]
  unfold Ideal.hostReduceWindowAdd Host.reduceWindow
  dsimp only
  rw [foldl_add, ← Fin.sum_univ_def]
  have e0 : (broadcastInDim S_ ![] bcast_S_S_ (constant S_ .f32 0x00000000#32) : FVec Ideal S_ .f32) (Shape.Idx.first h_S_) = 0 := hz
  rw [e0, zero_add]
  have hW := Equiv.sum_comp (Shape.rowMajor (⟨3, ![1, 2048, 1]⟩ : Shape)).symm (fun w : (⟨3, ![1, 2048, 1]⟩ : Shape).Idx =>
    if hr : t.val + (w 1).val < 2048 then L (ix3 b (⟨t.val + (w 1).val, hr⟩ : Fin 2048) h) else 0)
  refine (Finset.sum_congr rfl fun i _ => ?_).trans (hW.trans ?_)
  · let w := (Shape.rowMajor (⟨3, ![1, 2048, 1]⟩ : Shape)).symm i
    change _ = if hr : t.val + (w 1).val < 2048 then L (ix3 b (⟨t.val + (w 1).val, hr⟩ : Fin 2048) h) else 0
    have h0 : (w 0).val < 1 := (w 0).isLt
    have h2 : (w 2).val < 1 := (w 2).isLt
    by_cases hr : t.val + (w 1).val < 2048
    · rw [dif_pos hr, dif_pos (Fin.forall_fin_succ.mpr ⟨⟨Nat.zero_le _, by show b.val * 1 + (w 0).val - 0 < 8; omega⟩, Fin.forall_fin_two.mpr
        ⟨⟨Nat.zero_le _, by show t.val * 1 + (w 1).val - 0 < 2048; omega⟩, ⟨Nat.zero_le _, by show h.val * 1 + (w 2).val - 0 < 16; omega⟩⟩⟩)]
      refine congrArg L (funext (Fin.forall_fin_succ.mpr ⟨Fin.ext ?_, Fin.forall_fin_two.mpr ⟨Fin.ext ?_, Fin.ext ?_⟩⟩))
      · show b.val * 1 + (w 0).val - 0 = b.val; omega
      · show t.val * 1 + (w 1).val - 0 = t.val + (w 1).val; omega
      · show h.val * 1 + (w 2).val - 0 = h.val; omega
    · rw [dif_neg hr, dif_neg]
      intro hin
      have := (hin 1).2
      change t.val * 1 + (w 1).val - 0 < 2048 at this
      omega
  · rw [sum_idx3]
    refine (Finset.sum_eq_single (0 : Fin 1) (fun b _ hb => absurd (Subsingleton.elim b 0) hb) (fun h => absurd (Finset.mem_univ _) h)).trans ?_
    refine Finset.sum_congr rfl fun r _ => ?_
    exact Finset.sum_eq_single (0 : Fin 1) (fun b _ hb => absurd (Subsingleton.elim b 0) hb) (fun h => absurd (Finset.mem_univ _) h)

theorem suf_at (b : Fin 8) (h : Fin 16) (t : Fin 2048) : suf L (ix3 b h t) = win L (ix3 b t h) - L (ix3 b t h) := by
  pointwise [suf]

theorem score_at (b : Fin 8) (h : Fin 16) (t s : Fin 2048) :
    score Q K L (ix4 b h t s) = (∑ y : Fin 64, Q (ix4 b t h y) * K (ix4 b s h y)) * Ideal.ofBits .f32 0x3E000000#32 + suf L (ix3 b h s) - suf L (ix3 b h t) := by
  pointwise [score]

theorem masked_at (S : FVec Ideal S8x16x2048x2048 .f32) (b : Fin 8) (h : Fin 16) (t s : Fin 2048) :
    masked S (ix4 b h t s) = if s ≤ t then S (ix4 b h t s) else ⊥ := by
  have hn : Ideal.ofBits .f32 0xFF800000#32 = ⊥ := by simp [Ideal.ofBits, Ideal.ieee]
  pointwise [masked, hn]
  exact select_sle (by omega) (by omega) _ _

/-- A maximum along the last of four axes, at an index. -/
theorem max_last {n0 n1 n2 n3 : ℕ} {u : Shape} (h : (⟨4, ![n0, n1, n2, n3]⟩ : Shape).ReducesTo [3] (⟨3, ![n0, n1, n2]⟩ : Shape))
    (hu : 0 < u.numel) (A : FVec Ideal (⟨3, ![n0, n1, n2]⟩ : Shape) .f32) (c : FVec Ideal u .f32) (M : FVec Ideal (⟨4, ![n0, n1, n2, n3]⟩ : Shape) .f32)
    (i : Fin n0) (j : Fin n1) (k : Fin n2) (a : EReal) (ha : A (ix3 i j k) = a) (hc : c (Shape.Idx.first hu) = a) :
    maximumf A (Host.reduce FloatOps.maximumf M c h hu) (ix3 i j k) = max a (Finset.univ.fold max a fun s : Fin n3 => M (ix4 i j k s)) := by
  subst hc
  pointwise [ha]

theorem top_at (M : FVec Ideal S8x16x2048x2048 .f32) (b : Fin 8) (h : Fin 16) (t : Fin 2048) :
    top M (ix3 b h t) = max ⊥ (Finset.univ.fold max ⊥ fun s : Fin 2048 => M (ix4 b h t s)) := by
  have hn : Ideal.ofBits .f32 0xFF800000#32 = ⊥ := by simp [Ideal.ofBits, Ideal.ieee]
  unfold top
  exact max_last _ _ _ _ M b h t ⊥ hn hn

theorem weight_at (M : FVec Ideal S8x16x2048x2048 .f32) (b : Fin 8) (h : Fin 16) (t s : Fin 2048) :
    weight M (ix4 b h t s) = Ideal.exp (M (ix4 b h t s) - max ⊥ (Finset.univ.fold max ⊥ fun s : Fin 2048 => M (ix4 b h t s))) := by
  pointwise [weight, top_at]

theorem mean_at (E : FVec Ideal S8x16x2048x2048 .f32) (b : Fin 8) (h : Fin 16) (t : Fin 2048) (d : Fin 64) :
    mean V E (ix3 b t (⟨h.val * 64 + d.val, by omega⟩ : Fin 1024))
      = ∑ s : Fin 2048, V (ix4 b s h d) * Ideal.div (E (ix4 b h t s)) (∑ s : Fin 2048, E (ix4 b h t s)) := by
  pointwise [mean]

theorem eighth : Ideal.ofBits .f32 0x3E000000#32 = (((8 : ℝ)⁻¹ : ℝ) : EReal) := by
  simp [Ideal.ofBits, Ideal.ieee, -EReal.coe_mul]
  norm_num

/-- A sum from a position to the end is the whole sum less the sum up to the position. -/
theorem tail_sum (f : ℕ → ℝ) (t N : ℕ) (h : t ≤ N) : ∑ r ∈ Finset.range N, (if t + r < N then f (t + r) else 0) = pre f N - pre f t := by
  obtain ⟨n, rfl⟩ := Nat.exists_eq_add_of_le h
  unfold pre
  rw [Finset.sum_range_add (fun r => f r), add_sub_cancel_left]
  refine (Finset.sum_subset (Finset.range_mono (Nat.le_add_left n t)) fun r _ hr => if_neg ?_).symm.trans (Finset.sum_congr rfl fun r hr => if_pos ?_)
  · rw [Finset.mem_range] at hr; omega
  · rw [Finset.mem_range] at hr; omega

variable {Q K V L} {q : Fin 8 → Fin 2048 → Fin 16 → Fin 64 → ℝ} {k v : Fin 8 → ℕ → Fin 16 → Fin 64 → ℝ} {f : Fin 8 → ℕ → Fin 16 → ℝ}

theorem win_real (hL : ∀ b (p : Fin 2048) h, L (ix3 b p h) = (f b p.val h : EReal)) (b : Fin 8) (t : Fin 2048) (h : Fin 16) :
    win L (ix3 b t h) = ((pre (fun p => f b p h) 2048 - pre (fun p => f b p h) t.val : ℝ) : EReal) := by
  rw [win_at, ← tail_sum _ _ _ t.isLt.le, Finset.sum_range, ← sum_coe]
  refine Finset.sum_congr rfl fun r _ => ?_
  split
  · exact hL b _ h
  · rfl

theorem suf_real (hL : ∀ b (p : Fin 2048) h, L (ix3 b p h) = (f b p.val h : EReal)) (b : Fin 8) (h : Fin 16) (t : Fin 2048) :
    suf L (ix3 b h t) = ((pre (fun p => f b p h) 2048 - pre (fun p => f b p h) (t.val + 1) : ℝ) : EReal) := by
  rw [suf_at, win_real hL, hL, ← EReal.coe_sub]
  congr 1
  have e : pre (fun p => f b p h) (t.val + 1) = pre (fun p => f b p h) t.val + f b t.val h := Finset.sum_range_succ _ _
  rw [e]
  ring

theorem score_real (hQ : ∀ b t h y, Q (ix4 b t h y) = (q b t h y : EReal)) (hK : ∀ b (p : Fin 2048) h y, K (ix4 b p h y) = (k b p.val h y : EReal))
    (hL : ∀ b (p : Fin 2048) h, L (ix3 b p h) = (f b p.val h : EReal)) (b : Fin 8) (h : Fin 16) (t s : Fin 2048) :
    score Q K L (ix4 b h t s) = (((∑ y, q b t h y * k b s.val h y) * 8⁻¹ + (pre (fun p => f b p h) 2048 - pre (fun p => f b p h) (s.val + 1))
      - (pre (fun p => f b p h) 2048 - pre (fun p => f b p h) (t.val + 1)) : ℝ) : EReal) := by
  rw [score_at, suf_real hL, suf_real hL, eighth]
  simp only [hQ, hK, ← EReal.coe_mul, sum_coe, ← EReal.coe_add, ← EReal.coe_sub]

/-- The reference's result at a batch, a query and a head's lane. -/
theorem ref_at (hQ : ∀ b t h y, Q (ix4 b t h y) = (q b t h y : EReal)) (hK : ∀ b (p : Fin 2048) h y, K (ix4 b p h y) = (k b p.val h y : EReal))
    (hV : ∀ b (p : Fin 2048) h y, V (ix4 b p h y) = (v b p.val h y : EReal)) (hL : ∀ b (p : Fin 2048) h, L (ix3 b p h) = (f b p.val h : EReal))
    (b : Fin 8) (h : Fin 16) (t : Fin 2048) (d : Fin 64) :
    mean V (weight (masked (score Q K L))) (ix3 b t (⟨h.val * 64 + d.val, by omega⟩ : Fin 1024))
      = (attn (q b t h) (fun p => k b p h) (fun p => f b p h) (fun p => v b p h d) (t.val + 1) : EReal) := by
  rw [mean_at]
  simp only [weight_at]
  rw [softmax_lane (fun s : Fin 2048 => s ≤ t) (fun s => (∑ y, q b t h y * k b s.val h y) * 8⁻¹ + (pre (fun p => f b p h) 2048 - pre (fun p => f b p h) (s.val + 1))
      - (pre (fun p => f b p h) 2048 - pre (fun p => f b p h) (t.val + 1))) (fun s => v b s.val h d) _ _
    (fun s => (masked_at _ b h t s).trans (by rw [score_real hQ hK hL])) (fun s => hV b s h d) ⟨t, le_rfl⟩ (pre (fun p => f b p h) (t.val + 1))]
  have hr : ∀ w : ℕ → ℝ, ∑ s : Fin 2048, (if s ≤ t then Real.exp ((∑ y, q b t h y * k b s.val h y) * 8⁻¹ + (pre (fun p => f b p h) 2048 - pre (fun p => f b p h) (s.val + 1))
      - (pre (fun p => f b p h) 2048 - pre (fun p => f b p h) (t.val + 1)) - pre (fun p => f b p h) (t.val + 1)) * w s.val else 0)
      = tot (expo (q b t h) (fun p => k b p h) (fun p => f b p h)) w (t.val + 1) := fun w => by
    have e := Finset.sum_range (n := 2048) (fun s : ℕ => if s ≤ t.val then (2 : ℝ) ^ expo (q b t h) (fun p => k b p h) (fun p => f b p h) s * w s else 0)
    unfold tot
    refine Eq.trans ?_ (e.symm.trans ?_)
    · refine Finset.sum_congr rfl fun s _ => ?_
      by_cases hs : s ≤ t
      · rw [if_pos hs, if_pos (show s.val ≤ t.val from hs), two_expo]
        congr 2
        ring
      · rw [if_neg hs, if_neg (show ¬ s.val ≤ t.val from hs)]
    · refine (Finset.sum_subset (Finset.range_mono t.isLt) fun r _ hr => if_neg ?_).symm.trans (Finset.sum_congr rfl fun r hr => if_pos ?_)
      · rw [Finset.mem_range] at hr; omega
      · rw [Finset.mem_range] at hr; omega
  have h1 := hr (fun _ => 1)
  simp only [mul_one] at h1
  rw [hr fun p => v b p h d, h1]
  rfl

end Cert.ReferenceIdeal.Value
end
-- ==== Proof.Claims.lean ====
/- The value claim of the attention, and the two named constants. -/
module

public import proofs.«01_k».proof.Proof.Finite
public import proofs.«01_k».proof.Proof.Host
public import proofs.«01_k».proof.Proof.Run
public import proofs.«01_k».proof.Proof.Ref

@[expose] public section

set_option maxRecDepth 16384

noncomputable section

namespace Cert.Attn

open Idealize.ShloMosaic Idealize.SL.Sem

/-- A real array's entries with the position as a natural number. -/
def byPos (X : FVec Ideal Cert.ReferenceIdeal.S8x2048x16x64 .f32) (b : Fin 8) (p : ℕ) (h : Fin 16) (y : Fin 64) : ℝ :=
  if hp : p < 2048 then EReal.toReal (X (ix4 b (⟨p, hp⟩ : Fin 2048) h y)) else 0

def byPos3 (X : FVec Ideal Cert.ReferenceIdeal.S8x2048x16 .f32) (b : Fin 8) (p : ℕ) (h : Fin 16) : ℝ :=
  if hp : p < 2048 then EReal.toReal (X (ix3 b (⟨p, hp⟩ : Fin 2048) h)) else 0

theorem byPos_eq (X : FVec Ideal Cert.ReferenceIdeal.S8x2048x16x64 .f32) (hX : ∀ i, X i = ((EReal.toReal (X i) : ℝ) : EReal)) (b : Fin 8) (p : Fin 2048)
    (h : Fin 16) (y : Fin 64) : X (ix4 b p h y) = (byPos X b p.val h y : EReal) := by
  unfold byPos
  rw [dif_pos p.isLt]
  exact hX _

theorem byPos3_eq (X : FVec Ideal Cert.ReferenceIdeal.S8x2048x16 .f32) (hX : ∀ i, X i = ((EReal.toReal (X i) : ℝ) : EReal)) (b : Fin 8) (p : Fin 2048)
    (h : Fin 16) : X (ix3 b p h) = (byPos3 X b p.val h : EReal) := by
  unfold byPos3
  rw [dif_pos p.isLt]
  exact hX _

theorem algebraic : Cert.algebraic_KernelIdeal_ReferenceIdeal_pre_finite := by
  intro m g m' g' hpre hagree
  refine ⟨fun c => (Cert.KernelIdeal.Gen.dat1 (Cert.KernelIdeal.Gen.V3 m g) c).arrAt 4 Cert.KernelIdeal.cfg1.N, Cert.KernelIdeal.Value.run m g, ?_⟩
  refine (θ_run _ _ _).mono (fun r h c => ⟨(h c).1.trans ?_, (h c).2⟩) (Cert.ReferenceIdeal.Value.run m' g')
  obtain ⟨a0, a1, a2, a3⟩ := hagree c
  obtain ⟨f0, f1, f2, f3⟩ := finite_args _ _ _ _ (hpre c)
  rw [Cert.ReferenceIdeal.Value.res_eq, a0, a1, a2, a3]
  refine Eq.trans ?_ (Cert.KernelIdeal.Value.final m g c (fun b t => byPos (m ((c.tc : Thread Cert.KernelIdeal.nD Cert.KernelIdeal.τ).loc Cert.KernelIdeal.main_arg0)) b t.val)
    (byPos (m ((c.tc : Thread Cert.KernelIdeal.nD Cert.KernelIdeal.τ).loc Cert.KernelIdeal.main_arg1)))
    (byPos (m ((c.tc : Thread Cert.KernelIdeal.nD Cert.KernelIdeal.τ).loc Cert.KernelIdeal.main_arg2)))
    (byPos3 (m ((c.tc : Thread Cert.KernelIdeal.nD Cert.KernelIdeal.τ).loc Cert.KernelIdeal.main_arg3)))
    (byPos_eq _ f0) (byPos_eq _ f1) (byPos_eq _ f2) (byPos3_eq _ f3)).symm
  funext i
  have hi : i = (ix3 (i 0) (i 1) (⟨(Cert.KernelIdeal.Value.hh (i 2)).val * 64 + (Cert.KernelIdeal.Value.dd (i 2)).val, by
      have := (Cert.KernelIdeal.Value.hh (i 2)).isLt; have := (Cert.KernelIdeal.Value.dd (i 2)).isLt; omega⟩ : Fin 1024) : Cert.ReferenceIdeal.S8x2048x1024.Idx) := by
    blk_ext [Cert.KernelIdeal.Value.hh, Cert.KernelIdeal.Value.dd]
  refine (congrArg _ hi).trans ?_
  exact Cert.ReferenceIdeal.Value.ref_at (byPos_eq _ f0) (byPos_eq _ f1) (byPos_eq _ f2) (byPos3_eq _ f3) (i 0)
    (Cert.KernelIdeal.Value.hh (i 2)) (i 1) (Cert.KernelIdeal.Value.dd (i 2))

end Cert.Attn
end
-- ==== Proof.Rows.lean ====
/- The rows both programs compute: the normalised and modulated row, the merge of the branches, the end of the layer. -/
module

public import Idealize.ShloMosaic.PureOps.Ideal
public import Idealize.ShloMosaic.Lib.Pointwise

@[expose] public section

noncomputable section

namespace Cert.Rows

open Idealize.ShloMosaic

/-- The root mean square's reciprocal of a row. -/
def rinv (x : Fin 2048 → EReal) : EReal :=
  Ideal.rsqrt (Ideal.div (∑ j, x j * x j) (Ideal.ofBits .f32 0x45000000#32) + Ideal.ofBits .f32 0x358637BD#32)

/-- A row normalised, then scaled and shifted by the conditioning. -/
def hrow (x g sh sc : Fin 2048 → EReal) (k : Fin 2048) : EReal := x k * rinv x * g k * (1 + sc k) + sh k

/-- A row of the pooling branch after its per-group map and its scale. -/
def prow (po : Fin 1024 → EReal) (wp : Fin 4 → Fin 256 → Fin 256 → EReal) (ps : Fin 1024 → EReal) (y : Fin 1024) : EReal :=
  (∑ k : Fin 256, po (⟨y.val / 256 * 256 + k.val, by omega⟩ : Fin 1024) * wp (⟨y.val / 256, by omega⟩ : Fin 4) k (⟨y.val % 256, by omega⟩ : Fin 256)) * ps y

/-- A row of the gated sum of the two branches. -/
def yrow (h : Fin 2048 → EReal) (oa op : Fin 1024 → EReal) (wga wgb : Fin 2048 → Fin 2048 → EReal) (wpa wpb : Fin 1024 → Fin 2048 → EReal)
    (z : Fin 2048) : EReal :=
  Ideal.logistic (∑ k, h k * wga k z) * (∑ k, oa k * wpa k z) + Ideal.logistic (∑ k, h k * wgb k z) * (∑ k, op k * wpb k z)

/-- A row of the experts' sum: the shared expert's row and the eight routed rows under their weights. -/
def moerow (h : Fin 2048 → EReal) (wg wu : Fin 2048 → Fin 512 → EReal) (wd : Fin 512 → Fin 2048 → EReal) (rt : Fin 8 → Fin 2048 → EReal)
    (rw : Fin 8 → EReal) (y : Fin 2048) : EReal :=
  (∑ q, rt q y * rw q) + ∑ z, (∑ k, h k * wg k z) * Ideal.logistic (∑ k, h k * wg k z) * (∑ k, h k * wu k z) * wd z y

/-- A row of the layer's end: the gated residual sum, normalised. -/
def frow (x gt mo g : Fin 2048 → EReal) (k : Fin 2048) : EReal := (x k + gt k * mo k) * rinv (fun j => x j + gt j * mo j) * g k

/-- A row of the conditioning: the gated row mapped, and its offset. -/
def arow (c : Fin 2048 → EReal) (w : Fin 2048 → Fin 12288 → EReal) (b : Fin 12288 → EReal) (j : Fin 12288) : EReal :=
  (∑ k, c k * Ideal.logistic (c k) * w k j) + b j

/-- A row of the in-projection: the row normalised, modulated by its conditioning, and mapped. -/
def proj (x g c : Fin 2048 → EReal) (wa : Fin 2048 → Fin 12288 → EReal) (ba : Fin 12288 → EReal) (w : Fin 2048 → Fin 8208 → EReal) (j : Fin 8208) : EReal :=
  ∑ k, hrow x g (fun k => arow c wa ba (⟨k.val, by omega⟩ : Fin 12288)) (fun k => arow c wa ba (⟨2048 + k.val, by omega⟩ : Fin 12288)) k * w k j

/-- The logarithm of the sigmoid. -/
def lsig (x : EReal) : EReal := min x 0 - Ideal.log1p (Ideal.exp (0 - FloatOps.absf (F := Ideal) (φ := .f32) x))

/-- The product of two rows. -/
def dot (h w : Fin 2048 → EReal) : EReal := ∑ k, h k * w k

theorem dot_congr {h h' w w' : Fin 2048 → EReal} (hh : ∀ k, h k = h' k) (hw : ∀ k, w k = w' k) : dot h w = dot h' w' := by
  rw [funext hh, funext hw]

theorem arow_congr {c c' : Fin 2048 → EReal} {w w' : Fin 2048 → Fin 12288 → EReal} {b b' : Fin 12288 → EReal} (j : Fin 12288)
    (hc : ∀ k, c k = c' k) (hw : ∀ k j, w k j = w' k j) (hb : ∀ j, b j = b' j) : arow c w b j = arow c' w' b' j := by
  rw [funext hc, funext fun k => funext (hw k), funext hb]

theorem hrow_congr {x x' g g' s s' t t' : Fin 2048 → EReal} (k : Fin 2048) (hx : ∀ k, x k = x' k) (hg : ∀ k, g k = g' k)
    (hs : ∀ k, s k = s' k) (ht : ∀ k, t k = t' k) : hrow x g s t k = hrow x' g' s' t' k := by
  rw [funext hx, funext hg, funext hs, funext ht]

/-- The logarithm of a gate's sigmoid from its row. -/
def lfrow (h w : Fin 2048 → EReal) (b : EReal) : EReal := lsig (dot h w + b)

theorem lfrow_congr {h h' w w' : Fin 2048 → EReal} {b b' : EReal} (hh : ∀ k, h k = h' k) (hw : ∀ k, w k = w' k) (hb : b = b') :
    lfrow h w b = lfrow h' w' b' := by
  rw [funext hh, funext hw, hb]

theorem arow_tile {c c' v : Fin 2048 → EReal} {w' : Fin 2048 → Fin 12288 → EReal} {b' : Fin 12288 → EReal} {b : EReal} {j : Fin 12288}
    (hc : ∀ k, c k = c' k) (hw : ∀ k, v k = w' k j) (hb : b = b' j) : (∑ k, c k * Ideal.logistic (c k) * v k) + b = arow c' w' b' j := by
  rw [funext hc, funext hw, hb]
  rfl

theorem log_ne_bot {r : ℝ} (h : 0 < r) : Ideal.log (r : EReal) ≠ ⊥ := by
  show (if r ≤ 0 then ⊥ else (Real.log r : EReal)) ≠ ⊥
  rw [if_neg (not_le.mpr h)]
  exact EReal.coe_ne_bot _

theorem log1p_exp_ne_bot (y : EReal) : Ideal.log1p (Ideal.exp y) ≠ ⊥ := by
  induction y with
  | bot =>
    show Ideal.log (1 + 0) ≠ ⊥
    rw [add_zero]
    exact log_ne_bot one_pos
  | top =>
    show Ideal.log (1 + ⊤) ≠ ⊥
    rw [← EReal.coe_one, EReal.coe_add_top]
    exact top_ne_bot
  | coe r =>
    show Ideal.log (1 + ((Real.exp r : ℝ) : EReal)) ≠ ⊥
    rw [← EReal.coe_one, ← EReal.coe_add]
    exact log_ne_bot (by have := Real.exp_pos r; linarith)

/-- The sigmoid's logarithm as the negated softplus of the negated argument. -/
theorem lsig_eq (x : EReal) : -(max (-x) 0 + Ideal.log1p (Ideal.exp (-FloatOps.absf (F := Ideal) (φ := .f32) (-x)))) = lsig x := by
  have ha : FloatOps.absf (F := Ideal) (φ := .f32) (-x) = FloatOps.absf (F := Ideal) (φ := .f32) x := by
    show max (-x) (- -x) = max x (-x)
    rw [neg_neg, max_comm]
  have h0 : (max (-x) 0 : EReal) ≠ ⊥ := fun h => absurd (h ▸ le_max_right (-x) 0) (by simp)
  rw [ha, EReal.neg_add (.inl h0) (.inr (log1p_exp_ne_bot _)), lsig]
  congr 1
  · rcases le_total x 0 with h | h
    · rw [max_eq_left (by simpa using EReal.neg_le_neg_iff.mpr h), min_eq_left h, neg_neg]
    · rw [max_eq_right (by simpa using EReal.neg_le_neg_iff.mpr h), min_eq_right h, neg_zero]
  · rw [sub_eq_add_neg 0, zero_add]

theorem frow_congr {x x' gt gt' mo mo' g g' : Fin 2048 → EReal} (k : Fin 2048) (hx : ∀ k, x k = x' k) (ht : ∀ k, gt k = gt' k) (hm : ∀ k, mo k = mo' k)
    (hg : ∀ k, g k = g' k) : frow x gt mo g k = frow x' gt' mo' g' k := by
  rw [funext hx, funext ht, funext hm, funext hg]

theorem moerow_congr {h h' : Fin 2048 → EReal} {wg wg' wu wu' : Fin 2048 → Fin 512 → EReal} {wd wd' : Fin 512 → Fin 2048 → EReal}
    {rt rt' : Fin 8 → Fin 2048 → EReal} {rw rw' : Fin 8 → EReal} (y : Fin 2048) (hh : ∀ k, h k = h' k) (hg : ∀ a b, wg a b = wg' a b)
    (hu : ∀ a b, wu a b = wu' a b) (hd : ∀ a b, wd a b = wd' a b) (hr : ∀ a b, rt a b = rt' a b) (hw : ∀ a, rw a = rw' a) :
    moerow h wg wu wd rt rw y = moerow h' wg' wu' wd' rt' rw' y := by
  rw [funext hh, funext fun a => funext (hg a), funext fun a => funext (hu a), funext fun a => funext (hd a), funext fun a => funext (hr a), funext hw]

end Cert.Rows
end
-- ==== Proof.InprojRow.lean ====
/- The in-projection's three calls: what each body leaves at an index. -/
module

public import proofs.«01_k».proof.Proof.Gen.Kernel2Ideal.Frame
public import proofs.«01_k».proof.Proof.Rows
public import Idealize.ShloMosaic.Lib.Pipeline.ValueKit

@[expose] public section

set_option maxRecDepth 16384

noncomputable section

namespace Cert.Kernel2Ideal.Value

open Idealize.ShloMosaic Idealize.ShloMosaic.TcCoe Idealize.SL.Sem Cert.Kernel2Ideal Cert.Kernel2Ideal.Gen Cert.Rows

theorem ada_at (x : FVec Ideal S48x2048 .f32) (w : FVec Ideal S2048x1024 .f32) (b : FVec Ideal S1x1024 .f32) (r : Fin 48) (y : Fin 1024) :
    k0_pay1 (F := Ideal) x w b (ix2 r y) = (∑ k, x (ix2 r k) * Ideal.logistic (x (ix2 r k)) * w (ix2 k y)) + b (ix2 0 y) := by
  pointwise [k0_pay1]

theorem hp_at (x : FVec Ideal S1x512x2048 .f32) (g : FVec Ideal S1x2048 .f32) (sh sc : FVec Ideal S1x1x2048 .f32) (r : Fin 512) (k : Fin 2048) :
    k1_pay2 (F := Ideal) x g sh sc (ix2 r k)
      = hrow (fun k => x (ix3 0 r k)) (fun k => g (ix2 0 k)) (fun k => sh (ix3 0 0 k)) (fun k => sc (ix3 0 0 k)) k := by
  pointwise [k1_pay2, hrow, rinv]

theorem qp_at (x : FVec Ideal S1x512x2048 .f32) (g : FVec Ideal S1x2048 .f32) (sh sc : FVec Ideal S1x1x2048 .f32) (w : FVec Ideal S1024x2048 .bf16) (y : Fin 1024) (r : Fin 512) :
    k1_pay3 (F := Ideal) x g sh sc w (ix3 0 y r)
      = dot (fun k => w (ix2 y k)) (hrow (fun k => x (ix3 0 r k)) (fun k => g (ix2 0 k)) (fun k => sh (ix3 0 0 k)) (fun k => sc (ix3 0 0 k)))
        * (((8 * (Real.log 2))⁻¹ : ℝ) : EReal) := by
  unfold dot
  simp only [← hp_at]
  pointwise [k1_pay3]
  rfl

theorem vp_at (h : FVec Ideal S512x2048 .bf16) (w : FVec Ideal S1024x2048 .bf16) (y : Fin 1024) (r : Fin 512) :
    k1_pay4 (F := Ideal) h w (ix3 0 y r) = dot (fun k => w (ix2 y k)) (fun k => h (ix2 r k)) := by
  pointwise [k1_pay4, dot]

theorem kp_at (h : FVec Ideal S512x2048 .bf16) (w : FVec Ideal S2048x1024 .bf16) (r : Fin 512) (y : Fin 1024) :
    k1_pay5 (F := Ideal) h w (ix3 0 r y) = dot (fun k => h (ix2 r k)) (fun k => w (ix2 k y)) := by
  pointwise [k1_pay5, dot]

theorem up_at (h : FVec Ideal S512x2048 .bf16) (w : FVec Ideal S2048x1024 .bf16) (r : Fin 512) (y : Fin 1024) :
    k1_pay6 (F := Ideal) h w (ix3 0 r y) = dot (fun k => h (ix2 r k)) (fun k => w (ix2 k y)) := by
  pointwise [k1_pay6, dot]

theorem fp_at (h : FVec Ideal S512x2048 .bf16) (w : FVec Ideal S2048x128 .bf16) (b : FVec Ideal S1x128 .f32) (r : Fin 512) (y : Fin 128) :
    k1_pay1 (F := Ideal) (k1_pay8 h w b) (k1_pay9 h w b) (ix3 0 r y) = lfrow (fun k => h (ix2 r k)) (fun k => w (ix2 k y)) (b (ix2 0 y)) := by
  pointwise [k1_pay1, k1_pay8, k1_pay9, k1_pay7, lfrow, lsig, dot]

theorem hs_at (x : FVec Ideal S1x128x2048 .f32) (g : FVec Ideal S1x2048 .f32) (sh sc : FVec Ideal S1x128x2048 .f32) (r : Fin 128) (k : Fin 2048) :
    k2_pay2 (F := Ideal) x g sh sc (ix2 r k)
      = hrow (fun k => x (ix3 0 r k)) (fun k => g (ix2 0 k)) (fun k => sh (ix3 0 r k)) (fun k => sc (ix3 0 r k)) k := by
  pointwise [k2_pay2, hrow, rinv]

theorem qs_at (x : FVec Ideal S1x128x2048 .f32) (g : FVec Ideal S1x2048 .f32) (sh sc : FVec Ideal S1x128x2048 .f32) (w : FVec Ideal S1024x2048 .bf16) (y : Fin 1024) (r : Fin 128) :
    k2_pay3 (F := Ideal) x g sh sc w (ix3 0 y r)
      = dot (fun k => w (ix2 y k)) (hrow (fun k => x (ix3 0 r k)) (fun k => g (ix2 0 k)) (fun k => sh (ix3 0 r k)) (fun k => sc (ix3 0 r k)))
        * Ideal.ofBits .f32 0x3E000000#32 := by
  unfold dot
  simp only [← hs_at]
  pointwise [k2_pay3]

theorem vs_at (h : FVec Ideal S128x2048 .bf16) (w : FVec Ideal S1024x2048 .bf16) (y : Fin 1024) (r : Fin 128) :
    k2_pay4 (F := Ideal) h w (ix3 0 y r) = dot (fun k => w (ix2 y k)) (fun k => h (ix2 r k)) := by
  pointwise [k2_pay4, dot]

theorem ks_at (h : FVec Ideal S128x2048 .bf16) (w : FVec Ideal S2048x1024 .bf16) (r : Fin 128) (y : Fin 1024) :
    k2_pay5 (F := Ideal) h w (ix3 0 r y) = dot (fun k => h (ix2 r k)) (fun k => w (ix2 k y)) := by
  pointwise [k2_pay5, dot]

theorem us_at (h : FVec Ideal S128x2048 .bf16) (w : FVec Ideal S2048x1024 .bf16) (r : Fin 128) (y : Fin 1024) :
    k2_pay6 (F := Ideal) h w (ix3 0 r y) = dot (fun k => h (ix2 r k)) (fun k => w (ix2 k y)) := by
  pointwise [k2_pay6, dot]

theorem fs_at (h : FVec Ideal S128x2048 .bf16) (w : FVec Ideal S2048x128 .bf16) (b : FVec Ideal S1x128 .f32) (r y : Fin 128) :
    k2_pay1 (F := Ideal) (k2_pay7 h w b) (ix3 0 r y) = lfrow (fun k => h (ix2 r k)) (fun k => w (ix2 k y)) (b (ix2 0 y)) := by
  pointwise [k2_pay1, k2_pay7, lfrow, lsig, dot]

theorem idx0 : ∀ t : Fin cfg0.N, win0_0.index t = ![0, 0] ∧ win0_1.index t = ![0, t.val] ∧ win0_2.index t = ![0, t.val] ∧ win0_3.index t = ![0, t.val] ∧ t.val < 12 :=
  (by decide +kernel : ∀ t : Fin grid0.N, _)

theorem idx1 : ∀ t : Fin cfg1.N, win1_0.index t = ![t.val / 4, t.val % 4, 0] ∧ win1_1.index t = ![0, 0] ∧ win1_2.index t = ![t.val / 4, 0, 0]
    ∧ win1_3.index t = ![t.val / 4, 0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![t.val / 4, 0, t.val % 4] ∧ win1_11.index t = ![t.val / 4, t.val % 4, 0]
    ∧ win1_12.index t = ![t.val / 4, 0, t.val % 4] ∧ win1_13.index t = ![t.val / 4, t.val % 4, 0] ∧ win1_14.index t = ![t.val / 4, t.val % 4, 0] ∧ t.val < 32 :=
  (by decide +kernel : ∀ t : Fin grid1.N, _)

theorem idx2 : ∀ t : Fin cfg2.N, win2_0.index t = ![0, 0, 0] ∧ win2_1.index t = ![0, 0] ∧ win2_2.index t = ![0, 0, 0]
    ∧ win2_3.index t = ![0, 0, 0] ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![0, 0, 0] ∧ win2_11.index t = ![0, 0, 0]
    ∧ win2_12.index t = ![0, 0, 0] ∧ win2_13.index t = ![0, 0, 0] ∧ win2_14.index t = ![0, 0, 0] :=
  (by decide +kernel : ∀ t : Fin grid2.N, _)

end Cert.Kernel2Ideal.Value
end
-- ==== Proof.InprojArr.lean ====
/- The in-projection's three calls: the arrays they leave, from the buffers they find. -/
module

public import proofs.«01_k».proof.Proof.InprojRow

@[expose] public section

set_option maxRecDepth 16384
set_option maxHeartbeats 4000000

noncomputable section

namespace Cert.Kernel2Ideal.Value

open Idealize.ShloMosaic Idealize.ShloMosaic.TcCoe Idealize.SL.Sem Cert.Kernel2Ideal Cert.Kernel2Ideal.Gen Cert.Rows

variable (V : (c : Dev nD) → (b : Ref sig .tc) → Buf (Elt Ideal) ((c : Thread nD τ).loc b)) (c : Dev nD)

/-- The conditioning's columns a tile holds. -/
def colOf (t : Fin cfg0.N) (y : Fin 1024) : Fin 12288 := ⟨t.val * 1024 + y.val, by have : t.val < 12 := (idx0 t).2.2.2.2; omega⟩

theorem ablk0 (t : Fin cfg0.N) (r : Fin 48) (k : Fin 2048) : iblk0 V c 0 t (ix2 r k) = V c main_v24 (ix2 r k) := by
  blk_ext [iblk0, idx0 t]

theorem ablk1 (t : Fin cfg0.N) (k : Fin 2048) (y : Fin 1024) : iblk0 V c 1 t (ix2 k y) = V c main_v25 (ix2 k (colOf t y)) := by
  blk_ext [iblk0, idx0 t, colOf]

theorem ablk2 (t : Fin cfg0.N) (y : Fin 1024) : iblk0 V c 2 t (ix2 0 y) = V c main_v27 (ix2 0 (colOf t y)) := by
  blk_ext [iblk0, idx0 t, colOf]

/-- The conditioning of every row. -/
theorem ada_final : (dat0 V c).arrAt 3 cfg0.N = fun i : S48x12288.Idx =>
    arow (fun k => V c main_v24 (ix2 (i 0) k)) (fun k j => V c main_v25 (ix2 k j)) (fun j => V c main_v27 (ix2 0 j)) (i 1) := by
  refine (dat0 V c).arrAt_eq_of_covers 3 _ (by decide +kernel) fun t _ y => ?_
  blk_simp
  rw [after0_3]
  frame_out
  have he : ((cfg0.win 3).blk t).view.emb y = (ix2 (y 0) (colOf t (y 1)) : S48x12288.Idx) := by blk_ext [idx0 t, colOf]
  have hy : y = (ix2 (y 0) (y 1) : S48x1024.Idx) := by blk_ext
  change _ = (fun i : S48x12288.Idx => _) (((cfg0.win 3).blk t).view.emb y)
  rw [he, hy]
  refine (ada_at (iblk0 V c 0 t) (iblk0 V c 1 t) (iblk0 V c 2 t) (y 0) (y 1)).trans
    (arow_tile (fun k => ablk0 V c t (y 0) k) (fun k => ablk1 V c t k (y 1)) (ablk2 V c t (y 1)))

/-- The array row a block's row is. -/
def rowOf (t : Fin cfg1.N) (r : Fin 512) : Fin 2048 := ⟨t.val % 4 * 512 + r.val, by omega⟩
def batOf (t : Fin cfg1.N) : Fin 8 := ⟨t.val / 4, by have : t.val < 32 := (idx1 t).2.2.2.2.2.2.2.2.2.2.2.2.2.2.2; omega⟩

theorem pblk0 (t : Fin cfg1.N) (r : Fin 512) (k : Fin 2048) : iblk1 V c 0 t (ix3 0 r k) = V c main_arg0 (ix3 (batOf t) (rowOf t r) k) := by
  blk_ext [iblk1, idx1 t, rowOf, batOf]

theorem pblk1 (t : Fin cfg1.N) (k : Fin 2048) : iblk1 V c 1 t (ix2 0 k) = V c main_v22 (ix2 0 k) := by
  blk_ext [iblk1, idx1 t]

theorem pblk2 (t : Fin cfg1.N) (k : Fin 2048) : iblk1 V c 2 t (ix3 0 0 k) = V c main_v36 (ix3 (batOf t) 0 k) := by
  blk_ext [iblk1, idx1 t, batOf]

theorem pblk3 (t : Fin cfg1.N) (k : Fin 2048) : iblk1 V c 3 t (ix3 0 0 k) = V c main_v37 (ix3 (batOf t) 0 k) := by
  blk_ext [iblk1, idx1 t, batOf]

theorem pblk4 (t : Fin cfg1.N) (y : Fin 1024) (k : Fin 2048) : iblk1 V c 4 t (ix2 y k) = V c main_v15 (ix2 y k) := by
  blk_ext [iblk1, idx1 t]

theorem pblk5 (t : Fin cfg1.N) (k : Fin 2048) (y : Fin 1024) : iblk1 V c 5 t (ix2 k y) = V c main_v9 (ix2 k y) := by
  blk_ext [iblk1, idx1 t]

theorem pblk6 (t : Fin cfg1.N) (y : Fin 1024) (k : Fin 2048) : iblk1 V c 6 t (ix2 y k) = V c main_v16 (ix2 y k) := by
  blk_ext [iblk1, idx1 t]

theorem pblk7 (t : Fin cfg1.N) (k : Fin 2048) (y : Fin 1024) : iblk1 V c 7 t (ix2 k y) = V c main_v12 (ix2 k y) := by
  blk_ext [iblk1, idx1 t]

theorem pblk8 (t : Fin cfg1.N) (k : Fin 2048) (y : Fin 128) : iblk1 V c 8 t (ix2 k y) = V c main_v17 (ix2 k y) := by
  blk_ext [iblk1, idx1 t]

theorem pblk9 (t : Fin cfg1.N) (y : Fin 128) : iblk1 V c 9 t (ix2 0 y) = V c main_v20 (ix2 0 y) := by
  blk_ext [iblk1, idx1 t]

/-- A row of the prompt, normalised and modulated. -/
def hp (b : Fin 8) (p k : Fin 2048) : EReal :=
  hrow (fun k => V c main_arg0 (ix3 b p k)) (fun k => V c main_v22 (ix2 0 k)) (fun k => V c main_v36 (ix3 b 0 k)) (fun k => V c main_v37 (ix3 b 0 k)) k

theorem hp_blk (t : Fin cfg1.N) (r : Fin 512) (k : Fin 2048) :
    k1_pay2 (F := Ideal) (iblk1 V c 0 t) (iblk1 V c 1 t) (iblk1 V c 2 t) (iblk1 V c 3 t) (ix2 r k) = hp V c (batOf t) (rowOf t r) k := by
  refine (hp_at (iblk1 V c 0 t) (iblk1 V c 1 t) (iblk1 V c 2 t) (iblk1 V c 3 t) r k).trans
    (hrow_congr k (fun k => pblk0 V c t r k) (fun k => pblk1 V c t k) (fun k => pblk2 V c t k) (fun k => pblk3 V c t k))

theorem qp_final : (dat1 V c).arrAt 10 cfg1.N = fun i : S8x1024x2048.Idx =>
    dot (fun k => V c main_v15 (ix2 (i 1) k)) (hp V c (i 0) (i 2)) * (((8 * (Real.log 2))⁻¹ : ℝ) : EReal) := by
  refine (dat1 V c).arrAt_eq_of_covers 10 _ (by decide +kernel) fun t _ y => ?_
  blk_simp
  rw [after1_10]
  frame_out
  have he : ((cfg1.win 10).blk t).view.emb y = (ix3 (batOf t) (y 1) (rowOf t (y 2)) : S8x1024x2048.Idx) := by blk_ext [idx1 t, rowOf, batOf]
  have hy : y = (ix3 (0 : Fin 1) (y 1) (y 2) : S1x1024x512.Idx) := by blk_ext
  change _ = (fun i : S8x1024x2048.Idx => _) (((cfg1.win 10).blk t).view.emb y)
  rw [he, hy]
  refine (qp_at (iblk1 V c 0 t) (iblk1 V c 1 t) (iblk1 V c 2 t) (iblk1 V c 3 t) (iblk1 V c 4 t) (y 1) (y 2)).trans
    (congrArg (· * (((8 * (Real.log 2))⁻¹ : ℝ) : EReal)) (dot_congr (fun k => pblk4 V c t (y 1) k)
      (fun k => (hp_at (iblk1 V c 0 t) (iblk1 V c 1 t) (iblk1 V c 2 t) (iblk1 V c 3 t) (y 2) k).symm.trans (hp_blk V c t (y 2) k))))

theorem kp_final : (dat1 V c).arrAt 11 cfg1.N = fun i : S8x2048x1024.Idx =>
    dot (hp V c (i 0) (i 1)) (fun k => V c main_v9 (ix2 k (i 2))) := by
  refine (dat1 V c).arrAt_eq_of_covers 11 _ (by decide +kernel) fun t _ y => ?_
  blk_simp
  rw [after1_11]
  frame_out
  unfold k1_pay10
  frame_out
  have he : ((cfg1.win 11).blk t).view.emb y = (ix3 (batOf t) (rowOf t (y 1)) (y 2) : S8x2048x1024.Idx) := by blk_ext [idx1 t, rowOf, batOf]
  have hy : y = (ix3 (0 : Fin 1) (y 1) (y 2) : S1x512x1024.Idx) := by blk_ext
  change _ = (fun i : S8x2048x1024.Idx => _) (((cfg1.win 11).blk t).view.emb y)
  rw [he, hy]
  refine (kp_at _ (iblk1 V c 5 t) (y 1) (y 2)).trans (dot_congr (fun k => hp_blk V c t (y 1) k) (fun k => pblk5 V c t k (y 2)))

theorem vp_final : (dat1 V c).arrAt 12 cfg1.N = fun i : S8x1024x2048.Idx =>
    dot (fun k => V c main_v16 (ix2 (i 1) k)) (hp V c (i 0) (i 2)) := by
  refine (dat1 V c).arrAt_eq_of_covers 12 _ (by decide +kernel) fun t _ y => ?_
  blk_simp
  rw [after1_12]
  frame_out
  unfold k1_pay10
  frame_out
  have he : ((cfg1.win 12).blk t).view.emb y = (ix3 (batOf t) (y 1) (rowOf t (y 2)) : S8x1024x2048.Idx) := by blk_ext [idx1 t, rowOf, batOf]
  have hy : y = (ix3 (0 : Fin 1) (y 1) (y 2) : S1x1024x512.Idx) := by blk_ext
  change _ = (fun i : S8x1024x2048.Idx => _) (((cfg1.win 12).blk t).view.emb y)
  rw [he, hy]
  refine (vp_at _ (iblk1 V c 6 t) (y 1) (y 2)).trans (dot_congr (fun k => pblk6 V c t (y 1) k) (fun k => hp_blk V c t (y 2) k))

theorem up_final : (dat1 V c).arrAt 13 cfg1.N = fun i : S8x2048x1024.Idx =>
    dot (hp V c (i 0) (i 1)) (fun k => V c main_v12 (ix2 k (i 2))) := by
  refine (dat1 V c).arrAt_eq_of_covers 13 _ (by decide +kernel) fun t _ y => ?_
  blk_simp
  rw [after1_13]
  frame_out
  unfold k1_pay10
  frame_out
  have he : ((cfg1.win 13).blk t).view.emb y = (ix3 (batOf t) (rowOf t (y 1)) (y 2) : S8x2048x1024.Idx) := by blk_ext [idx1 t, rowOf, batOf]
  have hy : y = (ix3 (0 : Fin 1) (y 1) (y 2) : S1x512x1024.Idx) := by blk_ext
  change _ = (fun i : S8x2048x1024.Idx => _) (((cfg1.win 13).blk t).view.emb y)
  rw [he, hy]
  refine (up_at _ (iblk1 V c 7 t) (y 1) (y 2)).trans (dot_congr (fun k => hp_blk V c t (y 1) k) (fun k => pblk7 V c t k (y 2)))

theorem fp_final : (dat1 V c).arrAt 14 cfg1.N = fun i : S8x2048x128.Idx =>
    lfrow (hp V c (i 0) (i 1)) (fun k => V c main_v17 (ix2 k (i 2))) (V c main_v20 (ix2 0 (i 2))) := by
  refine (dat1 V c).arrAt_eq_of_covers 14 _ (by decide +kernel) fun t _ y => ?_
  blk_simp
  rw [after1_14]
  frame_out
  unfold k1_pay10
  frame_out
  have he : ((cfg1.win 14).blk t).view.emb y = (ix3 (batOf t) (rowOf t (y 1)) (y 2) : S8x2048x128.Idx) := by blk_ext [idx1 t, rowOf, batOf]
  have hy : y = (ix3 (0 : Fin 1) (y 1) (y 2) : S1x512x128.Idx) := by blk_ext
  change _ = (fun i : S8x2048x128.Idx => _) (((cfg1.win 14).blk t).view.emb y)
  rw [he, hy]
  refine (fp_at _ (iblk1 V c 8 t) (iblk1 V c 9 t) (y 1) (y 2)).trans (lfrow_congr (fun k => hp_blk V c t (y 1) k) (fun k => pblk8 V c t k (y 2)) (pblk9 V c t (y 2)))

end Cert.Kernel2Ideal.Value
end
-- ==== Proof.InprojArrS.lean ====
/- The in-projection's third call: the arrays it leaves, from the buffers it finds. -/
module

public import proofs.«01_k».proof.Proof.InprojRow

@[expose] public section

set_option maxRecDepth 16384
set_option maxHeartbeats 4000000

noncomputable section

namespace Cert.Kernel2Ideal.Value

open Idealize.ShloMosaic Idealize.ShloMosaic.TcCoe Idealize.SL.Sem Cert.Kernel2Ideal Cert.Kernel2Ideal.Gen Cert.Rows

variable (V : (c : Dev nD) → (b : Ref sig .tc) → Buf (Elt Ideal) ((c : Thread nD τ).loc b)) (c : Dev nD)

theorem sblk0 (t : Fin cfg2.N) (r : Fin 128) (k : Fin 2048) : iblk2 V c 0 t (ix3 0 r k) = V c main_v69 (ix3 0 r k) := by
  blk_ext [iblk2, idx2 t]

theorem sblk1 (t : Fin cfg2.N) (k : Fin 2048) : iblk2 V c 1 t (ix2 0 k) = V c main_v22 (ix2 0 k) := by
  blk_ext [iblk2, idx2 t]

theorem sblk2 (t : Fin cfg2.N) (r : Fin 128) (k : Fin 2048) : iblk2 V c 2 t (ix3 0 r k) = V c main_v51 (ix3 0 r k) := by
  blk_ext [iblk2, idx2 t]

theorem sblk3 (t : Fin cfg2.N) (r : Fin 128) (k : Fin 2048) : iblk2 V c 3 t (ix3 0 r k) = V c main_v54 (ix3 0 r k) := by
  blk_ext [iblk2, idx2 t]

theorem sblk4 (t : Fin cfg2.N) (y : Fin 1024) (k : Fin 2048) : iblk2 V c 4 t (ix2 y k) = V c main_v15 (ix2 y k) := by
  blk_ext [iblk2, idx2 t]

theorem sblk5 (t : Fin cfg2.N) (k : Fin 2048) (y : Fin 1024) : iblk2 V c 5 t (ix2 k y) = V c main_v9 (ix2 k y) := by
  blk_ext [iblk2, idx2 t]

theorem sblk6 (t : Fin cfg2.N) (y : Fin 1024) (k : Fin 2048) : iblk2 V c 6 t (ix2 y k) = V c main_v16 (ix2 y k) := by
  blk_ext [iblk2, idx2 t]

theorem sblk7 (t : Fin cfg2.N) (k : Fin 2048) (y : Fin 1024) : iblk2 V c 7 t (ix2 k y) = V c main_v12 (ix2 k y) := by
  blk_ext [iblk2, idx2 t]

theorem sblk8 (t : Fin cfg2.N) (k : Fin 2048) (y : Fin 128) : iblk2 V c 8 t (ix2 k y) = V c main_v17 (ix2 k y) := by
  blk_ext [iblk2, idx2 t]

theorem sblk9 (t : Fin cfg2.N) (y : Fin 128) : iblk2 V c 9 t (ix2 0 y) = V c main_v20 (ix2 0 y) := by
  blk_ext [iblk2, idx2 t]

/-- A row of the sample, normalised and modulated. -/
def hs (r : Fin 128) (k : Fin 2048) : EReal :=
  hrow (fun k => V c main_v69 (ix3 0 r k)) (fun k => V c main_v22 (ix2 0 k)) (fun k => V c main_v51 (ix3 0 r k)) (fun k => V c main_v54 (ix3 0 r k)) k

theorem hs_blk (t : Fin cfg2.N) (r : Fin 128) (k : Fin 2048) :
    k2_pay2 (F := Ideal) (iblk2 V c 0 t) (iblk2 V c 1 t) (iblk2 V c 2 t) (iblk2 V c 3 t) (ix2 r k) = hs V c r k := by
  refine (hs_at (iblk2 V c 0 t) (iblk2 V c 1 t) (iblk2 V c 2 t) (iblk2 V c 3 t) r k).trans
    (hrow_congr k (fun k => sblk0 V c t r k) (fun k => sblk1 V c t k) (fun k => sblk2 V c t r k) (fun k => sblk3 V c t r k))

theorem qs_final : (dat2 V c).arrAt 10 cfg2.N = fun i : S1x1024x128.Idx =>
    dot (fun k => V c main_v15 (ix2 (i 1) k)) (hs V c (i 2)) * Ideal.ofBits .f32 0x3E000000#32 := by
  refine (dat2 V c).arrAt_eq_of_covers 10 _ (by decide +kernel) fun t _ y => ?_
  blk_simp
  rw [after2_10]
  frame_out
  have he : ((cfg2.win 10).blk t).view.emb y = (ix3 0 (y 1) (y 2) : S1x1024x128.Idx) := by blk_ext [idx2 t]
  have hy : y = (ix3 (0 : Fin 1) (y 1) (y 2) : S1x1024x128.Idx) := by blk_ext
  change _ = (fun i : S1x1024x128.Idx => _) (((cfg2.win 10).blk t).view.emb y)
  rw [he, hy]
  refine (qs_at (iblk2 V c 0 t) (iblk2 V c 1 t) (iblk2 V c 2 t) (iblk2 V c 3 t) (iblk2 V c 4 t) (y 1) (y 2)).trans
    (congrArg (· * Ideal.ofBits .f32 0x3E000000#32) (dot_congr (fun k => sblk4 V c t (y 1) k)
      (fun k => (hs_at (iblk2 V c 0 t) (iblk2 V c 1 t) (iblk2 V c 2 t) (iblk2 V c 3 t) (y 2) k).symm.trans (hs_blk V c t (y 2) k))))

theorem ks_final : (dat2 V c).arrAt 11 cfg2.N = fun i : S1x128x1024.Idx =>
    dot (hs V c (i 1)) (fun k => V c main_v9 (ix2 k (i 2))) := by
  refine (dat2 V c).arrAt_eq_of_covers 11 _ (by decide +kernel) fun t _ y => ?_
  blk_simp
  rw [after2_11]
  frame_out
  unfold k2_pay8
  frame_out
  have he : ((cfg2.win 11).blk t).view.emb y = (ix3 0 (y 1) (y 2) : S1x128x1024.Idx) := by blk_ext [idx2 t]
  have hy : y = (ix3 (0 : Fin 1) (y 1) (y 2) : S1x128x1024.Idx) := by blk_ext
  change _ = (fun i : S1x128x1024.Idx => _) (((cfg2.win 11).blk t).view.emb y)
  rw [he, hy]
  refine (ks_at _ (iblk2 V c 5 t) (y 1) (y 2)).trans (dot_congr (fun k => hs_blk V c t (y 1) k) (fun k => sblk5 V c t k (y 2)))

theorem vs_final : (dat2 V c).arrAt 12 cfg2.N = fun i : S1x1024x128.Idx =>
    dot (fun k => V c main_v16 (ix2 (i 1) k)) (hs V c (i 2)) := by
  refine (dat2 V c).arrAt_eq_of_covers 12 _ (by decide +kernel) fun t _ y => ?_
  blk_simp
  rw [after2_12]
  frame_out
  unfold k2_pay8
  frame_out
  have he : ((cfg2.win 12).blk t).view.emb y = (ix3 0 (y 1) (y 2) : S1x1024x128.Idx) := by blk_ext [idx2 t]
  have hy : y = (ix3 (0 : Fin 1) (y 1) (y 2) : S1x1024x128.Idx) := by blk_ext
  change _ = (fun i : S1x1024x128.Idx => _) (((cfg2.win 12).blk t).view.emb y)
  rw [he, hy]
  refine (vs_at _ (iblk2 V c 6 t) (y 1) (y 2)).trans (dot_congr (fun k => sblk6 V c t (y 1) k) (fun k => hs_blk V c t (y 2) k))

theorem us_final : (dat2 V c).arrAt 13 cfg2.N = fun i : S1x128x1024.Idx =>
    dot (hs V c (i 1)) (fun k => V c main_v12 (ix2 k (i 2))) := by
  refine (dat2 V c).arrAt_eq_of_covers 13 _ (by decide +kernel) fun t _ y => ?_
  blk_simp
  rw [after2_13]
  frame_out
  unfold k2_pay8
  frame_out
  have he : ((cfg2.win 13).blk t).view.emb y = (ix3 0 (y 1) (y 2) : S1x128x1024.Idx) := by blk_ext [idx2 t]
  have hy : y = (ix3 (0 : Fin 1) (y 1) (y 2) : S1x128x1024.Idx) := by blk_ext
  change _ = (fun i : S1x128x1024.Idx => _) (((cfg2.win 13).blk t).view.emb y)
  rw [he, hy]
  refine (us_at _ (iblk2 V c 7 t) (y 1) (y 2)).trans (dot_congr (fun k => hs_blk V c t (y 1) k) (fun k => sblk7 V c t k (y 2)))

theorem fs_final : (dat2 V c).arrAt 14 cfg2.N = fun i : S1x128x128.Idx =>
    lfrow (hs V c (i 1)) (fun k => V c main_v17 (ix2 k (i 2))) (V c main_v20 (ix2 0 (i 2))) := by
  refine (dat2 V c).arrAt_eq_of_covers 14 _ (by decide +kernel) fun t _ y => ?_
  blk_simp
  rw [after2_14]
  frame_out
  unfold k2_pay8
  frame_out
  have he : ((cfg2.win 14).blk t).view.emb y = (ix3 0 (y 1) (y 2) : S1x128x128.Idx) := by blk_ext [idx2 t]
  have hy : y = (ix3 (0 : Fin 1) (y 1) (y 2) : S1x128x128.Idx) := by blk_ext
  change _ = (fun i : S1x128x128.Idx => _) (((cfg2.win 14).blk t).view.emb y)
  rw [he, hy]
  refine (fs_at _ (iblk2 V c 8 t) (iblk2 V c 9 t) (y 1) (y 2)).trans (lfrow_congr (fun k => hs_blk V c t (y 1) k) (fun k => sblk8 V c t k (y 2)) (sblk9 V c t (y 2)))

end Cert.Kernel2Ideal.Value
end
-- ==== Proof.InprojHost.lean ====
/- The host code around the in-projection's calls, read at an index. -/
module

public import proofs.«01_k».proof.Proof.InprojArr
public import proofs.«01_k».proof.Proof.InprojArrS
public import Idealize.ShloMosaic.Lib.StableHlo.ReadAt

@[expose] public section

set_option maxRecDepth 16384

noncomputable section

namespace Cert.Kernel2Ideal.Value

open Idealize.ShloMosaic Idealize.ShloMosaic.TcCoe Idealize.SL.Sem Cert.Kernel2Ideal Cert.Kernel2Ideal.Gen Cert.Rows

variable (m : (ℓ : Loc nD τ sig) → Buf (Elt Ideal) ℓ) (ρ : Dev nD → PrngReg) (c : Dev nD)

/-- A sample row in the flat sample, and a head's lane among all. -/
def flat (b : Fin 32) (t : Fin 4) : Fin 128 := ⟨4 * b.val + t.val, by omega⟩
def lane (h : Fin 16) (d : Fin 64) : Fin 1024 := ⟨64 * h.val + d.val, by omega⟩

theorem wq_read (W : Valuation τ sig (Elt Ideal)) (y : Fin 1024) (k : Fin 2048) :
    StableHlo.after (hostOps0 (F := Ideal)) W (Proc.devRef .tc main_v15) (ix2 y k) = W (Proc.devRef .tc main_arg8) (ix3 0 k (⟨y.val, by omega⟩ : Fin 8208)) := by
  after_reads_at
  blk_ext []

theorem wk_read (W : Valuation τ sig (Elt Ideal)) (k : Fin 2048) (y : Fin 1024) :
    StableHlo.after (hostOps0 (F := Ideal)) W (Proc.devRef .tc main_v9) (ix2 k y) = W (Proc.devRef .tc main_arg8) (ix3 0 k (⟨1024 + y.val, by omega⟩ : Fin 8208)) := by
  after_reads_at
  blk_ext []

theorem wv_read (W : Valuation τ sig (Elt Ideal)) (y : Fin 1024) (k : Fin 2048) :
    StableHlo.after (hostOps0 (F := Ideal)) W (Proc.devRef .tc main_v16) (ix2 y k) = W (Proc.devRef .tc main_arg8) (ix3 0 k (⟨2048 + y.val, by omega⟩ : Fin 8208)) := by
  after_reads_at
  blk_ext []

theorem wu_read (W : Valuation τ sig (Elt Ideal)) (k : Fin 2048) (y : Fin 1024) :
    StableHlo.after (hostOps0 (F := Ideal)) W (Proc.devRef .tc main_v12) (ix2 k y) = W (Proc.devRef .tc main_arg8) (ix3 0 k (⟨3088 + y.val, by omega⟩ : Fin 8208)) := by
  after_reads_at
  blk_ext []

theorem wf_read (W : Valuation τ sig (Elt Ideal)) (k : Fin 2048) (h : Fin 16) :
    StableHlo.after (hostOps0 (F := Ideal)) W (Proc.devRef .tc main_v11) (ix2 k h) = W (Proc.devRef .tc main_arg8) (ix3 0 k (⟨3072 + h.val, by omega⟩ : Fin 8208)) := by
  after_reads_at
  blk_ext []

theorem wf_pad (W : Valuation τ sig (Elt Ideal)) (k : Fin 2048) (h : Fin 16) :
    StableHlo.after (hostOps0_1 (F := Ideal)) W (Proc.devRef .tc main_v17) (ix2 k (⟨h.val, by omega⟩ : Fin 128)) = W (Proc.devRef .tc main_v11) (ix2 k h) := by
  after_reads_at

theorem bf_read (W : Valuation τ sig (Elt Ideal)) (h : Fin 16) :
    StableHlo.after (hostOps0_2 (F := Ideal)) W (Proc.devRef .tc main_v18) (ix1 h) = W (Proc.devRef .tc main_arg9) (ix2 0 h) := by
  after_reads_at

theorem bf_pad (W : Valuation τ sig (Elt Ideal)) (h : Fin 16) :
    StableHlo.after (hostOps0_3 (F := Ideal)) W (Proc.devRef .tc main_v19) (ix1 (⟨h.val, by omega⟩ : Fin 128)) = W (Proc.devRef .tc main_v18) (ix1 h) := by
  after_reads_at

theorem bf_row (W : Valuation τ sig (Elt Ideal)) (h : Fin 128) :
    StableHlo.after (hostOps0_4 (F := Ideal)) W (Proc.devRef .tc main_v20) (ix2 0 h) = W (Proc.devRef .tc main_v19) (ix1 h) := by
  after_reads_at

theorem g_read (W : Valuation τ sig (Elt Ideal)) (k : Fin 2048) :
    StableHlo.after (hostOps0_4 (F := Ideal)) W (Proc.devRef .tc main_v22) (ix2 0 k) = W (Proc.devRef .tc main_arg7) (ix2 0 k) := by
  after_reads_at

theorem cp_read (W : Valuation τ sig (Elt Ideal)) (r : Fin 8) (k : Fin 2048) :
    StableHlo.after (hostOps0_4 (F := Ideal)) W (Proc.devRef .tc main_v23) (ix2 (⟨r.val, by omega⟩ : Fin 40) k) = W (Proc.devRef .tc main_arg3) (ix2 r k) := by
  after_reads_at

theorem cs_read (W : Valuation τ sig (Elt Ideal)) (r : Fin 32) (k : Fin 2048) :
    StableHlo.after (hostOps0_4 (F := Ideal)) W (Proc.devRef .tc main_v23) (ix2 (⟨8 + r.val, by omega⟩ : Fin 40) k) = W (Proc.devRef .tc main_arg4) (ix2 r k) := by
  after_reads_at

theorem c_pad (W : Valuation τ sig (Elt Ideal)) (r : Fin 40) (k : Fin 2048) :
    StableHlo.after (hostOps0_5 (F := Ideal)) W (Proc.devRef .tc main_v24) (ix2 (⟨r.val, by omega⟩ : Fin 48) k) = W (Proc.devRef .tc main_v23) (ix2 r k) := by
  after_reads_at

theorem wa_read (W : Valuation τ sig (Elt Ideal)) (k : Fin 2048) (j : Fin 12288) :
    StableHlo.after (hostOps0_6 (F := Ideal)) W (Proc.devRef .tc main_v25) (ix2 k j) = W (Proc.devRef .tc main_arg5) (ix3 0 k j) := by
  after_reads_at

theorem ba_read (W : Valuation τ sig (Elt Ideal)) (j : Fin 12288) :
    StableHlo.after (hostOps0_6 (F := Ideal)) W (Proc.devRef .tc main_v27) (ix2 0 j) = W (Proc.devRef .tc main_arg6) (ix2 0 j) := by
  after_reads_at

theorem shp_read (W : Valuation τ sig (Elt Ideal)) (b : Fin 8) (k : Fin 2048) :
    StableHlo.after (hostOps1 (F := Ideal)) W (Proc.devRef .tc main_v36) (ix3 b 0 k) = W (Proc.devRef .tc main_v28) (ix2 (⟨b.val, by omega⟩ : Fin 48) (⟨k.val, by omega⟩ : Fin 12288)) := by
  after_reads_at
  blk_ext []

theorem scp_read (W : Valuation τ sig (Elt Ideal)) (b : Fin 8) (k : Fin 2048) :
    StableHlo.after (hostOps1 (F := Ideal)) W (Proc.devRef .tc main_v37) (ix3 b 0 k) = W (Proc.devRef .tc main_v28) (ix2 (⟨b.val, by omega⟩ : Fin 48) (⟨2048 + k.val, by omega⟩ : Fin 12288)) := by
  after_reads_at
  blk_ext []

theorem shs_read (W : Valuation τ sig (Elt Ideal)) (b : Fin 32) (t : Fin 4) (k : Fin 2048) :
    StableHlo.after (hostOps1 (F := Ideal)) W (Proc.devRef .tc main_v51) (ix3 0 (flat b t) k) = W (Proc.devRef .tc main_v28) (ix2 (⟨8 + b.val, by omega⟩ : Fin 48) (⟨k.val, by omega⟩ : Fin 12288)) := by
  after_reads_at
  blk_ext [flat]

theorem scs_read (W : Valuation τ sig (Elt Ideal)) (b : Fin 32) (t : Fin 4) (k : Fin 2048) :
    StableHlo.after (hostOps1 (F := Ideal)) W (Proc.devRef .tc main_v54) (ix3 0 (flat b t) k) = W (Proc.devRef .tc main_v28) (ix2 (⟨8 + b.val, by omega⟩ : Fin 48) (⟨2048 + k.val, by omega⟩ : Fin 12288)) := by
  after_reads_at
  blk_ext [flat]

theorem xs_read (W : Valuation τ sig (Elt Ideal)) (b : Fin 32) (t : Fin 4) (k : Fin 2048) :
    StableHlo.after (hostOps2 (F := Ideal)) W (Proc.devRef .tc main_v69) (ix3 0 (flat b t) k) = W (Proc.devRef .tc main_arg1) (ix3 b t k) := by
  after_reads_at
  blk_ext [flat]

theorem lfp_read (W : Valuation τ sig (Elt Ideal)) (b : Fin 8) (p : Fin 2048) (h : Fin 16) :
    StableHlo.after (hostOps2 (F := Ideal)) W (Proc.devRef .tc main_v68) (ix3 b p h) = W (Proc.devRef .tc main_v67_4) (ix3 b p (⟨h.val, by omega⟩ : Fin 128)) := by
  after_reads_at
  blk_ext []

theorem kp_out (W : Valuation τ sig (Elt Ideal)) (b : Fin 8) (t : Fin 2048) (h : Fin 16) (d : Fin 64) :
    StableHlo.after (hostOps3 (F := Ideal)) W (Proc.devRef .tc main_v88) (ix5 0 b t h d) = W (Proc.devRef .tc main_v67_1) (ix3 b t (lane h d)) := by
  after_reads_at
  blk_ext [flat, lane]

theorem vp_out (W : Valuation τ sig (Elt Ideal)) (b : Fin 8) (t : Fin 2048) (h : Fin 16) (d : Fin 64) :
    StableHlo.after (hostOps3 (F := Ideal)) W (Proc.devRef .tc main_v87) (ix5 0 b t h d) = W (Proc.devRef .tc main_v67_2) (ix3 b (lane h d) t) := by
  after_reads_at
  blk_ext [flat, lane]

theorem fp_out (W : Valuation τ sig (Elt Ideal)) (b : Fin 8) (t : Fin 2048) (h : Fin 16) :
    StableHlo.after (hostOps3 (F := Ideal)) W (Proc.devRef .tc main_v89) (ix4 0 b t h) = W (Proc.devRef .tc main_v68) (ix3 b t h) := by
  after_reads_at
  blk_ext [flat, lane]

theorem poolp_out (W : Valuation τ sig (Elt Ideal)) (b : Fin 8) (r : Fin 15) (k : Fin 1024) :
    StableHlo.after (hostOps3 (F := Ideal)) W (Proc.devRef .tc main_v82) (ix4 0 b r k) = W (Proc.devRef .tc main_v67_3) (ix3 b (⟨2033 + r.val, by omega⟩ : Fin 2048) k) := by
  after_reads_at
  blk_ext [flat, lane]

theorem ks_out (W : Valuation τ sig (Elt Ideal)) (b : Fin 32) (t : Fin 4) (h : Fin 16) (d : Fin 64) :
    StableHlo.after (hostOps3 (F := Ideal)) W (Proc.devRef .tc main_v90) (ix5 0 b t h d) = W (Proc.devRef .tc main_v70_1) (ix3 0 (flat b t) (lane h d)) := by
  after_reads_at
  blk_ext [flat, lane]

theorem vs_out (W : Valuation τ sig (Elt Ideal)) (b : Fin 32) (t : Fin 4) (h : Fin 16) (d : Fin 64) :
    StableHlo.after (hostOps3 (F := Ideal)) W (Proc.devRef .tc main_v91) (ix5 0 b t h d) = W (Proc.devRef .tc main_v70_2) (ix3 0 (lane h d) (flat b t)) := by
  after_reads_at
  blk_ext [flat, lane]

theorem fs_out (W : Valuation τ sig (Elt Ideal)) (b : Fin 32) (t : Fin 4) (h : Fin 16) :
    StableHlo.after (hostOps3 (F := Ideal)) W (Proc.devRef .tc main_v92) (ix4 0 b t h) = W (Proc.devRef .tc main_v70_4) (ix3 0 (flat b t) (⟨h.val, by omega⟩ : Fin 128)) := by
  after_reads_at
  blk_ext [flat, lane]

theorem pools_old (W : Valuation τ sig (Elt Ideal)) (b : Fin 32) (r : Fin 11) (k : Fin 1024) :
    StableHlo.after (hostOps3 (F := Ideal)) W (Proc.devRef .tc main_v84) (ix4 0 b (⟨r.val, by omega⟩ : Fin 15) k) = W (Proc.devRef .tc main_arg2) (ix4 0 b (⟨4 + r.val, by omega⟩ : Fin 15) k) := by
  after_reads_at
  rw [dif_pos (by omega)]
  after_reads_at
  blk_ext [flat]

theorem pools_new (W : Valuation τ sig (Elt Ideal)) (b : Fin 32) (r : Fin 4) (k : Fin 1024) :
    StableHlo.after (hostOps3 (F := Ideal)) W (Proc.devRef .tc main_v84) (ix4 0 b (⟨11 + r.val, by omega⟩ : Fin 15) k) = W (Proc.devRef .tc main_v70_3) (ix3 0 (flat b r) k) := by
  after_reads_at
  rw [dif_neg (by omega)]
  after_reads_at
  blk_ext [flat]

theorem qs_out (W : Valuation τ sig (Elt Ideal)) (b : Fin 32) (t : Fin 4) (y : Fin 1024) :
    StableHlo.after (hostOps3 (F := Ideal)) W (Proc.devRef .tc main_v93) (ix3 b t y) = W (Proc.devRef .tc main_v70_0) (ix3 0 y (flat b t)) := by
  after_reads_at
  blk_ext [flat, lane]

theorem us_out (W : Valuation τ sig (Elt Ideal)) (b : Fin 32) (t : Fin 4) (y : Fin 1024) :
    StableHlo.after (hostOps3 (F := Ideal)) W (Proc.devRef .tc main_v78) (ix3 b t y) = W (Proc.devRef .tc main_v70_3) (ix3 0 (flat b t) y) := by
  after_reads_at
  blk_ext [flat, lane]

end Cert.Kernel2Ideal.Value
end
-- ==== Proof.InprojVal.lean ====
/- The in-projection's results at an index, from the arguments. -/
module

public import proofs.«01_k».proof.Proof.InprojHost

@[expose] public section

set_option maxRecDepth 16384

noncomputable section

namespace Cert.Rows

theorem dot_comm (h w : Fin 2048 → EReal) : dot h w = dot w h := Finset.sum_congr rfl fun k _ => mul_comm _ _

theorem proj_of {x g : Fin 2048 → EReal} {c : Fin 2048 → EReal} {wa : Fin 2048 → Fin 12288 → EReal} {ba : Fin 12288 → EReal} {w : Fin 2048 → Fin 8208 → EReal}
    {h v : Fin 2048 → EReal} (j : Fin 8208)
    (hh : ∀ k, h k = hrow x g (fun k => arow c wa ba (⟨k.val, by omega⟩ : Fin 12288)) (fun k => arow c wa ba (⟨2048 + k.val, by omega⟩ : Fin 12288)) k)
    (hv : ∀ k, v k = w k j) : dot h v = proj x g c wa ba w j := dot_congr hh hv

end Cert.Rows

namespace Cert.Kernel2Ideal.Value

open Idealize.ShloMosaic Idealize.ShloMosaic.TcCoe Idealize.SL.Sem Cert.Kernel2Ideal Cert.Kernel2Ideal.Gen Cert.Rows

variable (m : (ℓ : Loc nD τ sig) → Buf (Elt Ideal) ℓ) (ρ : Dev nD → PrngReg) (c : Dev nD)

/-- What the host code leaves before the first call, seen by the later calls. -/
theorem keep7 (r : Ref sig .tc) (h2 : r ∉ hostOps0_1_W) (h3 : r ∉ hostOps0_2_W) (h4 : r ∉ hostOps0_3_W) (h5 : r ∉ hostOps0_4_W) (h6 : r ∉ hostOps0_5_W)
    (h7 : r ∉ hostOps0_6_W) : W7 m ρ c (Proc.devRef .tc r) = W1 m ρ c (Proc.devRef .tc r) :=
  (W7_of m ρ c r h7).trans ((W6_of m ρ c r h6).trans ((W5_of m ρ c r h5).trans ((W4_of m ρ c r h4).trans ((W3_of m ρ c r h3).trans (W2_of m ρ c r h2)))))

theorem keep9 (r : Ref sig .tc) (h : ∀ w : Fin cfg0.W, Pipeline.arrRef spec0 w = r → (cfg0.win w).isOut = false) (h1 : r ∉ hostOps1_W) :
    V9 m ρ c r = W7 m ρ c (Proc.devRef .tc r) :=
  (W9_of m ρ c r h1).trans (W8_of m ρ c r h)

theorem keep11 (r : Ref sig .tc) (h : ∀ w : Fin cfg1.W, Pipeline.arrRef spec1 w = r → (cfg1.win w).isOut = false) (h1 : r ∉ hostOps2_W) :
    V11 m ρ c r = V9 m ρ c r :=
  (W11_of m ρ c r h1).trans (W10_of m ρ c r h)

theorem wq_at (y : Fin 1024) (k : Fin 2048) : V9 m ρ c main_v15 (ix2 y k) = m ((c.tc : Thread nD τ).loc main_arg8) (ix3 0 k (⟨y.val, by omega⟩ : Fin 8208)) :=
  (congrFun ((keep9 m ρ c main_v15 (by decide) (by decide)).trans (keep7 m ρ c main_v15 (by decide) (by decide) (by decide) (by decide) (by decide) (by decide))) _).trans
    (wq_read (W0 m ρ c) y k)

theorem wk_at (k : Fin 2048) (y : Fin 1024) : V9 m ρ c main_v9 (ix2 k y) = m ((c.tc : Thread nD τ).loc main_arg8) (ix3 0 k (⟨1024 + y.val, by omega⟩ : Fin 8208)) :=
  (congrFun ((keep9 m ρ c main_v9 (by decide) (by decide)).trans (keep7 m ρ c main_v9 (by decide) (by decide) (by decide) (by decide) (by decide) (by decide))) _).trans
    (wk_read (W0 m ρ c) k y)

theorem wv_at (y : Fin 1024) (k : Fin 2048) : V9 m ρ c main_v16 (ix2 y k) = m ((c.tc : Thread nD τ).loc main_arg8) (ix3 0 k (⟨2048 + y.val, by omega⟩ : Fin 8208)) :=
  (congrFun ((keep9 m ρ c main_v16 (by decide) (by decide)).trans (keep7 m ρ c main_v16 (by decide) (by decide) (by decide) (by decide) (by decide) (by decide))) _).trans
    (wv_read (W0 m ρ c) y k)

theorem wu_at (k : Fin 2048) (y : Fin 1024) : V9 m ρ c main_v12 (ix2 k y) = m ((c.tc : Thread nD τ).loc main_arg8) (ix3 0 k (⟨3088 + y.val, by omega⟩ : Fin 8208)) :=
  (congrFun ((keep9 m ρ c main_v12 (by decide) (by decide)).trans (keep7 m ρ c main_v12 (by decide) (by decide) (by decide) (by decide) (by decide) (by decide))) _).trans
    (wu_read (W0 m ρ c) k y)

theorem wf_at (k : Fin 2048) (h : Fin 16) : V9 m ρ c main_v17 (ix2 k (⟨h.val, by omega⟩ : Fin 128)) = m ((c.tc : Thread nD τ).loc main_arg8) (ix3 0 k (⟨3072 + h.val, by omega⟩ : Fin 8208)) :=
  (congrFun ((keep9 m ρ c main_v17 (by decide) (by decide)).trans ((W7_of m ρ c main_v17 (by decide)).trans ((W6_of m ρ c main_v17 (by decide)).trans
    ((W5_of m ρ c main_v17 (by decide)).trans ((W4_of m ρ c main_v17 (by decide)).trans (W3_of m ρ c main_v17 (by decide))))))) _).trans
    ((wf_pad (W1 m ρ c) k h).trans (wf_read (W0 m ρ c) k h))

theorem bf_at (h : Fin 16) : V9 m ρ c main_v20 (ix2 0 (⟨h.val, by omega⟩ : Fin 128)) = m ((c.tc : Thread nD τ).loc main_arg9) (ix2 0 h) :=
  (congrFun ((keep9 m ρ c main_v20 (by decide) (by decide)).trans ((W7_of m ρ c main_v20 (by decide)).trans (W6_of m ρ c main_v20 (by decide)))) _).trans
    ((bf_row (W4 m ρ c) _).trans ((bf_pad (W3 m ρ c) h).trans ((bf_read (W2 m ρ c) h).trans (congrFun (W2_args m ρ c main_arg9 (by decide)) _))))

theorem g_at (k : Fin 2048) : V9 m ρ c main_v22 (ix2 0 k) = m ((c.tc : Thread nD τ).loc main_arg7) (ix2 0 k) :=
  (congrFun ((keep9 m ρ c main_v22 (by decide) (by decide)).trans ((W7_of m ρ c main_v22 (by decide)).trans (W6_of m ρ c main_v22 (by decide)))) _).trans
    ((g_read (W4 m ρ c) k).trans (congrFun (W4_args m ρ c main_arg7 (by decide)) _))

theorem c_at (r : Fin 40) (k : Fin 2048) : V7 m ρ c main_v24 (ix2 (⟨r.val, by omega⟩ : Fin 48) k) = W5 m ρ c (Proc.devRef .tc main_v23) (ix2 r k) :=
  (congrFun (W7_of m ρ c main_v24 (by decide)) _).trans (c_pad (W5 m ρ c) r k)

theorem cp_at (b : Fin 8) (k : Fin 2048) : V7 m ρ c main_v24 (ix2 (⟨b.val, by omega⟩ : Fin 48) k) = m ((c.tc : Thread nD τ).loc main_arg3) (ix2 b k) :=
  (c_at m ρ c (⟨b.val, by omega⟩ : Fin 40) k).trans ((cp_read (W4 m ρ c) b k).trans (congrFun (W4_args m ρ c main_arg3 (by decide)) _))

theorem cs_at (b : Fin 32) (k : Fin 2048) : V7 m ρ c main_v24 (ix2 (⟨8 + b.val, by omega⟩ : Fin 48) k) = m ((c.tc : Thread nD τ).loc main_arg4) (ix2 b k) :=
  (c_at m ρ c (⟨8 + b.val, by omega⟩ : Fin 40) k).trans ((cs_read (W4 m ρ c) b k).trans (congrFun (W4_args m ρ c main_arg4 (by decide)) _))

theorem wa_at (k : Fin 2048) (j : Fin 12288) : V7 m ρ c main_v25 (ix2 k j) = m ((c.tc : Thread nD τ).loc main_arg5) (ix3 0 k j) :=
  (wa_read (W6 m ρ c) k j).trans (congrFun (W6_args m ρ c main_arg5 (by decide)) _)

theorem ba_at (j : Fin 12288) : V7 m ρ c main_v27 (ix2 0 j) = m ((c.tc : Thread nD τ).loc main_arg6) (ix2 0 j) :=
  (ba_read (W6 m ρ c) j).trans (congrFun (W6_args m ρ c main_arg6 (by decide)) _)

/-- The conditioning of a prompt and of a sample, from the arguments. -/
def modP (b : Fin 8) : Fin 12288 → EReal :=
  arow (fun k => m ((c.tc : Thread nD τ).loc main_arg3) (ix2 b k)) (fun k j => m ((c.tc : Thread nD τ).loc main_arg5) (ix3 0 k j)) (fun j => m ((c.tc : Thread nD τ).loc main_arg6) (ix2 0 j))
def modS (b : Fin 32) : Fin 12288 → EReal :=
  arow (fun k => m ((c.tc : Thread nD τ).loc main_arg4) (ix2 b k)) (fun k j => m ((c.tc : Thread nD τ).loc main_arg5) (ix3 0 k j)) (fun j => m ((c.tc : Thread nD τ).loc main_arg6) (ix2 0 j))

theorem modP_at (b : Fin 8) (j : Fin 12288) : W8 m ρ c (Proc.devRef .tc main_v28) (ix2 (⟨b.val, by omega⟩ : Fin 48) j) = modP m c b j :=
  ((congrFun (W8_arr m ρ c 3) _).trans (congrFun (ada_final (V7 m ρ) c) (ix2 (⟨b.val, by omega⟩ : Fin 48) j))).trans
    (arow_congr j (fun k => cp_at m ρ c b k) (fun k j => wa_at m ρ c k j) (fun j => ba_at m ρ c j))

theorem modS_at (b : Fin 32) (j : Fin 12288) : W8 m ρ c (Proc.devRef .tc main_v28) (ix2 (⟨8 + b.val, by omega⟩ : Fin 48) j) = modS m c b j :=
  ((congrFun (W8_arr m ρ c 3) _).trans (congrFun (ada_final (V7 m ρ) c) (ix2 (⟨8 + b.val, by omega⟩ : Fin 48) j))).trans
    (arow_congr j (fun k => cs_at m ρ c b k) (fun k j => wa_at m ρ c k j) (fun j => ba_at m ρ c j))

/-- The in-projection of a prompt's row and of a sample's row, from the arguments. -/
def inP (b : Fin 8) (t : Fin 2048) : Fin 8208 → EReal :=
  proj (fun k => m ((c.tc : Thread nD τ).loc main_arg0) (ix3 b t k)) (fun k => m ((c.tc : Thread nD τ).loc main_arg7) (ix2 0 k)) (fun k => m ((c.tc : Thread nD τ).loc main_arg3) (ix2 b k))
    (fun k j => m ((c.tc : Thread nD τ).loc main_arg5) (ix3 0 k j)) (fun j => m ((c.tc : Thread nD τ).loc main_arg6) (ix2 0 j)) (fun k j => m ((c.tc : Thread nD τ).loc main_arg8) (ix3 0 k j))
def inS (b : Fin 32) (t : Fin 4) : Fin 8208 → EReal :=
  proj (fun k => m ((c.tc : Thread nD τ).loc main_arg1) (ix3 b t k)) (fun k => m ((c.tc : Thread nD τ).loc main_arg7) (ix2 0 k)) (fun k => m ((c.tc : Thread nD τ).loc main_arg4) (ix2 b k))
    (fun k j => m ((c.tc : Thread nD τ).loc main_arg5) (ix3 0 k j)) (fun j => m ((c.tc : Thread nD τ).loc main_arg6) (ix2 0 j)) (fun k j => m ((c.tc : Thread nD τ).loc main_arg8) (ix3 0 k j))

theorem hpV_at (b : Fin 8) (t k : Fin 2048) : hp (V9 m ρ) c b t k = hrow (fun k => m ((c.tc : Thread nD τ).loc main_arg0) (ix3 b t k))
    (fun k => m ((c.tc : Thread nD τ).loc main_arg7) (ix2 0 k)) (fun k => modP m c b (⟨k.val, by omega⟩ : Fin 12288)) (fun k => modP m c b (⟨2048 + k.val, by omega⟩ : Fin 12288)) k :=
  hrow_congr k (fun k => congrFun (W9_args m ρ c main_arg0 (by decide)) _) (fun k => g_at m ρ c k) (fun k => (shp_read (W8 m ρ c) b k).trans (modP_at m ρ c b _))
    (fun k => (scp_read (W8 m ρ c) b k).trans (modP_at m ρ c b _))

theorem hsV_at (b : Fin 32) (t : Fin 4) (k : Fin 2048) : hs (V11 m ρ) c (flat b t) k = hrow (fun k => m ((c.tc : Thread nD τ).loc main_arg1) (ix3 b t k))
    (fun k => m ((c.tc : Thread nD τ).loc main_arg7) (ix2 0 k)) (fun k => modS m c b (⟨k.val, by omega⟩ : Fin 12288)) (fun k => modS m c b (⟨2048 + k.val, by omega⟩ : Fin 12288)) k :=
  hrow_congr k (fun k => (xs_read (W10 m ρ c) b t k).trans (congrFun (W10_args m ρ c main_arg1 (by decide)) _))
    (fun k => (congrFun (keep11 m ρ c main_v22 (by decide) (by decide)) _).trans (g_at m ρ c k))
    (fun k => (congrFun (keep11 m ρ c main_v51 (by decide) (by decide)) _).trans ((shs_read (W8 m ρ c) b t k).trans (modS_at m ρ c b _)))
    (fun k => (congrFun (keep11 m ρ c main_v54 (by decide) (by decide)) _).trans ((scs_read (W8 m ρ c) b t k).trans (modS_at m ρ c b _)))

/-- A buffer of the second call, as it ends. -/
theorem end10 (r : Ref sig .tc) (h2 : r ∉ hostOps2_W) (h : ∀ w : Fin cfg2.W, Pipeline.arrRef spec2 w = r → (cfg2.win w).isOut = false) :
    W12 m ρ c (Proc.devRef .tc r) = W10 m ρ c (Proc.devRef .tc r) :=
  (W12_of m ρ c r h).trans (W11_of m ρ c r h2)

theorem qp_val (b : Fin 8) (y : Fin 1024) (t : Fin 2048) : W13 m ρ c (Proc.devRef .tc main_v67_0) (ix3 b y t)
    = inP m c b t (⟨y.val, by omega⟩ : Fin 8208) * (((8 * (Real.log 2))⁻¹ : ℝ) : EReal) :=
  ((congrFun ((W13_of m ρ c main_v67_0 (by decide)).trans ((end10 m ρ c main_v67_0 (by decide) (by decide)).trans (W10_arr m ρ c 10))) _).trans
    (congrFun (qp_final (V9 m ρ) c) (ix3 b y t))).trans
    (congrArg (· * (((8 * (Real.log 2))⁻¹ : ℝ) : EReal)) ((dot_comm _ _).trans (proj_of _ (fun k => hpV_at m ρ c b t k) (fun k => wq_at m ρ c y k))))

theorem kp_val (b : Fin 8) (t : Fin 2048) (h : Fin 16) (d : Fin 64) : W13 m ρ c (Proc.devRef .tc main_v88) (ix5 0 b t h d)
    = inP m c b t (⟨1024 + (lane h d).val, by omega⟩ : Fin 8208) :=
  ((kp_out (W12 m ρ c) b t h d).trans ((congrFun ((end10 m ρ c main_v67_1 (by decide) (by decide)).trans (W10_arr m ρ c 11)) _).trans
    (congrFun (kp_final (V9 m ρ) c) (ix3 b t (lane h d))))).trans (proj_of _ (fun k => hpV_at m ρ c b t k) (fun k => wk_at m ρ c k (lane h d)))

theorem vp_val (b : Fin 8) (t : Fin 2048) (h : Fin 16) (d : Fin 64) : W13 m ρ c (Proc.devRef .tc main_v87) (ix5 0 b t h d)
    = inP m c b t (⟨2048 + (lane h d).val, by omega⟩ : Fin 8208) :=
  ((vp_out (W12 m ρ c) b t h d).trans ((congrFun ((end10 m ρ c main_v67_2 (by decide) (by decide)).trans (W10_arr m ρ c 12)) _).trans
    (congrFun (vp_final (V9 m ρ) c) (ix3 b (lane h d) t)))).trans ((dot_comm _ _).trans (proj_of _ (fun k => hpV_at m ρ c b t k) (fun k => wv_at m ρ c (lane h d) k)))

theorem up_row (b : Fin 8) (t : Fin 2048) (y : Fin 1024) : W12 m ρ c (Proc.devRef .tc main_v67_3) (ix3 b t y)
    = inP m c b t (⟨3088 + y.val, by omega⟩ : Fin 8208) :=
  ((congrFun ((end10 m ρ c main_v67_3 (by decide) (by decide)).trans (W10_arr m ρ c 13)) _).trans
    (congrFun (up_final (V9 m ρ) c) (ix3 b t y))).trans (proj_of _ (fun k => hpV_at m ρ c b t k) (fun k => wu_at m ρ c k y))

theorem up_val (b : Fin 8) (t : Fin 2048) (y : Fin 1024) : W13 m ρ c (Proc.devRef .tc main_v67_3) (ix3 b t y)
    = inP m c b t (⟨3088 + y.val, by omega⟩ : Fin 8208) :=
  (congrFun (W13_of m ρ c main_v67_3 (by decide)) _).trans (up_row m ρ c b t y)

theorem poolp_val (b : Fin 8) (r : Fin 15) (y : Fin 1024) : W13 m ρ c (Proc.devRef .tc main_v82) (ix4 0 b r y)
    = inP m c b (⟨2033 + r.val, by omega⟩ : Fin 2048) (⟨3088 + y.val, by omega⟩ : Fin 8208) :=
  (poolp_out (W12 m ρ c) b r y).trans (up_row m ρ c b _ y)

theorem fp_val (b : Fin 8) (t : Fin 2048) (h : Fin 16) : W13 m ρ c (Proc.devRef .tc main_v89) (ix4 0 b t h)
    = lsig (inP m c b t (⟨3072 + h.val, by omega⟩ : Fin 8208) + m ((c.tc : Thread nD τ).loc main_arg9) (ix2 0 h)) :=
  ((fp_out (W12 m ρ c) b t h).trans ((congrFun (W12_of m ρ c main_v68 (by decide)) _).trans ((lfp_read (W10 m ρ c) b t h).trans
    ((congrFun (W10_arr m ρ c 14) _).trans (congrFun (fp_final (V9 m ρ) c) (ix3 b t (⟨h.val, by omega⟩ : Fin 128))))))).trans
    (congrArg lsig (congrArg₂ (· + ·) (proj_of _ (fun k => hpV_at m ρ c b t k) (fun k => wf_at m ρ c k h)) (bf_at m ρ c h)))

theorem qs_val (b : Fin 32) (t : Fin 4) (y : Fin 1024) : W13 m ρ c (Proc.devRef .tc main_v93) (ix3 b t y)
    = inS m c b t (⟨y.val, by omega⟩ : Fin 8208) * Ideal.ofBits .f32 0x3E000000#32 :=
  ((qs_out (W12 m ρ c) b t y).trans ((congrFun (W12_arr m ρ c 10) _).trans (congrFun (qs_final (V11 m ρ) c) (ix3 0 y (flat b t))))).trans
    (congrArg (· * Ideal.ofBits .f32 0x3E000000#32) ((dot_comm _ _).trans (proj_of _ (fun k => hsV_at m ρ c b t k)
      (fun k => (congrFun (keep11 m ρ c main_v15 (by decide) (by decide)) _).trans (wq_at m ρ c y k)))))

theorem ks_val (b : Fin 32) (t : Fin 4) (h : Fin 16) (d : Fin 64) : W13 m ρ c (Proc.devRef .tc main_v90) (ix5 0 b t h d)
    = inS m c b t (⟨1024 + (lane h d).val, by omega⟩ : Fin 8208) :=
  ((ks_out (W12 m ρ c) b t h d).trans ((congrFun (W12_arr m ρ c 11) _).trans (congrFun (ks_final (V11 m ρ) c) (ix3 0 (flat b t) (lane h d))))).trans
    (proj_of _ (fun k => hsV_at m ρ c b t k) (fun k => (congrFun (keep11 m ρ c main_v9 (by decide) (by decide)) _).trans (wk_at m ρ c k (lane h d))))

theorem vs_val (b : Fin 32) (t : Fin 4) (h : Fin 16) (d : Fin 64) : W13 m ρ c (Proc.devRef .tc main_v91) (ix5 0 b t h d)
    = inS m c b t (⟨2048 + (lane h d).val, by omega⟩ : Fin 8208) :=
  ((vs_out (W12 m ρ c) b t h d).trans ((congrFun (W12_arr m ρ c 12) _).trans (congrFun (vs_final (V11 m ρ) c) (ix3 0 (lane h d) (flat b t))))).trans
    ((dot_comm _ _).trans (proj_of _ (fun k => hsV_at m ρ c b t k) (fun k => (congrFun (keep11 m ρ c main_v16 (by decide) (by decide)) _).trans (wv_at m ρ c (lane h d) k))))

theorem us_row (b : Fin 32) (t : Fin 4) (y : Fin 1024) : W12 m ρ c (Proc.devRef .tc main_v70_3) (ix3 0 (flat b t) y)
    = inS m c b t (⟨3088 + y.val, by omega⟩ : Fin 8208) :=
  ((congrFun (W12_arr m ρ c 13) _).trans (congrFun (us_final (V11 m ρ) c) (ix3 0 (flat b t) y))).trans
    (proj_of _ (fun k => hsV_at m ρ c b t k) (fun k => (congrFun (keep11 m ρ c main_v12 (by decide) (by decide)) _).trans (wu_at m ρ c k y)))

theorem us_val (b : Fin 32) (t : Fin 4) (y : Fin 1024) : W13 m ρ c (Proc.devRef .tc main_v78) (ix3 b t y)
    = inS m c b t (⟨3088 + y.val, by omega⟩ : Fin 8208) :=
  (us_out (W12 m ρ c) b t y).trans (us_row m ρ c b t y)

theorem pools_val_old (b : Fin 32) (r : Fin 11) (y : Fin 1024) : W13 m ρ c (Proc.devRef .tc main_v84) (ix4 0 b (⟨r.val, by omega⟩ : Fin 15) y)
    = m ((c.tc : Thread nD τ).loc main_arg2) (ix4 0 b (⟨4 + r.val, by omega⟩ : Fin 15) y) :=
  (pools_old (W12 m ρ c) b r y).trans (congrFun (W12_args m ρ c main_arg2 (by decide)) _)

theorem pools_val_new (b : Fin 32) (r : Fin 4) (y : Fin 1024) : W13 m ρ c (Proc.devRef .tc main_v84) (ix4 0 b (⟨11 + r.val, by omega⟩ : Fin 15) y)
    = inS m c b r (⟨3088 + y.val, by omega⟩ : Fin 8208) :=
  (pools_new (W12 m ρ c) b r y).trans (us_row m ρ c b r y)

theorem fs_val (b : Fin 32) (t : Fin 4) (h : Fin 16) : W13 m ρ c (Proc.devRef .tc main_v92) (ix4 0 b t h)
    = lsig (inS m c b t (⟨3072 + h.val, by omega⟩ : Fin 8208) + m ((c.tc : Thread nD τ).loc main_arg9) (ix2 0 h)) :=
  ((fs_out (W12 m ρ c) b t h).trans ((congrFun (W12_arr m ρ c 14) _).trans (congrFun (fs_final (V11 m ρ) c) (ix3 0 (flat b t) (⟨h.val, by omega⟩ : Fin 128))))).trans
    (congrArg lsig (congrArg₂ (· + ·) (proj_of _ (fun k => hsV_at m ρ c b t k) (fun k => (congrFun (keep11 m ρ c main_v17 (by decide) (by decide)) _).trans (wf_at m ρ c k h)))
      ((congrFun (keep11 m ρ c main_v20 (by decide) (by decide)) _).trans (bf_at m ρ c h))))

end Cert.Kernel2Ideal.Value
end
-- ==== Proof.InprojRun.lean ====
/- The in-projection's run with the contents it leaves. -/
module

public import proofs.«01_k».proof.Proof.Gen.Kernel2Ideal.Frame

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the kernel ends with its results at what the last host lines leave, its arguments as launched. -/
theorem run : θ_run defs (onTc (τ := τ) (main (F := F))) ⟨m, fun _ => 0, ρ⟩ (fun r => ∀ c : Dev nD,
      r.2.mem ((c.tc : Thread nD τ).loc main_v88) = W13 m ρ c (Proc.devRef .tc main_v88)
      ∧ r.2.mem ((c.tc : Thread nD τ).loc main_v87) = W13 m ρ c (Proc.devRef .tc main_v87)
      ∧ r.2.mem ((c.tc : Thread nD τ).loc main_v89) = W13 m ρ c (Proc.devRef .tc main_v89)
      ∧ r.2.mem ((c.tc : Thread nD τ).loc main_v82) = W13 m ρ c (Proc.devRef .tc main_v82)
      ∧ r.2.mem ((c.tc : Thread nD τ).loc main_v90) = W13 m ρ c (Proc.devRef .tc main_v90)
      ∧ r.2.mem ((c.tc : Thread nD τ).loc main_v91) = W13 m ρ c (Proc.devRef .tc main_v91)
      ∧ r.2.mem ((c.tc : Thread nD τ).loc main_v92) = W13 m ρ c (Proc.devRef .tc main_v92)
      ∧ r.2.mem ((c.tc : Thread nD τ).loc main_v84) = W13 m ρ c (Proc.devRef .tc main_v84)
      ∧ r.2.mem ((c.tc : Thread nD τ).loc main_v67_0) = W13 m ρ c (Proc.devRef .tc main_v67_0)
      ∧ r.2.mem ((c.tc : Thread nD τ).loc main_v93) = W13 m ρ c (Proc.devRef .tc main_v93)
      ∧ r.2.mem ((c.tc : Thread nD τ).loc main_v67_3) = W13 m ρ c (Proc.devRef .tc main_v67_3)
      ∧ r.2.mem ((c.tc : Thread nD τ).loc main_v78) = W13 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c =>
      ⟨h c _ (mem_uc main_v88 (by decide)),
       h c _ (mem_uc main_v87 (by decide)),
       h c _ (mem_uc main_v89 (by decide)),
       h c _ (mem_uc main_v82 (by decide)),
       h c _ (mem_uc main_v90 (by decide)),
       h c _ (mem_uc main_v91 (by decide)),
       h c _ (mem_uc main_v92 (by decide)),
       h c _ (mem_uc main_v84 (by decide)),
       h c _ (mem_uc main_v67_0 (by decide)),
       h c _ (mem_uc main_v93 (by decide)),
       h c _ (mem_uc main_v67_3 (by decide)),
       h c _ (mem_uc main_v78 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.Kernel2Ideal.Value
end
-- ==== Proof.InprojRef.lean ====
/- The in-projection's reference at an index. -/
module

public import proofs.«01_k».proof.Proof.Gen.Reference2Ideal.Run
public import proofs.«01_k».proof.Proof.Rows
public import Idealize.ShloMosaic.Lib.Pipeline.ValueKit

@[expose] public section

set_option maxRecDepth 16384

noncomputable section

namespace Cert.Reference2Ideal.Value

open Idealize.ShloMosaic Idealize.ShloMosaic.TcCoe Idealize.SL.Sem Cert.Reference2Ideal Cert.Reference2Ideal.Gen Cert.Rows

/-- The conditioning of the prompt. -/
def adaP (c : FVec Ideal S8x2048 .f32) (w : FVec Ideal S1x2048x12288 .f32) (b : FVec Ideal S1x12288 .f32) : FVec Ideal S8x1x12288 .f32 :=
  broadcastInDim S8x1x12288 ![0, 2] bcast_S8x12288_S8x1x12288_0_2 (addf (Host.dotGeneral dot_S8x2048_S2048x12288_S8x12288_1_0_0_1_n_n none (mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))) (shapeCast _ w shapeCasts_S1x2048x12288_S2048x12288)) (broadcastInDim S8x12288 ![0, 1] bcast_S1x12288_S8x12288_0_1 (broadcastInDim S1x12288 ![1] bcast_S12288_S1x12288_1 (shapeCast _ b shapeCasts_S1x12288_S12288))))

/-- The in-projection of the prompt. -/
def inP (x : FVec Ideal S8x2048x2048 .f32) (mod : FVec Ideal S8x1x12288 .f32) (g : FVec Ideal S1x2048 .f32) (w : FVec Ideal S1x2048x8208 .f32) : FVec Ideal S8x2048x8208 .f32 :=
  Host.dotGeneral dot_S8x2048x2048_S2048x8208_S8x2048x8208_2_0_01_1_n_n none (addf (mulf (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 2048] mod slices_S8x1x12288_S8x1x2048_0_0_2048)))) (broadcastInDim S8x2048x2048 ![0, 1, 2] bcast_S8x1x2048_S8x2048x2048_0_1_2 (extractStridedSlice S8x1x2048 ![0, 0, 0] mod slices_S8x1x12288_S8x1x2048_0_0_0))) (shapeCast _ w shapeCasts_S1x2048x8208_S2048x8208)

/-- The forget gates of the prompt before their logarithm. -/
def fgP (z : FVec Ideal S8x2048x8208 .f32) (b : FVec Ideal S1x16 .f32) : FVec Ideal S8x2048x16 .f32 :=
  addf (extractStridedSlice S8x2048x16 ![0, 0, 3072] z slices_S8x2048x8208_S8x2048x16_0_0_3072) (broadcastInDim S8x2048x16 ![0, 1, 2] bcast_S1x1x16_S8x2048x16_0_1_2 (broadcastInDim S1x1x16 ![2] bcast_S16_S1x1x16_2 (shapeCast _ b shapeCasts_S1x16_S16)))

/-- The logarithm of the sigmoid of the prompt's gates. -/
def lsP (f : FVec Ideal S8x2048x16 .f32) : FVec Ideal S1x8x2048x16 .f32 :=
  broadcastInDim S1x8x2048x16 ![1, 2, 3] bcast_S8x2048x16_S1x8x2048x16_1_2_3 (Host.negf (select (cmpf .une (subf (Host.negf f) (broadcastInDim S8x2048x16 ![] bcast_S_S8x2048x16 (constant S_ .f32 0x00000000#32))) (subf (Host.negf f) (broadcastInDim S8x2048x16 ![] bcast_S_S8x2048x16 (constant S_ .f32 0x00000000#32)))) (addf (Host.negf f) (broadcastInDim S8x2048x16 ![] bcast_S_S8x2048x16 (constant S_ .f32 0x00000000#32))) (addf (maximumf (Host.negf f) (broadcastInDim S8x2048x16 ![] bcast_S_S8x2048x16 (constant S_ .f32 0x00000000#32))) (Host.log1p (Host.exp (Host.negf (Host.absf (subf (Host.negf f) (broadcastInDim S8x2048x16 ![] bcast_S_S8x2048x16 (constant S_ .f32 0x00000000#32))))))))))

theorem adaP_at (c : FVec Ideal S8x2048 .f32) (w : FVec Ideal S1x2048x12288 .f32) (b : FVec Ideal S1x12288 .f32) (b' : Fin 8) (j : Fin 12288) :
    adaP c w b (ix3 b' 0 j) = arow (fun k => c (ix2 b' k)) (fun k j => w (ix3 0 k j)) (fun j => b (ix2 0 j)) j := by
  pointwise [adaP, arow, Ideal.logistic]

theorem inP_at (x : FVec Ideal S8x2048x2048 .f32) (mod : FVec Ideal S8x1x12288 .f32) (g : FVec Ideal S1x2048 .f32) (w : FVec Ideal S1x2048x8208 .f32) (b : Fin 8) (t : Fin 2048) (j : Fin 8208) :
    inP x mod g w (ix3 b t j) = ∑ k, hrow (fun k => x (ix3 b t k)) (fun k => g (ix2 0 k)) (fun k => mod (ix3 b 0 (⟨k.val, by omega⟩ : Fin 12288)))
      (fun k => mod (ix3 b 0 (⟨2048 + k.val, by omega⟩ : Fin 12288))) k * w (ix3 0 k j) := by
  pointwise [inP, hrow, rinv]

theorem projP_at (x : FVec Ideal S8x2048x2048 .f32) (c : FVec Ideal S8x2048 .f32) (wa : FVec Ideal S1x2048x12288 .f32) (ba : FVec Ideal S1x12288 .f32)
    (g : FVec Ideal S1x2048 .f32) (w : FVec Ideal S1x2048x8208 .f32) (b : Fin 8) (t : Fin 2048) (j : Fin 8208) :
    inP x (adaP c wa ba) g w (ix3 b t j) = proj (fun k => x (ix3 b t k)) (fun k => g (ix2 0 k)) (fun k => c (ix2 b k)) (fun k j => wa (ix3 0 k j))
      (fun j => ba (ix2 0 j)) (fun k j => w (ix3 0 k j)) j := by
  rw [inP_at, proj]
  simp only [adaP_at]

theorem fgP_at (z : FVec Ideal S8x2048x8208 .f32) (bf : FVec Ideal S1x16 .f32) (b : Fin 8) (t : Fin 2048) (h : Fin 16) :
    fgP z bf (ix3 b t h) = z (ix3 b t (⟨3072 + h.val, by omega⟩ : Fin 8208)) + bf (ix2 0 h) := by
  pointwise [fgP]

theorem lsP_at (f : FVec Ideal S8x2048x16 .f32) (b : Fin 8) (t : Fin 2048) (h : Fin 16) : lsP f (ix4 0 b t h) = lsig (f (ix3 b t h)) := by
  pointwise [lsP]
  simpa using lsig_eq (f (ix3 b t h))

/-- The conditioning of the sample. -/
def adaS (c : FVec Ideal S32x2048 .f32) (w : FVec Ideal S1x2048x12288 .f32) (b : FVec Ideal S1x12288 .f32) : FVec Ideal S32x1x12288 .f32 :=
  broadcastInDim S32x1x12288 ![0, 2] bcast_S32x12288_S32x1x12288_0_2 (addf (Host.dotGeneral dot_S32x2048_S2048x12288_S32x12288_1_0_0_1_n_n none (mulf c (Host.divf (broadcastInDim S32x2048 ![] bcast_S_S32x2048 (constant S_ .f32 0x3F800000#32)) (addf (broadcastInDim S32x2048 ![] bcast_S_S32x2048 (constant S_ .f32 0x3F800000#32)) (Host.exp (Host.negf c))))) (shapeCast _ w shapeCasts_S1x2048x12288_S2048x12288)) (broadcastInDim S32x12288 ![0, 1] bcast_S1x12288_S32x12288_0_1 (broadcastInDim S1x12288 ![1] bcast_S12288_S1x12288_1 (shapeCast _ b shapeCasts_S1x12288_S12288))))

/-- The in-projection of the sample. -/
def inS (x : FVec Ideal S32x4x2048 .f32) (mod : FVec Ideal S32x1x12288 .f32) (g : FVec Ideal S1x2048 .f32) (w : FVec Ideal S1x2048x8208 .f32) : FVec Ideal S32x4x8208 .f32 :=
  Host.dotGeneral dot_S32x4x2048_S2048x8208_S32x4x8208_2_0_01_1_n_n none (addf (mulf (mulf (mulf x (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf x x) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 (shapeCast _ g shapeCasts_S1x2048_S2048)))) (broadcastInDim S32x4x2048 ![0, 1, 2] bcast_S32x1x2048_S32x4x2048_0_1_2 (addf (broadcastInDim S32x1x2048 ![] bcast_S_S32x1x2048 (constant S_ .f32 0x3F800000#32)) (extractStridedSlice S32x1x2048 ![0, 0, 2048] mod slices_S32x1x12288_S32x1x2048_0_0_2048)))) (broadcastInDim S32x4x2048 ![0, 1, 2] bcast_S32x1x2048_S32x4x2048_0_1_2 (extractStridedSlice S32x1x2048 ![0, 0, 0] mod slices_S32x1x12288_S32x1x2048_0_0_0))) (shapeCast _ w shapeCasts_S1x2048x8208_S2048x8208)

/-- The forget gates of the sample before their logarithm. -/
def fgS (z : FVec Ideal S32x4x8208 .f32) (b : FVec Ideal S1x16 .f32) : FVec Ideal S32x4x16 .f32 :=
  addf (extractStridedSlice S32x4x16 ![0, 0, 3072] z slices_S32x4x8208_S32x4x16_0_0_3072) (broadcastInDim S32x4x16 ![0, 1, 2] bcast_S1x1x16_S32x4x16_0_1_2 (broadcastInDim S1x1x16 ![2] bcast_S16_S1x1x16_2 (shapeCast _ b shapeCasts_S1x16_S16)))

/-- The logarithm of the sigmoid of the sample's gates. -/
def lsS (f : FVec Ideal S32x4x16 .f32) : FVec Ideal S1x32x4x16 .f32 :=
  broadcastInDim S1x32x4x16 ![1, 2, 3] bcast_S32x4x16_S1x32x4x16_1_2_3 (Host.negf (select (cmpf .une (subf (Host.negf f) (broadcastInDim S32x4x16 ![] bcast_S_S32x4x16 (constant S_ .f32 0x00000000#32))) (subf (Host.negf f) (broadcastInDim S32x4x16 ![] bcast_S_S32x4x16 (constant S_ .f32 0x00000000#32)))) (addf (Host.negf f) (broadcastInDim S32x4x16 ![] bcast_S_S32x4x16 (constant S_ .f32 0x00000000#32))) (addf (maximumf (Host.negf f) (broadcastInDim S32x4x16 ![] bcast_S_S32x4x16 (constant S_ .f32 0x00000000#32))) (Host.log1p (Host.exp (Host.negf (Host.absf (subf (Host.negf f) (broadcastInDim S32x4x16 ![] bcast_S_S32x4x16 (constant S_ .f32 0x00000000#32))))))))))

theorem adaS_at (c : FVec Ideal S32x2048 .f32) (w : FVec Ideal S1x2048x12288 .f32) (b : FVec Ideal S1x12288 .f32) (b' : Fin 32) (j : Fin 12288) :
    adaS c w b (ix3 b' 0 j) = arow (fun k => c (ix2 b' k)) (fun k j => w (ix3 0 k j)) (fun j => b (ix2 0 j)) j := by
  pointwise [adaS, arow, Ideal.logistic]

theorem inS_at (x : FVec Ideal S32x4x2048 .f32) (mod : FVec Ideal S32x1x12288 .f32) (g : FVec Ideal S1x2048 .f32) (w : FVec Ideal S1x2048x8208 .f32) (b : Fin 32) (t : Fin 4) (j : Fin 8208) :
    inS x mod g w (ix3 b t j) = ∑ k, hrow (fun k => x (ix3 b t k)) (fun k => g (ix2 0 k)) (fun k => mod (ix3 b 0 (⟨k.val, by omega⟩ : Fin 12288)))
      (fun k => mod (ix3 b 0 (⟨2048 + k.val, by omega⟩ : Fin 12288))) k * w (ix3 0 k j) := by
  pointwise [inS, hrow, rinv]

theorem projS_at (x : FVec Ideal S32x4x2048 .f32) (c : FVec Ideal S32x2048 .f32) (wa : FVec Ideal S1x2048x12288 .f32) (ba : FVec Ideal S1x12288 .f32)
    (g : FVec Ideal S1x2048 .f32) (w : FVec Ideal S1x2048x8208 .f32) (b : Fin 32) (t : Fin 4) (j : Fin 8208) :
    inS x (adaS c wa ba) g w (ix3 b t j) = proj (fun k => x (ix3 b t k)) (fun k => g (ix2 0 k)) (fun k => c (ix2 b k)) (fun k j => wa (ix3 0 k j))
      (fun j => ba (ix2 0 j)) (fun k j => w (ix3 0 k j)) j := by
  rw [inS_at, proj]
  simp only [adaS_at]

theorem fgS_at (z : FVec Ideal S32x4x8208 .f32) (bf : FVec Ideal S1x16 .f32) (b : Fin 32) (t : Fin 4) (h : Fin 16) :
    fgS z bf (ix3 b t h) = z (ix3 b t (⟨3072 + h.val, by omega⟩ : Fin 8208)) + bf (ix2 0 h) := by
  pointwise [fgS]

theorem lsS_at (f : FVec Ideal S32x4x16 .f32) (b : Fin 32) (t : Fin 4) (h : Fin 16) : lsS f (ix4 0 b t h) = lsig (f (ix3 b t h)) := by
  pointwise [lsS]
  simpa using lsig_eq (f (ix3 b t h))

end Cert.Reference2Ideal.Value
end
-- ==== Proof.InprojRefOut.lean ====
/- The in-projection reference's results at an index. -/
module

public import proofs.«01_k».proof.Proof.InprojRef

@[expose] public section

set_option maxRecDepth 16384

noncomputable section

namespace Cert.Reference2Ideal.Value

open Idealize.ShloMosaic Idealize.ShloMosaic.TcCoe Idealize.SL.Sem Cert.Reference2Ideal Cert.Reference2Ideal.Gen Cert.Rows

def kP (z : FVec Ideal S8x2048x8208 .f32) : FVec Ideal S1x8x2048x16x64 .f32 :=
  broadcastInDim S1x8x2048x16x64 ![1, 2, 3, 4] bcast_S8x2048x16x64_S1x8x2048x16x64_1_2_3_4 (shapeCast _ (extractStridedSlice S8x2048x1024 ![0, 0, 1024] z slices_S8x2048x8208_S8x2048x1024_0_0_1024) shapeCasts_S8x2048x1024_S8x2048x16x64)
def vP (z : FVec Ideal S8x2048x8208 .f32) : FVec Ideal S1x8x2048x16x64 .f32 :=
  broadcastInDim S1x8x2048x16x64 ![1, 2, 3, 4] bcast_S8x2048x16x64_S1x8x2048x16x64_1_2_3_4 (shapeCast _ (extractStridedSlice S8x2048x1024 ![0, 0, 2048] z slices_S8x2048x8208_S8x2048x1024_0_0_2048) shapeCasts_S8x2048x1024_S8x2048x16x64)
def uP (z : FVec Ideal S8x2048x8208 .f32) : FVec Ideal S8x2048x1024 .f32 :=
  extractStridedSlice S8x2048x1024 ![0, 0, 3088] z slices_S8x2048x8208_S8x2048x1024_0_0_3088
def poolP (u : FVec Ideal S8x2048x1024 .f32) : FVec Ideal S1x8x15x1024 .f32 :=
  broadcastInDim S1x8x15x1024 ![1, 2, 3] bcast_S8x15x1024_S1x8x15x1024_1_2_3 (extractStridedSlice S8x15x1024 ![0, 2033, 0] u slices_S8x2048x1024_S8x15x1024_0_2033_0)
def qP (z : FVec Ideal S8x2048x8208 .f32) : FVec Ideal S8x1024x2048 .bf16 :=
  truncf .bf16 (transpose S8x1024x2048 [0, 2, 1] (Host.divf (mulf (extractStridedSlice S8x2048x1024 ![0, 0, 0] z slices_S8x2048x8208_S8x2048x1024_0_0_0) (broadcastInDim S8x2048x1024 ![] bcast_S_S8x2048x1024 (constant S_ .f32 0x3E000000#32))) (Host.log (broadcastInDim S8x2048x1024 ![] bcast_S_S8x2048x1024 (constant S_ .f32 0x40000000#32)))) transposes_S8x2048x1024_S8x1024x2048_0_2_1) bitsLt_bf16_f32
def kS (z : FVec Ideal S32x4x8208 .f32) : FVec Ideal S1x32x4x16x64 .f32 :=
  broadcastInDim S1x32x4x16x64 ![1, 2, 3, 4] bcast_S32x4x16x64_S1x32x4x16x64_1_2_3_4 (shapeCast _ (extractStridedSlice S32x4x1024 ![0, 0, 1024] z slices_S32x4x8208_S32x4x1024_0_0_1024) shapeCasts_S32x4x1024_S32x4x16x64)
def vS (z : FVec Ideal S32x4x8208 .f32) : FVec Ideal S1x32x4x16x64 .f32 :=
  broadcastInDim S1x32x4x16x64 ![1, 2, 3, 4] bcast_S32x4x16x64_S1x32x4x16x64_1_2_3_4 (shapeCast _ (extractStridedSlice S32x4x1024 ![0, 0, 2048] z slices_S32x4x8208_S32x4x1024_0_0_2048) shapeCasts_S32x4x1024_S32x4x16x64)
def uS (z : FVec Ideal S32x4x8208 .f32) : FVec Ideal S32x4x1024 .f32 :=
  extractStridedSlice S32x4x1024 ![0, 0, 3088] z slices_S32x4x8208_S32x4x1024_0_0_3088
def poolS (a : FVec Ideal S1x32x15x1024 .f32) (u : FVec Ideal S32x4x1024 .f32) : FVec Ideal S1x32x15x1024 .f32 :=
  broadcastInDim S1x32x15x1024 ![1, 2, 3] bcast_S32x15x1024_S1x32x15x1024_1_2_3 (extractStridedSlice S32x15x1024 ![0, 4, 0] (concatenate S32x19x1024 1 [⟨S32x15x1024, (shapeCast _ a shapeCasts_S1x32x15x1024_S32x15x1024)⟩, ⟨S32x4x1024, u⟩] concatenates_S32x15x1024_S32x4x1024_S32x19x1024_d1) slices_S32x19x1024_S32x15x1024_0_4_0)
def qS (z : FVec Ideal S32x4x8208 .f32) : FVec Ideal S32x4x1024 .bf16 :=
  truncf .bf16 (mulf (extractStridedSlice S32x4x1024 ![0, 0, 0] z slices_S32x4x8208_S32x4x1024_0_0_0) (broadcastInDim S32x4x1024 ![] bcast_S_S32x4x1024 (constant S_ .f32 0x3E000000#32))) bitsLt_bf16_f32

def lane (h : Fin 16) (d : Fin 64) : Fin 1024 := ⟨64 * h.val + d.val, by omega⟩

theorem kP_at (z : FVec Ideal S8x2048x8208 .f32) (b : Fin 8) (t : Fin 2048) (h : Fin 16) (d : Fin 64) :
    kP z (ix5 0 b t h d) = z (ix3 b t (⟨1024 + (lane h d).val, by omega⟩ : Fin 8208)) := by
  pointwise [kP]
  blk_ext [lane]

theorem vP_at (z : FVec Ideal S8x2048x8208 .f32) (b : Fin 8) (t : Fin 2048) (h : Fin 16) (d : Fin 64) :
    vP z (ix5 0 b t h d) = z (ix3 b t (⟨2048 + (lane h d).val, by omega⟩ : Fin 8208)) := by
  pointwise [vP]
  blk_ext [lane]

theorem uP_at (z : FVec Ideal S8x2048x8208 .f32) (b : Fin 8) (t : Fin 2048) (y : Fin 1024) :
    uP z (ix3 b t y) = z (ix3 b t (⟨3088 + y.val, by omega⟩ : Fin 8208)) := by
  pointwise [uP]

theorem poolP_at (u : FVec Ideal S8x2048x1024 .f32) (b : Fin 8) (r : Fin 15) (y : Fin 1024) :
    poolP u (ix4 0 b r y) = u (ix3 b (⟨2033 + r.val, by omega⟩ : Fin 2048) y) := by
  pointwise [poolP]
  blk_ext []

theorem kS_at (z : FVec Ideal S32x4x8208 .f32) (b : Fin 32) (t : Fin 4) (h : Fin 16) (d : Fin 64) :
    kS z (ix5 0 b t h d) = z (ix3 b t (⟨1024 + (lane h d).val, by omega⟩ : Fin 8208)) := by
  pointwise [kS]
  blk_ext [lane]

theorem vS_at (z : FVec Ideal S32x4x8208 .f32) (b : Fin 32) (t : Fin 4) (h : Fin 16) (d : Fin 64) :
    vS z (ix5 0 b t h d) = z (ix3 b t (⟨2048 + (lane h d).val, by omega⟩ : Fin 8208)) := by
  pointwise [vS]
  blk_ext [lane]

theorem uS_at (z : FVec Ideal S32x4x8208 .f32) (b : Fin 32) (t : Fin 4) (y : Fin 1024) :
    uS z (ix3 b t y) = z (ix3 b t (⟨3088 + y.val, by omega⟩ : Fin 8208)) := by
  pointwise [uS]

theorem poolS_old (a : FVec Ideal S1x32x15x1024 .f32) (u : FVec Ideal S32x4x1024 .f32) (b : Fin 32) (r : Fin 11) (y : Fin 1024) :
    poolS a u (ix4 0 b (⟨r.val, by omega⟩ : Fin 15) y) = a (ix4 0 b (⟨4 + r.val, by omega⟩ : Fin 15) y) := by
  pointwise [poolS]
  rw [dif_pos (by omega)]

theorem poolS_new (a : FVec Ideal S1x32x15x1024 .f32) (u : FVec Ideal S32x4x1024 .f32) (b : Fin 32) (r : Fin 4) (y : Fin 1024) :
    poolS a u (ix4 0 b (⟨11 + r.val, by omega⟩ : Fin 15) y) = u (ix3 b r y) := by
  pointwise [poolS]
  rw [dif_neg (by omega)]
  blk_ext []

theorem qS_at (z : FVec Ideal S32x4x8208 .f32) (b : Fin 32) (t : Fin 4) (y : Fin 1024) :
    qS z (ix3 b t y) = z (ix3 b t (⟨y.val, by omega⟩ : Fin 8208)) * Ideal.ofBits .f32 0x3E000000#32 := by
  pointwise [qS]

/-- An eighth over the logarithm of two. -/
theorem div_log2 (x : EReal) : Ideal.div (x * Ideal.ofBits .f32 0x3E000000#32) (Ideal.log (Ideal.ofBits .f32 0x40000000#32)) = x * (((8 * Real.log 2)⁻¹ : ℝ) : EReal) := by
  have h8 : Ideal.ofBits .f32 0x3E000000#32 = (((8 : ℝ)⁻¹ : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  have hl : Ideal.log ((2 : ℝ) : EReal) = ((Real.log 2 : ℝ) : EReal) := by
    show (if (2 : ℝ) ≤ 0 then ⊥ else ((Real.log 2 : ℝ) : EReal)) = _
    rw [if_neg (by norm_num)]
  have hp : Real.log 2 ≠ 0 := (Real.log_pos (by norm_num)).ne'
  rw [h8, h2, hl, Ideal.div, if_neg (by exact_mod_cast hp), ← EReal.coe_inv, mul_assoc, ← EReal.coe_mul, mul_inv]

theorem qP_at (z : FVec Ideal S8x2048x8208 .f32) (b : Fin 8) (y : Fin 1024) (t : Fin 2048) :
    qP z (ix3 b y t) = z (ix3 b t (⟨y.val, by omega⟩ : Fin 8208)) * (((8 * (Real.log 2))⁻¹ : ℝ) : EReal) := by
  pointwise [qP]
  exact div_log2 _

end Cert.Reference2Ideal.Value
end
-- ==== Proof.InprojClaim.lean ====
/- The in-projection's value claim. -/
module

public import proofs.«01_k».proof.Defs
public import proofs.«01_k».proof.Proof.InprojVal
public import proofs.«01_k».proof.Proof.InprojRun
public import proofs.«01_k».proof.Proof.InprojRefOut
public import Idealize.ShloMosaic.Lib.Claim

@[expose] public section

set_option maxRecDepth 16384

noncomputable section

namespace Cert.Reference2Ideal.Value

open Idealize.ShloMosaic Idealize.ShloMosaic.TcCoe Idealize.SL.Sem Cert.Reference2Ideal Cert.Reference2Ideal.Gen Cert.Rows

variable (m : (ℓ : Loc nD τ sig) → Buf (Elt Ideal) ℓ) (c : Dev nD)

/-- The in-projection of the prompt and of the sample, all columns. -/
def zP : FVec Ideal S8x2048x8208 .f32 :=
  inP (m ((c.tc : Thread nD τ).loc main_arg0)) (adaP (m ((c.tc : Thread nD τ).loc main_arg3)) (m ((c.tc : Thread nD τ).loc main_arg5)) (m ((c.tc : Thread nD τ).loc main_arg6))) (m ((c.tc : Thread nD τ).loc main_arg7)) (m ((c.tc : Thread nD τ).loc main_arg8))
def zS : FVec Ideal S32x4x8208 .f32 :=
  inS (m ((c.tc : Thread nD τ).loc main_arg1)) (adaS (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))

/-- The reference's run, its results from the in-projection. -/
theorem outs (ρ : Dev nD → PrngReg) : θ_run defs (onTc (τ := τ) (main (F := Ideal))) ⟨m, fun _ => 0, ρ⟩ (fun r => ∀ c : Dev nD,
      r.2.mem ((c.tc : Thread nD τ).loc main_v108) = kP (zP m c)
      ∧ r.2.mem ((c.tc : Thread nD τ).loc main_v109) = vP (zP m c)
      ∧ r.2.mem ((c.tc : Thread nD τ).loc main_v110) = lsP (fgP (zP m c) (m ((c.tc : Thread nD τ).loc main_arg9)))
      ∧ r.2.mem ((c.tc : Thread nD τ).loc main_v112) = poolP (uP (zP m c))
      ∧ r.2.mem ((c.tc : Thread nD τ).loc main_v113) = kS (zS m c)
      ∧ r.2.mem ((c.tc : Thread nD τ).loc main_v114) = vS (zS m c)
      ∧ r.2.mem ((c.tc : Thread nD τ).loc main_v115) = lsS (fgS (zS m c) (m ((c.tc : Thread nD τ).loc main_arg9)))
      ∧ r.2.mem ((c.tc : Thread nD τ).loc main_v117) = poolS (m ((c.tc : Thread nD τ).loc main_arg2)) (uS (zS m c))
      ∧ r.2.mem ((c.tc : Thread nD τ).loc main_v118) = qP (zP m c)
      ∧ r.2.mem ((c.tc : Thread nD τ).loc main_v121) = qS (zS m c)
      ∧ r.2.mem ((c.tc : Thread nD τ).loc main_v40) = uP (zP m c)
      ∧ r.2.mem ((c.tc : Thread nD τ).loc main_v90) = uS (zS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => h c) (run m ρ)

end Cert.Reference2Ideal.Value

namespace Cert.Rows

open Idealize.ShloMosaic Idealize.SL.Sem

/-- Over the same arguments, the reference's rows are the kernel's. -/
theorem zP_at (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (a3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (a5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (a6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (a7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (a8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) (b : Fin 8) (t : Fin 2048) (j : Fin 8208) :
    Cert.Reference2Ideal.Value.zP m' c (ix3 b t j) = Cert.Kernel2Ideal.Value.inP m c b t j := by
  unfold Cert.Reference2Ideal.Value.zP
  rw [a0, a3, a5, a6, a7, a8]
  exact Cert.Reference2Ideal.Value.projP_at _ _ _ _ _ _ b t j

theorem zS_at (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (a1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (a4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (a5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (a6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (a7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (a8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) (b : Fin 32) (t : Fin 4) (j : Fin 8208) :
    Cert.Reference2Ideal.Value.zS m' c (ix3 b t j) = Cert.Kernel2Ideal.Value.inS m c b t j := by
  unfold Cert.Reference2Ideal.Value.zS
  rw [a1, a4, a5, a6, a7, a8]
  exact Cert.Reference2Ideal.Value.projS_at _ _ _ _ _ _ b t j

/-- The in-projection's value claim. -/
theorem algebraic2 : Cert.algebraic_Kernel2Ideal_Reference2Ideal := by
  intro m g m' g' hpre hagree
  refine ⟨fun c => Cert.Kernel2Ideal.Gen.W13 m g c (Proc.devRef .tc Cert.Kernel2Ideal.main_v88),
    fun c => Cert.Kernel2Ideal.Gen.W13 m g c (Proc.devRef .tc Cert.Kernel2Ideal.main_v87),
    fun c => Cert.Kernel2Ideal.Gen.W13 m g c (Proc.devRef .tc Cert.Kernel2Ideal.main_v89),
    fun c => Cert.Kernel2Ideal.Gen.W13 m g c (Proc.devRef .tc Cert.Kernel2Ideal.main_v82),
    fun c => Cert.Kernel2Ideal.Gen.W13 m g c (Proc.devRef .tc Cert.Kernel2Ideal.main_v90),
    fun c => Cert.Kernel2Ideal.Gen.W13 m g c (Proc.devRef .tc Cert.Kernel2Ideal.main_v91),
    fun c => Cert.Kernel2Ideal.Gen.W13 m g c (Proc.devRef .tc Cert.Kernel2Ideal.main_v92),
    fun c => Cert.Kernel2Ideal.Gen.W13 m g c (Proc.devRef .tc Cert.Kernel2Ideal.main_v84),
    fun c => Cert.Kernel2Ideal.Gen.W13 m g c (Proc.devRef .tc Cert.Kernel2Ideal.main_v67_0),
    fun c => Cert.Kernel2Ideal.Gen.W13 m g c (Proc.devRef .tc Cert.Kernel2Ideal.main_v93),
    fun c => Cert.Kernel2Ideal.Gen.W13 m g c (Proc.devRef .tc Cert.Kernel2Ideal.main_v67_3),
    fun c => Cert.Kernel2Ideal.Gen.W13 m g c (Proc.devRef .tc Cert.Kernel2Ideal.main_v78),
    Cert.Kernel2Ideal.Value.run m g, ?_⟩
  refine (θ_run _ _ _).mono (fun r h c => ?_) (Cert.Reference2Ideal.Value.outs m' g')
  obtain ⟨a0, a1, a2, a3, a4, a5, a6, a7, a8, a9⟩ := hagree c
  have zp := zP_at m m' c a0 a3 a5 a6 a7 a8
  have zs := zS_at m m' c a1 a4 a5 a6 a7 a8
  obtain ⟨r0, r1, r2, r3, r4, r5, r6, r7, r8, r9, r10, r11, hr⟩ := h c
  refine ⟨r0.trans (funext fun i => ?_), r1.trans (funext fun i => ?_), r2.trans (funext fun i => ?_), r3.trans (funext fun i => ?_), r4.trans (funext fun i => ?_), r5.trans (funext fun i => ?_), r6.trans (funext fun i => ?_), r7.trans (funext fun i => ?_), r8.trans (funext fun i => ?_), r9.trans (funext fun i => ?_), r10.trans (funext fun i => ?_), r11.trans (funext fun i => ?_), hr⟩
  · have hi : i = (ix5 0 (i 1) (i 2) (i 3) (i 4) : Cert.Reference2Ideal.S1x8x2048x16x64.Idx) := by blk_ext
    rw [hi]
    exact (Cert.Reference2Ideal.Value.kP_at _ (i 1) (i 2) (i 3) (i 4)).trans ((zp _ _ _).trans (Cert.Kernel2Ideal.Value.kp_val m g c (i 1) (i 2) (i 3) (i 4)).symm)
  · have hi : i = (ix5 0 (i 1) (i 2) (i 3) (i 4) : Cert.Reference2Ideal.S1x8x2048x16x64.Idx) := by blk_ext
    rw [hi]
    exact (Cert.Reference2Ideal.Value.vP_at _ (i 1) (i 2) (i 3) (i 4)).trans ((zp _ _ _).trans (Cert.Kernel2Ideal.Value.vp_val m g c (i 1) (i 2) (i 3) (i 4)).symm)
  · have hi : i = (ix4 0 (i 1) (i 2) (i 3) : Cert.Reference2Ideal.S1x8x2048x16.Idx) := by blk_ext
    rw [hi]
    exact (Cert.Reference2Ideal.Value.lsP_at _ (i 1) (i 2) (i 3)).trans ((congrArg lsig ((Cert.Reference2Ideal.Value.fgP_at _ _ (i 1) (i 2) (i 3)).trans (congrArg₂ (· + ·) (zp _ _ _) (congrFun a9 _)))).trans (Cert.Kernel2Ideal.Value.fp_val m g c (i 1) (i 2) (i 3)).symm)
  · have hi : i = (ix4 0 (i 1) (i 2) (i 3) : Cert.Reference2Ideal.S1x8x15x1024.Idx) := by blk_ext
    rw [hi]
    exact (Cert.Reference2Ideal.Value.poolP_at _ (i 1) (i 2) (i 3)).trans ((Cert.Reference2Ideal.Value.uP_at _ _ _ _).trans ((zp _ _ _).trans (Cert.Kernel2Ideal.Value.poolp_val m g c (i 1) (i 2) (i 3)).symm))
  · have hi : i = (ix5 0 (i 1) (i 2) (i 3) (i 4) : Cert.Reference2Ideal.S1x32x4x16x64.Idx) := by blk_ext
    rw [hi]
    exact (Cert.Reference2Ideal.Value.kS_at _ (i 1) (i 2) (i 3) (i 4)).trans ((zs _ _ _).trans (Cert.Kernel2Ideal.Value.ks_val m g c (i 1) (i 2) (i 3) (i 4)).symm)
  · have hi : i = (ix5 0 (i 1) (i 2) (i 3) (i 4) : Cert.Reference2Ideal.S1x32x4x16x64.Idx) := by blk_ext
    rw [hi]
    exact (Cert.Reference2Ideal.Value.vS_at _ (i 1) (i 2) (i 3) (i 4)).trans ((zs _ _ _).trans (Cert.Kernel2Ideal.Value.vs_val m g c (i 1) (i 2) (i 3) (i 4)).symm)
  · have hi : i = (ix4 0 (i 1) (i 2) (i 3) : Cert.Reference2Ideal.S1x32x4x16.Idx) := by blk_ext
    rw [hi]
    exact (Cert.Reference2Ideal.Value.lsS_at _ (i 1) (i 2) (i 3)).trans ((congrArg lsig ((Cert.Reference2Ideal.Value.fgS_at _ _ (i 1) (i 2) (i 3)).trans (congrArg₂ (· + ·) (zs _ _ _) (congrFun a9 _)))).trans (Cert.Kernel2Ideal.Value.fs_val m g c (i 1) (i 2) (i 3)).symm)
  · by_cases h : (i 2).val < 11
    · have hi : i = (ix4 0 (i 1) (⟨(⟨(i 2).val, h⟩ : Fin 11).val, by omega⟩ : Fin 15) (i 3) : Cert.Reference2Ideal.S1x32x15x1024.Idx) := by blk_ext
      rw [hi]
      exact (Cert.Reference2Ideal.Value.poolS_old _ _ (i 1) ⟨(i 2).val, h⟩ (i 3)).trans ((congrFun a2 _).trans (Cert.Kernel2Ideal.Value.pools_val_old m g c (i 1) ⟨(i 2).val, h⟩ (i 3)).symm)
    · have h4 : (i 2).val - 11 < 4 := by have : (i 2).val < 15 := (i 2).isLt; omega
      have hi : i = (ix4 0 (i 1) (⟨11 + (⟨(i 2).val - 11, h4⟩ : Fin 4).val, by omega⟩ : Fin 15) (i 3) : Cert.Reference2Ideal.S1x32x15x1024.Idx) := by blk_ext
      rw [hi]
      exact (Cert.Reference2Ideal.Value.poolS_new _ _ (i 1) ⟨(i 2).val - 11, h4⟩ (i 3)).trans ((Cert.Reference2Ideal.Value.uS_at _ _ _ _).trans ((zs _ _ _).trans (Cert.Kernel2Ideal.Value.pools_val_new m g c (i 1) ⟨(i 2).val - 11, h4⟩ (i 3)).symm))
  · have hi : i = (ix3 (i 0) (i 1) (i 2) : Cert.Reference2Ideal.S8x1024x2048.Idx) := by blk_ext
    rw [hi]
    exact (Cert.Reference2Ideal.Value.qP_at _ (i 0) (i 1) (i 2)).trans ((congrArg (· * (((8 * (Real.log 2))⁻¹ : ℝ) : EReal)) (zp _ _ _)).trans (Cert.Kernel2Ideal.Value.qp_val m g c (i 0) (i 1) (i 2)).symm)
  · have hi : i = (ix3 (i 0) (i 1) (i 2) : Cert.Reference2Ideal.S32x4x1024.Idx) := by blk_ext
    rw [hi]
    exact (Cert.Reference2Ideal.Value.qS_at _ (i 0) (i 1) (i 2)).trans ((congrArg (· * Ideal.ofBits .f32 0x3E000000#32) (zs _ _ _)).trans (Cert.Kernel2Ideal.Value.qs_val m g c (i 0) (i 1) (i 2)).symm)
  · have hi : i = (ix3 (i 0) (i 1) (i 2) : Cert.Reference2Ideal.S8x2048x1024.Idx) := by blk_ext
    rw [hi]
    exact (Cert.Reference2Ideal.Value.uP_at _ (i 0) (i 1) (i 2)).trans ((zp _ _ _).trans (Cert.Kernel2Ideal.Value.up_val m g c (i 0) (i 1) (i 2)).symm)
  · have hi : i = (ix3 (i 0) (i 1) (i 2) : Cert.Reference2Ideal.S32x4x1024.Idx) := by blk_ext
    rw [hi]
    exact (Cert.Reference2Ideal.Value.uS_at _ (i 0) (i 1) (i 2)).trans ((zs _ _ _).trans (Cert.Kernel2Ideal.Value.us_val m g c (i 0) (i 1) (i 2)).symm)

end Cert.Rows
end
-- ==== Proof.Merge.lean ====
/- The merge of the two branches: each program's row. -/
module

public import proofs.«01_k».proof.Proof.Gen.Kernel3Ideal.Frame
public import proofs.«01_k».proof.Proof.Gen.Reference3Ideal.Run
public import proofs.«01_k».proof.Proof.Rows
public import Idealize.ShloMosaic.Lib.Pipeline.ValueKit

@[expose] public section

set_option maxRecDepth 16384

noncomputable section

namespace Cert.Kernel3Ideal.Value

open Idealize.ShloMosaic Idealize.ShloMosaic.TcCoe Idealize.SL.Sem Cert.Kernel3Ideal Cert.Kernel3Ideal.Gen Cert.Rows

theorem pay3_at (x : FVec Ideal S1x256x2048 .f32) (g : FVec Ideal S1x2048 .f32) (sh sc : FVec Ideal S1x1x2048 .f32) (r : Fin 256) (k : Fin 2048) :
    k0_pay3 (F := Ideal) x g sh sc (ix2 r k)
      = hrow (fun j => x (ix3 0 r j)) (fun j => g (ix2 0 j)) (fun j => sh (ix3 0 0 j)) (fun j => sc (ix3 0 0 j)) k := by
  pointwise [k0_pay3, k0_pay2, hrow, rinv]

theorem pay7_at (p : FVec Ideal S1x256x1024 .bf16) (w0 w1 w2 w3 : FVec Ideal S1x256x256 .bf16) (ps : FVec Ideal S1x1024 .f32) (W : Fin 4 → Fin 256 → Fin 256 → EReal)
    (h0 : ∀ a b, w0 (ix3 0 a b) = W 0 a b) (h1 : ∀ a b, w1 (ix3 0 a b) = W 1 a b) (h2 : ∀ a b, w2 (ix3 0 a b) = W 2 a b) (h3 : ∀ a b, w3 (ix3 0 a b) = W 3 a b)
    (r : Fin 256) (y : Fin 1024) :
    k0_pay7 (F := Ideal) (k0_pay4 p) (k0_pay5 p w0) (k0_pay6 p) w1 w2 w3 ps (ix2 r y)
      = prow (fun j => p (ix3 0 r j)) W (fun j => ps (ix2 0 j)) y := by
  pointwise [k0_pay7, k0_pay6, k0_pay5, k0_pay4, prow]
  have hy : y.val / 256 = 0 ∨ y.val / 256 = 1 ∨ y.val / 256 = 2 ∨ y.val / 256 = 3 := by omega
  rcases hy with h | h | h | h
  · rw [dif_pos (by omega), show (⟨y.val / 256, by omega⟩ : Fin 4) = 0 from Fin.ext h]
    refine Ideal.mul_congr (Finset.sum_congr rfl fun k _ => Ideal.mul_congr ?_ ?_) rfl
    · blk_ext []
    · rw [← h0]
      blk_ext []
  · rw [dif_neg (by omega), dif_pos (by omega), show (⟨y.val / 256, by omega⟩ : Fin 4) = 1 from Fin.ext h]
    refine Ideal.mul_congr (Finset.sum_congr rfl fun k _ => Ideal.mul_congr ?_ ?_) rfl
    · blk_ext []
    · rw [← h1]
      blk_ext []
  · rw [dif_neg (by omega), dif_neg (by omega), dif_pos (by omega), show (⟨y.val / 256, by omega⟩ : Fin 4) = 2 from Fin.ext h]
    refine Ideal.mul_congr (Finset.sum_congr rfl fun k _ => Ideal.mul_congr ?_ ?_) rfl
    · blk_ext []
    · rw [← h2]
      blk_ext []
  · rw [dif_neg (by omega), dif_neg (by omega), dif_neg (by omega), show (⟨y.val / 256, by omega⟩ : Fin 4) = 3 from Fin.ext h]
    refine Ideal.mul_congr (Finset.sum_congr rfl fun k _ => Ideal.mul_congr ?_ ?_) rfl
    · blk_ext []
    · rw [← h3]
      blk_ext []

theorem pay1_at (v1 : FVec Ideal S256x2048 .f32) (v50 : FVec Ideal S256x1024 .bf16) (h : FVec Ideal S256x2048 .bf16) (wga wgb wo : FVec Ideal S2048x2048 .bf16)
   (oa : FVec Ideal S1x256x1024 .bf16) (wpa wpb : FVec Ideal S1024x2048 .bf16) (gt : FVec Ideal S1x1x2048 .f32) (r : Fin 256) (y : Fin 2048) :
    k0_pay1 (F := Ideal) v1 v50 (k0_pay8 h wga oa wpa) (k0_pay9 h wgb) (k0_pay10 wpb) (constant S256x2048 .f32 0x00000000#32) gt wo (ix3 0 r y)
      = v1 (ix2 r y) + gt (ix3 0 0 y) * ∑ z, yrow (fun k => h (ix2 r k)) (fun k => oa (ix3 0 r k)) (fun k => v50 (ix2 r k))
          (fun a b => wga (ix2 a b)) (fun a b => wgb (ix2 a b)) (fun a b => wpa (ix2 a b)) (fun a b => wpb (ix2 a b)) z * wo (ix2 z y) := by
  pointwise [k0_pay1, k0_pay8, k0_pay9, k0_pay10, yrow]

/-- One row of the merged branches, from the layer's arrays at their own shapes. -/
abbrev mrow (x g sh sc gt : Fin 2048 → EReal) (oa po : Fin 1024 → EReal) (wp : Fin 4 → Fin 256 → Fin 256 → EReal) (ps : Fin 1024 → EReal)
    (wga wgb : Fin 2048 → Fin 2048 → EReal) (wpa wpb : Fin 1024 → Fin 2048 → EReal) (wo : Fin 2048 → Fin 2048 → EReal) (y : Fin 2048) : EReal :=
  x y + gt y * ∑ z, yrow (hrow x g sh sc) oa (prow po wp ps) wga wgb wpa wpb z * wo z y

theorem mrow_congr {x x' g g' sh sh' sc sc' gt gt' : Fin 2048 → EReal} {oa oa' po po' : Fin 1024 → EReal} {wp wp' : Fin 4 → Fin 256 → Fin 256 → EReal}
    {ps ps' : Fin 1024 → EReal} {wga wga' wgb wgb' : Fin 2048 → Fin 2048 → EReal} {wpa wpa' wpb wpb' : Fin 1024 → Fin 2048 → EReal}
    {wo wo' : Fin 2048 → Fin 2048 → EReal} (y : Fin 2048) (hx : ∀ k, x k = x' k) (hg : ∀ k, g k = g' k) (hsh : ∀ k, sh k = sh' k) (hsc : ∀ k, sc k = sc' k)
    (hgt : ∀ k, gt k = gt' k) (hoa : ∀ k, oa k = oa' k) (hpo : ∀ k, po k = po' k) (hwp : ∀ g a b, wp g a b = wp' g a b) (hps : ∀ k, ps k = ps' k)
    (hga : ∀ a b, wga a b = wga' a b) (hgb : ∀ a b, wgb a b = wgb' a b) (hpa : ∀ a b, wpa a b = wpa' a b) (hpb : ∀ a b, wpb a b = wpb' a b)
    (ho : ∀ a b, wo a b = wo' a b) :
    mrow x g sh sc gt oa po wp ps wga wgb wpa wpb wo y = mrow x' g' sh' sc' gt' oa' po' wp' ps' wga' wgb' wpa' wpb' wo' y := by
  obtain rfl := funext hx
  obtain rfl := funext hg
  obtain rfl := funext hsh
  obtain rfl := funext hsc
  obtain rfl := funext hgt
  obtain rfl := funext hoa
  obtain rfl := funext hpo
  obtain rfl := (funext fun g => funext fun a => funext (hwp g a) : wp = wp')
  obtain rfl := funext hps
  obtain rfl := (funext fun a => funext (hga a) : wga = wga')
  obtain rfl := (funext fun a => funext (hgb a) : wgb = wgb')
  obtain rfl := (funext fun a => funext (hpa a) : wpa = wpa')
  obtain rfl := (funext fun a => funext (hpb a) : wpb = wpb')
  obtain rfl := (funext fun a => funext (ho a) : wo = wo')
  rfl

/-- What the body leaves, read at a row: the merged row of its blocks. -/
theorem body_at (x0 : FVec Ideal S1x256x2048 .f32) (x1 : FVec Ideal S1x2048 .f32) (x2 x3 x4 : FVec Ideal S1x1x2048 .f32) (x5 x6 : FVec Ideal S1x256x1024 .bf16)
    (w0 w1 w2 w3 : FVec Ideal S1x256x256 .bf16) (x8 : FVec Ideal S1x1024 .f32) (x9 x10 : FVec Ideal S1024x2048 .bf16) (x11 x12 x13 : FVec Ideal S2048x2048 .bf16)
    (W : Fin 4 → Fin 256 → Fin 256 → EReal) (h0 : ∀ a b, w0 (ix3 0 a b) = W 0 a b) (h1 : ∀ a b, w1 (ix3 0 a b) = W 1 a b)
    (h2 : ∀ a b, w2 (ix3 0 a b) = W 2 a b) (h3 : ∀ a b, w3 (ix3 0 a b) = W 3 a b) (r : Fin 256) (y : Fin 2048) :
    k0_pay1 (F := Ideal) (k0_pay2 x0) (k0_pay7 (k0_pay4 x6) (k0_pay5 x6 w0) (k0_pay6 x6) w1 w2 w3 x8) (k0_pay8 (k0_pay3 x0 x1 x2 x3) x11 x5 x9)
        (k0_pay9 (k0_pay3 x0 x1 x2 x3) x12) (k0_pay10 x10) (constant S256x2048 .f32 0x00000000#32) x4 x13 (ix3 0 r y)
      = mrow (fun k => x0 (ix3 0 r k)) (fun k => x1 (ix2 0 k)) (fun k => x2 (ix3 0 0 k)) (fun k => x3 (ix3 0 0 k)) (fun k => x4 (ix3 0 0 k))
          (fun k => x5 (ix3 0 r k)) (fun k => x6 (ix3 0 r k)) W (fun k => x8 (ix2 0 k)) (fun a b => x11 (ix2 a b)) (fun a b => x12 (ix2 a b))
          (fun a b => x9 (ix2 a b)) (fun a b => x10 (ix2 a b)) (fun a b => x13 (ix2 a b)) y := by
  rw [pay1_at, show (fun k => k0_pay3 (F := Ideal) x0 x1 x2 x3 (ix2 r k)) = _ from funext fun k => pay3_at x0 x1 x2 x3 r k,
    show (fun k => k0_pay7 (F := Ideal) (k0_pay4 x6) (k0_pay5 x6 w0) (k0_pay6 x6) w1 w2 w3 x8 (ix2 r k)) = _ from funext fun k => pay7_at x6 w0 w1 w2 w3 x8 W h0 h1 h2 h3 r k]
  pointwise [k0_pay2]

variable (m : (ℓ : Loc nD τ sig) → Buf (Elt Ideal) ℓ)

theorem idx : ∀ t : Fin cfg0.N, win0_0.index t = ![t.val / 8, t.val % 8, 0] ∧ win0_1.index t = ![0, 0] ∧ win0_2.index t = ![t.val / 8, 0, 0]
    ∧ win0_3.index t = ![t.val / 8, 0, 0] ∧ win0_4.index t = ![t.val / 8, 0, 0] ∧ win0_5.index t = ![t.val / 8, t.val % 8, 0]
    ∧ win0_6.index t = ![t.val / 8, t.val % 8, 0] ∧ win0_14.index t = ![t.val / 8, t.val % 8, 0] ∧ win0_7.index t = ![0, 0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ t.val < 64 :=
  (by decide +kernel : ∀ t : Fin grid0.N, _)

end Cert.Kernel3Ideal.Value

namespace Cert.Reference3Ideal.Value

open Idealize.ShloMosaic Idealize.ShloMosaic.TcCoe Idealize.SL.Sem Cert.Reference3Ideal Cert.Reference3Ideal.Gen Cert.Rows

/-- The reference's normalised and modulated rows. -/
def hid (x : FVec Ideal S8x2048x2048 .f32) (g : FVec Ideal S1x2048 .f32) (sh sc : FVec Ideal S8x1x2048 .f32) : FVec Ideal S8x2048x2048 .f32 :=
  addf (mulf (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) sc))) (broadcastInDim S8x2048x2048 ![0, 1, 2] bcast_S8x1x2048_S8x2048x2048_0_1_2 sh)

/-- The reference's pooling branch after its map and scale. -/
def pooling (po : FVec Ideal S8x2048x1024 .bf16) (wp : FVec Ideal S1x4x256x256 .f32) (ps : FVec Ideal S1x1024 .f32) : FVec Ideal S8x2048x1024 .f32 :=
  mulf (shapeCast _ (transpose S8x2048x4x256 [2, 3, 0, 1] (Host.dotGeneral dot_S4x256x256_S8x2048x4x256_S4x256x8x2048_1_3_2_01_0_2 none (shapeCast _ wp shapeCasts_S1x4x256x256_S4x256x256) (shapeCast _ (extf .f32 po bitsLt_bf16_f32) shapeCasts_S8x2048x1024_S8x2048x4x256)) transposes_S4x256x8x2048_S8x2048x4x256_2_3_0_1) shapeCasts_S8x2048x4x256_S8x2048x1024) (broadcastInDim S8x2048x1024 ![0, 1, 2] bcast_S1x1x1024_S8x2048x1024_0_1_2 (broadcastInDim S1x1x1024 ![2] bcast_S1024_S1x1x1024_2 (shapeCast _ ps shapeCasts_S1x1024_S1024)))

/-- The reference's gates, before the logistic function. -/
def gates (h : FVec Ideal S8x2048x2048 .f32) (w : FVec Ideal S1x2048x8208 .f32) : FVec Ideal S8x2048x4096 .f32 :=
  extractStridedSlice S8x2048x4096 ![0, 0, 4112] (Host.dotGeneral dot_S8x2048x2048_S2048x8208_S8x2048x8208_2_0_01_1_n_n none h (shapeCast _ w shapeCasts_S1x2048x8208_S2048x8208)) slices_S8x2048x8208_S8x2048x4096_0_0_4112

/-- The reference's gated sum of the two branches. -/
def gated (gs : FVec Ideal S8x2048x4096 .f32) (oa : FVec Ideal S8x2048x1024 .bf16) (op : FVec Ideal S8x2048x1024 .f32) (wpa wpb : FVec Ideal S1x1024x2048 .f32) :
    FVec Ideal S8x2048x2048 .f32 :=
  addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 0] gs slices_S8x2048x4096_S8x2048x2048_0_0_0))))) (Host.dotGeneral dot_S8x2048x1024_S1024x2048_S8x2048x2048_2_0_01_1_n_n none (extf .f32 oa bitsLt_bf16_f32) (shapeCast _ wpa shapeCasts_S1x1024x2048_S1024x2048))) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 2048] gs slices_S8x2048x4096_S8x2048x2048_0_0_2048))))) (Host.dotGeneral dot_S8x2048x1024_S1024x2048_S8x2048x2048_2_0_01_1_n_n none op (shapeCast _ wpb shapeCasts_S1x1024x2048_S1024x2048)))

/-- The reference's result from its gated sum. -/
def out (x y : FVec Ideal S8x2048x2048 .f32) (gt : FVec Ideal S8x1x2048 .f32) (wo : FVec Ideal S1x2048x2048 .f32) : FVec Ideal S8x2048x2048 .f32 :=
  addf x (mulf (broadcastInDim S8x2048x2048 ![0, 1, 2] bcast_S8x1x2048_S8x2048x2048_0_1_2 gt) (Host.dotGeneral dot_S8x2048x2048_S2048x2048_S8x2048x2048_2_0_01_1_n_n none y (shapeCast _ wo shapeCasts_S1x2048x2048_S2048x2048)))

variable (m : (ℓ : Loc nD τ sig) → Buf (Elt Ideal) ℓ) (c : Dev nD)

theorem res_eq : res_out0 m c = out (m ((c.tc : Thread nD τ).loc main_arg0))
    (gated (gates (hid (m ((c.tc : Thread nD τ).loc main_arg0)) (m ((c.tc : Thread nD τ).loc main_arg6)) (m ((c.tc : Thread nD τ).loc main_arg1)) (m ((c.tc : Thread nD τ).loc main_arg2)))
      (m ((c.tc : Thread nD τ).loc main_arg7))) (m ((c.tc : Thread nD τ).loc main_arg4))
      (pooling (m ((c.tc : Thread nD τ).loc main_arg5)) (m ((c.tc : Thread nD τ).loc main_arg8)) (m ((c.tc : Thread nD τ).loc main_arg9)))
      (m ((c.tc : Thread nD τ).loc main_arg10)) (m ((c.tc : Thread nD τ).loc main_arg11)))
    (m ((c.tc : Thread nD τ).loc main_arg3)) (m ((c.tc : Thread nD τ).loc main_arg12)) := rfl

theorem hid_at (x : FVec Ideal S8x2048x2048 .f32) (g : FVec Ideal S1x2048 .f32) (sh sc : FVec Ideal S8x1x2048 .f32) (b : Fin 8) (t k : Fin 2048) :
    hid x g sh sc (ix3 b t k) = hrow (fun j => x (ix3 b t j)) (fun j => g (ix2 0 j)) (fun j => sh (ix3 b 0 j)) (fun j => sc (ix3 b 0 j)) k := by
  pointwise [hid, hrow, rinv]

theorem pooling_at (po : FVec Ideal S8x2048x1024 .bf16) (wp : FVec Ideal S1x4x256x256 .f32) (ps : FVec Ideal S1x1024 .f32) (b : Fin 8) (t : Fin 2048) (y : Fin 1024) :
    pooling po wp ps (ix3 b t y) = prow (fun j => po (ix3 b t j)) (fun g i o => wp (ix4 0 g i o)) (fun j => ps (ix2 0 j)) y := by
  pointwise [pooling, prow]
  exact Ideal.mul_congr (Finset.sum_congr rfl fun k _ => mul_comm _ _) rfl

theorem gates_at (h : FVec Ideal S8x2048x2048 .f32) (w : FVec Ideal S1x2048x8208 .f32) (b : Fin 8) (t : Fin 2048) (y : Fin 4096) :
    gates h w (ix3 b t y) = ∑ k : Fin 2048, h (ix3 b t k) * w (ix3 0 k (⟨4112 + y.val, by omega⟩ : Fin 8208)) := by
  pointwise [gates]

theorem gated_at (gs : FVec Ideal S8x2048x4096 .f32) (oa : FVec Ideal S8x2048x1024 .bf16) (op : FVec Ideal S8x2048x1024 .f32) (wpa wpb : FVec Ideal S1x1024x2048 .f32)
    (b : Fin 8) (t z : Fin 2048) :
    gated gs oa op wpa wpb (ix3 b t z) = Ideal.logistic (gs (ix3 b t (⟨z.val, by omega⟩ : Fin 4096))) * (∑ k, oa (ix3 b t k) * wpa (ix3 0 k z))
      + Ideal.logistic (gs (ix3 b t (⟨2048 + z.val, by omega⟩ : Fin 4096))) * (∑ k, op (ix3 b t k) * wpb (ix3 0 k z)) := by
  pointwise [gated, Ideal.logistic]

theorem out_at (x y : FVec Ideal S8x2048x2048 .f32) (gt : FVec Ideal S8x1x2048 .f32) (wo : FVec Ideal S1x2048x2048 .f32) (b : Fin 8) (t z : Fin 2048) :
    out x y gt wo (ix3 b t z) = x (ix3 b t z) + gt (ix3 b 0 z) * ∑ k, y (ix3 b t k) * wo (ix3 0 k z) := by
  pointwise [out]

/-- The reference's result read at a row: the merged row. -/
theorem ref_at (x : FVec Ideal S8x2048x2048 .f32) (g : FVec Ideal S1x2048 .f32) (sh sc gt : FVec Ideal S8x1x2048 .f32) (oa po : FVec Ideal S8x2048x1024 .bf16)
    (w : FVec Ideal S1x2048x8208 .f32) (wp : FVec Ideal S1x4x256x256 .f32) (ps : FVec Ideal S1x1024 .f32) (wpa wpb : FVec Ideal S1x1024x2048 .f32)
    (wo : FVec Ideal S1x2048x2048 .f32) (b : Fin 8) (t y : Fin 2048) :
    out x (gated (gates (hid x g sh sc) w) oa (pooling po wp ps) wpa wpb) gt wo (ix3 b t y)
      = Cert.Kernel3Ideal.Value.mrow (fun k => x (ix3 b t k)) (fun k => g (ix2 0 k)) (fun k => sh (ix3 b 0 k)) (fun k => sc (ix3 b 0 k)) (fun k => gt (ix3 b 0 k))
          (fun k => oa (ix3 b t k)) (fun k => po (ix3 b t k)) (fun g a o => wp (ix4 0 g a o)) (fun k => ps (ix2 0 k))
          (fun a o => w (ix3 0 a (⟨4112 + o.val, by omega⟩ : Fin 8208))) (fun a o => w (ix3 0 a (⟨4112 + (2048 + o.val), by omega⟩ : Fin 8208)))
          (fun a o => wpa (ix3 0 a o)) (fun a o => wpb (ix3 0 a o)) (fun a o => wo (ix3 0 a o)) y := by
  rw [out_at]
  refine Ideal.add_congr rfl (Ideal.mul_congr rfl (Finset.sum_congr rfl fun z _ => Ideal.mul_congr ?_ rfl))
  rw [gated_at, gates_at, gates_at]
  simp only [hid_at, pooling_at]
  rfl

end Cert.Reference3Ideal.Value
end
-- ==== Proof.MergeRun.lean ====
/- The merge's result array, and its value claim. -/
module

public import proofs.«01_k».proof.Defs
public import proofs.«01_k».proof.Proof.Merge
public import Idealize.ShloMosaic.Lib.Claim
public import Idealize.ShloMosaic.Lib.StableHlo.ReadAt

@[expose] public section

set_option maxRecDepth 16384

noncomputable section

namespace Cert.Kernel3Ideal.Value

open Idealize.ShloMosaic Idealize.ShloMosaic.TcCoe Idealize.SL.Sem Cert.Kernel3Ideal Cert.Kernel3Ideal.Gen Cert.Rows

variable (m : (ℓ : Loc nD τ sig) → Buf (Elt Ideal) ℓ)

variable (c : Dev nD)

theorem v15_at (k : Fin 2048) : V m c main_v15 (ix2 0 k) = m ((c.tc : Thread nD τ).loc main_arg6) (ix2 0 k) := by
  after_reads_at

theorem v17_at (k : Fin 1024) : V m c main_v17 (ix2 0 k) = m ((c.tc : Thread nD τ).loc main_arg9) (ix2 0 k) := by
  after_reads_at

theorem v7_at (g : Fin 4) (a b : Fin 256) : V m c main_v7 (ix3 g a b) = m ((c.tc : Thread nD τ).loc main_arg8) (ix4 0 g a b) := by
  after_reads_at

theorem v9_at (a : Fin 1024) (b : Fin 2048) : V m c main_v9 (ix2 a b) = m ((c.tc : Thread nD τ).loc main_arg10) (ix3 0 a b) := by
  after_reads_at

theorem v11_at (a : Fin 1024) (b : Fin 2048) : V m c main_v11 (ix2 a b) = m ((c.tc : Thread nD τ).loc main_arg11) (ix3 0 a b) := by
  after_reads_at

theorem v13_at (a b : Fin 2048) : V m c main_v13 (ix2 a b) = m ((c.tc : Thread nD τ).loc main_arg12) (ix3 0 a b) := by
  after_reads_at

theorem v4_at (a b : Fin 2048) : V m c main_v4 (ix2 a b) = m ((c.tc : Thread nD τ).loc main_arg7) (ix3 0 a (⟨4112 + b.val, by omega⟩ : Fin 8208)) := by
  after_reads_at
  blk_ext []

theorem v5_at (a b : Fin 2048) : V m c main_v5 (ix2 a b) = m ((c.tc : Thread nD τ).loc main_arg7) (ix3 0 a (⟨4112 + (2048 + b.val), by omega⟩ : Fin 8208)) := by
  after_reads_at
  blk_ext []

/-- The array row a block's row is. -/
def rowOf (t : Fin cfg0.N) (r : Fin 256) : Fin 2048 := ⟨t.val % 8 * 256 + r.val, by omega⟩
def batOf (t : Fin cfg0.N) : Fin 8 := ⟨t.val / 8, by have : t.val < 64 := (idx t).2.2.2.2.2.2.2.2.2.2.2.2.2.2.2; omega⟩

theorem blk0 (t : Fin cfg0.N) (r : Fin 256) (k : Fin 2048) : iblk m c 0 t (ix3 0 r k) = m ((c.tc : Thread nD τ).loc main_arg0) (ix3 (batOf t) (rowOf t r) k) := by
  blk_ext [iblk, V, idx t, rowOf, batOf]

theorem blk2 (t : Fin cfg0.N) (k : Fin 2048) : iblk m c 2 t (ix3 0 0 k) = m ((c.tc : Thread nD τ).loc main_arg1) (ix3 (batOf t) 0 k) := by
  blk_ext [iblk, V, idx t, rowOf, batOf]

theorem blk3 (t : Fin cfg0.N) (k : Fin 2048) : iblk m c 3 t (ix3 0 0 k) = m ((c.tc : Thread nD τ).loc main_arg2) (ix3 (batOf t) 0 k) := by
  blk_ext [iblk, V, idx t, rowOf, batOf]

theorem blk4 (t : Fin cfg0.N) (k : Fin 2048) : iblk m c 4 t (ix3 0 0 k) = m ((c.tc : Thread nD τ).loc main_arg3) (ix3 (batOf t) 0 k) := by
  blk_ext [iblk, V, idx t, rowOf, batOf]

theorem blk5 (t : Fin cfg0.N) (r : Fin 256) (k : Fin 1024) : iblk m c 5 t (ix3 0 r k) = m ((c.tc : Thread nD τ).loc main_arg4) (ix3 (batOf t) (rowOf t r) k) := by
  blk_ext [iblk, V, idx t, rowOf, batOf]

theorem blk6 (t : Fin cfg0.N) (r : Fin 256) (k : Fin 1024) : iblk m c 6 t (ix3 0 r k) = m ((c.tc : Thread nD τ).loc main_arg5) (ix3 (batOf t) (rowOf t r) k) := by
  blk_ext [iblk, V, idx t, rowOf, batOf]

theorem blk1 (t : Fin cfg0.N) (k : Fin 2048) : iblk m c 1 t (ix2 0 k) = V m c main_v15 (ix2 0 k) := by
  blk_ext [iblk, idx t]

theorem blk8 (t : Fin cfg0.N) (k : Fin 1024) : iblk m c 8 t (ix2 0 k) = V m c main_v17 (ix2 0 k) := by
  blk_ext [iblk, idx t]

theorem blk7 (t : Fin cfg0.N) (g : Fin 4) (a b : Fin 256) : iblk m c 7 t (ix3 g a b) = V m c main_v7 (ix3 g a b) := by
  blk_ext [iblk, idx t]

theorem blk9 (t : Fin cfg0.N) (a : Fin 1024) (b : Fin 2048) : iblk m c 9 t (ix2 a b) = V m c main_v9 (ix2 a b) := by
  blk_ext [iblk, idx t]

theorem blk10 (t : Fin cfg0.N) (a : Fin 1024) (b : Fin 2048) : iblk m c 10 t (ix2 a b) = V m c main_v11 (ix2 a b) := by
  blk_ext [iblk, idx t]

theorem blk11 (t : Fin cfg0.N) (a b : Fin 2048) : iblk m c 11 t (ix2 a b) = V m c main_v4 (ix2 a b) := by
  blk_ext [iblk, idx t]

theorem blk12 (t : Fin cfg0.N) (a b : Fin 2048) : iblk m c 12 t (ix2 a b) = V m c main_v5 (ix2 a b) := by
  blk_ext [iblk, idx t]

theorem blk13 (t : Fin cfg0.N) (a b : Fin 2048) : iblk m c 13 t (ix2 a b) = V m c main_v13 (ix2 a b) := by
  blk_ext [iblk, idx t]

/-- The result array: every row merged. -/
theorem final : (dats m 0 c).arrAt 14 cfg0.N = fun i : S8x2048x2048.Idx =>
    mrow (fun k => m ((c.tc : Thread nD τ).loc main_arg0) (ix3 (i 0) (i 1) k)) (fun k => m ((c.tc : Thread nD τ).loc main_arg6) (ix2 0 k))
      (fun k => m ((c.tc : Thread nD τ).loc main_arg1) (ix3 (i 0) 0 k)) (fun k => m ((c.tc : Thread nD τ).loc main_arg2) (ix3 (i 0) 0 k))
      (fun k => m ((c.tc : Thread nD τ).loc main_arg3) (ix3 (i 0) 0 k)) (fun k => m ((c.tc : Thread nD τ).loc main_arg4) (ix3 (i 0) (i 1) k))
      (fun k => m ((c.tc : Thread nD τ).loc main_arg5) (ix3 (i 0) (i 1) k)) (fun g a b => m ((c.tc : Thread nD τ).loc main_arg8) (ix4 0 g a b))
      (fun k => m ((c.tc : Thread nD τ).loc main_arg9) (ix2 0 k))
      (fun a b => m ((c.tc : Thread nD τ).loc main_arg7) (ix3 0 a (⟨4112 + b.val, by omega⟩ : Fin 8208)))
      (fun a b => m ((c.tc : Thread nD τ).loc main_arg7) (ix3 0 a (⟨4112 + (2048 + b.val), by omega⟩ : Fin 8208)))
      (fun a b => m ((c.tc : Thread nD τ).loc main_arg10) (ix3 0 a b)) (fun a b => m ((c.tc : Thread nD τ).loc main_arg11) (ix3 0 a b))
      (fun a b => m ((c.tc : Thread nD τ).loc main_arg12) (ix3 0 a b)) (i 2) := by
  refine (dats m 0 c).arrAt_eq_of_covers 14 _ (by decide +kernel) fun t _ y => ?_
  blk_simp
  rw [after0_14]
  frame_out
  unfold k0_pay11
  frame_out
  have he : ((cfg0.win 14).blk t).view.emb y = (ix3 (batOf t) (rowOf t (y 1)) (y 2) : S8x2048x2048.Idx) := by blk_ext [idx t, rowOf, batOf]
  have hy : y = (ix3 (0 : Fin 1) (y 1) (y 2) : S1x256x2048.Idx) := by blk_ext
  change _ = (fun i : S8x2048x2048.Idx => _) (((cfg0.win 14).blk t).view.emb y)
  rw [he, hy]
  refine (body_at (iblk m c 0 t) (iblk m c 1 t) (iblk m c 2 t) (iblk m c 3 t) (iblk m c 4 t) (iblk m c 5 t) (iblk m c 6 t)
    _ _ _ _ (iblk m c 8 t) (iblk m c 9 t) (iblk m c 10 t) (iblk m c 11 t) (iblk m c 12 t) (iblk m c 13 t)
    (fun g a b => iblk m c 7 t (ix3 g a b)) (fun a b => ?_) (fun a b => ?_) (fun a b => ?_) (fun a b => ?_) (y 1) (y 2)).trans
    (mrow_congr (y 2) (fun k => blk0 m c t (y 1) k) (fun k => (blk1 m c t k).trans (v15_at m c k)) (fun k => blk2 m c t k) (fun k => blk3 m c t k) (fun k => blk4 m c t k)
      (fun k => blk5 m c t (y 1) k) (fun k => blk6 m c t (y 1) k) (fun g a b => (blk7 m c t g a b).trans (v7_at m c g a b)) (fun k => (blk8 m c t k).trans (v17_at m c k))
      (fun a b => (blk11 m c t a b).trans (v4_at m c a b)) (fun a b => (blk12 m c t a b).trans (v5_at m c a b)) (fun a b => (blk9 m c t a b).trans (v9_at m c a b))
      (fun a b => (blk10 m c t a b).trans (v11_at m c a b)) (fun a b => (blk13 m c t a b).trans (v13_at m c a b)))
  all_goals
    pointwise
    blk_ext []

/-- The kernel's run: its result array merged, its arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v18) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h.1 c).1 14, h.2 c⟩) (θ_run_and (run_main m ρ) (unchanged m ρ))

end Cert.Kernel3Ideal.Value

namespace Cert.Rows

open Idealize.ShloMosaic Idealize.SL.Sem

/-- The merge's value claim. -/
theorem algebraic3 : Cert.algebraic_Kernel3Ideal_Reference3Ideal := by
  intro m g m' g' hpre hagree
  refine ⟨fun c => (Cert.Kernel3Ideal.Gen.dats m 0 c).arrAt 14 Cert.Kernel3Ideal.cfg0.N, Cert.Kernel3Ideal.Value.run m g, ?_⟩
  refine (θ_run _ _ _).mono (fun r h c => ⟨(h c).1.trans ?_, (h c).2⟩) (Cert.Reference3Ideal.Value.run m' g')
  obtain ⟨a0, a1, a2, a3, a4, a5, a6, a7, a8, a9, a10, a11, a12⟩ := hagree c
  refine (Cert.Reference3Ideal.Value.res_eq m' c).trans ?_
  rw [a0, a1, a2, a3, a4, a5, a6, a7, a8, a9, a10, a11, a12]
  refine Eq.trans ?_ (Cert.Kernel3Ideal.Value.final m c).symm
  funext i
  have hi : i = (ix3 (i 0) (i 1) (i 2) : Cert.Reference3Ideal.S8x2048x2048.Idx) := by blk_ext
  refine (congrArg _ hi).trans ?_
  exact Cert.Reference3Ideal.Value.ref_at _ _ _ _ _ _ _ _ _ _ _ _ _ (i 0) (i 1) (i 2)

end Cert.Rows
end
-- ==== Proof.Final.lean ====
/- The end of the layer: each program's row. -/
module

public import proofs.«01_k».proof.Proof.Gen.Kernel4Ideal.Frame
public import proofs.«01_k».proof.Proof.Gen.Reference4Ideal.Run
public import proofs.«01_k».proof.Proof.Rows
public import Idealize.ShloMosaic.Lib.Pipeline.ValueKit

@[expose] public section

set_option maxRecDepth 16384

noncomputable section

namespace Cert.Kernel4Ideal.Value

open Idealize.ShloMosaic Idealize.ShloMosaic.TcCoe Idealize.SL.Sem Cert.Kernel4Ideal Cert.Kernel4Ideal.Gen Cert.Rows

theorem pay2_at (h : FVec Ideal S1x256x2048 .bf16) (wg wu : FVec Ideal S2048x512 .bf16) (wd : FVec Ideal S512x2048 .bf16) (rw : FVec Ideal S256x8 .f32)
    (r0 r1 : FVec Ideal S1x256x2048 .bf16) (r : Fin 256) (y : Fin 2048) :
    k0_pay2 (F := Ideal) h wg wu wd rw r0 r1 (ix2 r y)
      = (∑ z, (∑ k, h (ix3 0 r k) * wg (ix2 k z)) * Ideal.logistic (∑ k, h (ix3 0 r k) * wg (ix2 k z)) * (∑ k, h (ix3 0 r k) * wu (ix2 k z)) * wd (ix2 z y))
        + r0 (ix3 0 r y) * rw (ix2 r 0) + r1 (ix3 0 r y) * rw (ix2 r 1) := by
  pointwise [k0_pay2]

theorem pay5_at (rw : FVec Ideal S256x8 .f32) (v29 : FVec Ideal S256x2048 .f32) (r2 r3 r4 r5 r6 r7 : FVec Ideal S1x256x2048 .bf16) (r : Fin 256) (y : Fin 2048) :
    k0_pay5 (F := Ideal) rw v29 (k0_pay3 r2) (k0_pay4 rw) r3 r4 r5 r6 r7 (ix2 r y)
      = v29 (ix2 r y) + r2 (ix3 0 r y) * rw (ix2 r 2) + r3 (ix3 0 r y) * rw (ix2 r 3) + r4 (ix3 0 r y) * rw (ix2 r 4)
         + r5 (ix3 0 r y) * rw (ix2 r 5) + r6 (ix3 0 r y) * rw (ix2 r 6) + r7 (ix3 0 r y) * rw (ix2 r 7) := by
  pointwise [k0_pay5, k0_pay3, k0_pay4]

theorem pay1_at (mo : FVec Ideal S256x2048 .f32) (x : FVec Ideal S1x256x2048 .f32) (gt : FVec Ideal S1x1x2048 .f32) (g : FVec Ideal S1x2048 .f32) (r : Fin 256) (y : Fin 2048) :
    k0_pay1 (F := Ideal) mo (k0_pay6 x) gt g (ix3 0 r y)
      = frow (fun k => x (ix3 0 r k)) (fun k => gt (ix3 0 0 k)) (fun k => mo (ix2 r k)) (fun k => g (ix2 0 k)) y := by
  pointwise [k0_pay1, k0_pay6, frow, rinv]

/-- The body's row, whatever eight rows the routed experts gave. -/
theorem body_at (x : FVec Ideal S1x256x2048 .f32) (h : FVec Ideal S1x256x2048 .bf16) (rw : FVec Ideal S256x8 .f32) (gt : FVec Ideal S1x1x2048 .f32)
    (wg wu : FVec Ideal S2048x512 .bf16) (wd : FVec Ideal S512x2048 .bf16) (g : FVec Ideal S1x2048 .f32)
    (r0 r1 r2 r3 r4 r5 r6 r7 : FVec Ideal S1x256x2048 .bf16) (R : Fin 8 → Fin 256 → Fin 2048 → EReal)
    (h0 : ∀ a b, r0 (ix3 0 a b) = R 0 a b) (h1 : ∀ a b, r1 (ix3 0 a b) = R 1 a b) (h2 : ∀ a b, r2 (ix3 0 a b) = R 2 a b) (h3 : ∀ a b, r3 (ix3 0 a b) = R 3 a b)
    (h4 : ∀ a b, r4 (ix3 0 a b) = R 4 a b) (h5 : ∀ a b, r5 (ix3 0 a b) = R 5 a b) (h6 : ∀ a b, r6 (ix3 0 a b) = R 6 a b) (h7 : ∀ a b, r7 (ix3 0 a b) = R 7 a b)
    (r : Fin 256) (y : Fin 2048) :
    k0_pay1 (F := Ideal) (k0_pay5 rw (k0_pay2 h wg wu wd rw r0 r1) (k0_pay3 r2) (k0_pay4 rw) r3 r4 r5 r6 r7) (k0_pay6 x) gt g (ix3 0 r y)
      = frow (fun k => x (ix3 0 r k)) (fun k => gt (ix3 0 0 k))
          (moerow (fun k => h (ix3 0 r k)) (fun a b => wg (ix2 a b)) (fun a b => wu (ix2 a b)) (fun a b => wd (ix2 a b)) (fun q => R q r) (fun q => rw (ix2 r q)))
          (fun k => g (ix2 0 k)) y := by
  refine (pay1_at _ x gt g r y).trans (frow_congr y (fun _ => rfl) (fun _ => rfl) (fun k => ?_) (fun _ => rfl))
  rw [pay5_at, pay2_at, h0, h1, h2, h3, h4, h5, h6, h7, moerow, Fin.sum_univ_eight]
  ac_rfl

theorem idx : ∀ t : Fin cfg0.N, win0_0.index t = ![t.val / 8, t.val % 8, 0] ∧ win0_1.index t = ![t.val / 8, t.val % 8, 0]
    ∧ win0_2.index t = ![0, t.val, 0] ∧ win0_3.index t = ![t.val, 0] ∧ win0_4.index t = ![t.val / 8, 0, 0] ∧ win0_5.index t = ![0, 0]
    ∧ win0_6.index t = ![0, 0] ∧ win0_7.index t = ![0, 0] ∧ win0_8.index t = ![0, 0] ∧ win0_9.index t = ![t.val / 8, t.val % 8, 0] ∧ t.val < 64 :=
  (by decide +kernel : ∀ t : Fin grid0.N, _)

end Cert.Kernel4Ideal.Value

namespace Cert.Reference4Ideal.Value

open Idealize.ShloMosaic Idealize.ShloMosaic.TcCoe Idealize.SL.Sem Cert.Reference4Ideal Cert.Reference4Ideal.Gen Cert.Rows

variable (m : (ℓ : Loc nD τ sig) → Buf (Elt Ideal) ℓ)

/-- The shared expert's rows, the batch laid out flat. -/
def shared (h : FVec Ideal S8x2048x2048 .bf16) (wg wu : FVec Ideal S1x2048x512 .f32) (wd : FVec Ideal S1x512x2048 .f32) : FVec Ideal S16384x2048 .f32 :=
  Host.dotGeneral dot_S16384x512_S512x2048_S16384x2048_1_0_0_1_n_n none (mulf (mulf (Host.dotGeneral dot_S16384x2048_S2048x512_S16384x512_1_0_0_1_n_n none (shapeCast _ (extf .f32 h bitsLt_bf16_f32) shapeCasts_S8x2048x2048_S16384x2048) (shapeCast _ wg shapeCasts_S1x2048x512_S2048x512)) (Host.divf (broadcastInDim S16384x512 ![] bcast_S_S16384x512 (constant S_ .f32 0x3F800000#32)) (addf (broadcastInDim S16384x512 ![] bcast_S_S16384x512 (constant S_ .f32 0x3F800000#32)) (Host.exp (Host.negf (Host.dotGeneral dot_S16384x2048_S2048x512_S16384x512_1_0_0_1_n_n none (shapeCast _ (extf .f32 h bitsLt_bf16_f32) shapeCasts_S8x2048x2048_S16384x2048) (shapeCast _ wg shapeCasts_S1x2048x512_S2048x512))))))) (Host.dotGeneral dot_S16384x2048_S2048x512_S16384x512_1_0_0_1_n_n none (shapeCast _ (extf .f32 h bitsLt_bf16_f32) shapeCasts_S8x2048x2048_S16384x2048) (shapeCast _ wu shapeCasts_S1x2048x512_S2048x512))) (shapeCast _ wd shapeCasts_S1x512x2048_S512x2048)

/-- The routed rows under their weights, summed. -/
def routedSum (rt : FVec Ideal S8x16512x2048 .bf16) (rw : FVec Ideal S16512x8 .f32) : FVec Ideal S16384x2048 .f32 :=
  Host.reduceAdd (mulf (extf .f32 (extractStridedSlice S8x16384x2048 ![0, 0, 0] rt slices_S8x16512x2048_S8x16384x2048_0_0_0) bitsLt_bf16_f32) (broadcastInDim S8x16384x2048 ![0, 1, 2] bcast_S8x16384x1_S8x16384x2048_0_1_2 (broadcastInDim S8x16384x1 ![0, 1] bcast_S8x16384_S8x16384x1_0_1 (transpose S8x16384 [1, 0] (extractStridedSlice S16384x8 ![0, 0] rw slices_S16512x8_S16384x8_0_0) transposes_S16384x8_S8x16384_1_0)))) (constant S_ .f32 0x00000000#32) reducesTo_S8x16384x2048_S16384x2048_d0 h_S_

/-- The gated residual sum. -/
def resid (x : FVec Ideal S8x2048x2048 .f32) (gt : FVec Ideal S8x1x2048 .f32) (rs sh : FVec Ideal S16384x2048 .f32) : FVec Ideal S8x2048x2048 .f32 :=
  addf x (mulf (broadcastInDim S8x2048x2048 ![0, 1, 2] bcast_S8x1x2048_S8x2048x2048_0_1_2 gt) (shapeCast _ (addf rs sh) shapeCasts_S16384x2048_S8x2048x2048))

/-- The rows normalised. -/
def out (w : FVec Ideal S8x2048x2048 .f32) (g : FVec Ideal S2048 .f32) : FVec Ideal S8x2048x2048 .f32 :=
  mulf (mulf w (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf w w) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))

theorem res_eq (c : Dev nD) : res_out0 m c = out (resid (m ((c.tc : Thread nD τ).loc main_arg0)) (m ((c.tc : Thread nD τ).loc main_arg4))
    (routedSum (m ((c.tc : Thread nD τ).loc main_arg2)) (m ((c.tc : Thread nD τ).loc main_arg3)))
    (shared (m ((c.tc : Thread nD τ).loc main_arg1)) (m ((c.tc : Thread nD τ).loc main_arg5)) (m ((c.tc : Thread nD τ).loc main_arg6)) (m ((c.tc : Thread nD τ).loc main_arg7))))
    (m ((c.tc : Thread nD τ).loc main_arg8)) := rfl

theorem shared_at (h : FVec Ideal S8x2048x2048 .bf16) (wg wu : FVec Ideal S1x2048x512 .f32) (wd : FVec Ideal S1x512x2048 .f32) (n : Fin 16384) (y : Fin 2048) :
    shared h wg wu wd (ix2 n y)
      = ∑ z, (∑ k, h (ix3 (⟨n.val / 2048, by omega⟩ : Fin 8) (⟨n.val % 2048, by omega⟩ : Fin 2048) k) * wg (ix3 0 k z))
          * Ideal.logistic (∑ k, h (ix3 (⟨n.val / 2048, by omega⟩ : Fin 8) (⟨n.val % 2048, by omega⟩ : Fin 2048) k) * wg (ix3 0 k z))
          * (∑ k, h (ix3 (⟨n.val / 2048, by omega⟩ : Fin 8) (⟨n.val % 2048, by omega⟩ : Fin 2048) k) * wu (ix3 0 k z)) * wd (ix3 0 z y) := by
  pointwise [shared, Ideal.logistic]

theorem routedSum_at (rt : FVec Ideal S8x16512x2048 .bf16) (rw : FVec Ideal S16512x8 .f32) (n : Fin 16384) (y : Fin 2048) :
    routedSum rt rw (ix2 n y) = ∑ q : Fin 8, rt (ix3 q (⟨n.val, by omega⟩ : Fin 16512) y) * rw (ix2 (⟨n.val, by omega⟩ : Fin 16512) q) := by
  pointwise [routedSum]

theorem resid_at (x : FVec Ideal S8x2048x2048 .f32) (gt : FVec Ideal S8x1x2048 .f32) (rs sh : FVec Ideal S16384x2048 .f32) (b : Fin 8) (p k : Fin 2048) :
    resid x gt rs sh (ix3 b p k) = x (ix3 b p k) + gt (ix3 b 0 k)
      * (rs (ix2 (⟨b.val * 2048 + p.val, by omega⟩ : Fin 16384) k) + sh (ix2 (⟨b.val * 2048 + p.val, by omega⟩ : Fin 16384) k)) := by
  pointwise [resid]

theorem out_at (w : FVec Ideal S8x2048x2048 .f32) (g : FVec Ideal S2048 .f32) (b : Fin 8) (p k : Fin 2048) :
    out w g (ix3 b p k) = w (ix3 b p k) * rinv (fun j => w (ix3 b p j)) * g (ix1 k) := by
  pointwise [out, rinv]

theorem ref_at (x : FVec Ideal S8x2048x2048 .f32) (h : FVec Ideal S8x2048x2048 .bf16) (rt : FVec Ideal S8x16512x2048 .bf16) (rw : FVec Ideal S16512x8 .f32)
    (gt : FVec Ideal S8x1x2048 .f32) (wg wu : FVec Ideal S1x2048x512 .f32) (wd : FVec Ideal S1x512x2048 .f32) (g : FVec Ideal S2048 .f32) (b : Fin 8) (p k : Fin 2048) :
    out (resid x gt (routedSum rt rw) (shared h wg wu wd)) g (ix3 b p k)
      = frow (fun k => x (ix3 b p k)) (fun k => gt (ix3 b 0 k))
          (moerow (fun k => h (ix3 b p k)) (fun a z => wg (ix3 0 a z)) (fun a z => wu (ix3 0 a z)) (fun a z => wd (ix3 0 a z))
            (fun q y => rt (ix3 q (⟨b.val * 2048 + p.val, by omega⟩ : Fin 16512) y)) (fun q => rw (ix2 (⟨b.val * 2048 + p.val, by omega⟩ : Fin 16512) q)))
          (fun k => g (ix1 k)) k := by
  rw [out_at, frow]
  have hb : (⟨(b.val * 2048 + p.val) / 2048, by omega⟩ : Fin 8) = b := Fin.ext (show (b.val * 2048 + p.val) / 2048 = b.val by omega)
  have hp : (⟨(b.val * 2048 + p.val) % 2048, by omega⟩ : Fin 2048) = p := Fin.ext (show (b.val * 2048 + p.val) % 2048 = p.val by omega)
  have he : ∀ j, resid x gt (routedSum rt rw) (shared h wg wu wd) (ix3 b p j) = _ := fun j => by
    rw [resid_at, routedSum_at, shared_at, hb, hp]
  simp only [he]
  rfl

end Cert.Reference4Ideal.Value
end
-- ==== Proof.FinalRun.lean ====
/- The layer's end: its result array, and its value claim. -/
module

public import proofs.«01_k».proof.Defs
public import proofs.«01_k».proof.Proof.Final
public import Idealize.ShloMosaic.Lib.Claim
public import Idealize.ShloMosaic.Lib.StableHlo.ReadAt

@[expose] public section

set_option maxRecDepth 16384

noncomputable section

namespace Cert.Kernel4Ideal.Value

open Idealize.ShloMosaic Idealize.ShloMosaic.TcCoe Idealize.SL.Sem Cert.Kernel4Ideal Cert.Kernel4Ideal.Gen Cert.Rows

variable (m : (ℓ : Loc nD τ sig) → Buf (Elt Ideal) ℓ)

variable (c : Dev nD)

theorem v1_at (a : Fin 2048) (b : Fin 512) : V m c main_v1 (ix2 a b) = m ((c.tc : Thread nD τ).loc main_arg5) (ix3 0 a b) := by
  after_reads_at

theorem v3_at (a : Fin 2048) (b : Fin 512) : V m c main_v3 (ix2 a b) = m ((c.tc : Thread nD τ).loc main_arg6) (ix3 0 a b) := by
  after_reads_at

theorem v5_at (a : Fin 512) (b : Fin 2048) : V m c main_v5 (ix2 a b) = m ((c.tc : Thread nD τ).loc main_arg7) (ix3 0 a b) := by
  after_reads_at

theorem v6_at (k : Fin 2048) : V m c main_v6 (ix2 0 k) = m ((c.tc : Thread nD τ).loc main_arg8) (ix1 k) := by
  after_reads_at

/-- The array row a block's row is, in its batch and in the flat batch. -/
def rowOf (t : Fin cfg0.N) (r : Fin 256) : Fin 2048 := ⟨t.val % 8 * 256 + r.val, by omega⟩
def batOf (t : Fin cfg0.N) : Fin 8 := ⟨t.val / 8, by have : t.val < 64 := (idx t).2.2.2.2.2.2.2.2.2.2; omega⟩
def flat (b : Fin 8) (p : Fin 2048) : Fin 16512 := ⟨b.val * 2048 + p.val, by omega⟩

theorem blk0 (t : Fin cfg0.N) (r : Fin 256) (k : Fin 2048) : iblk m c 0 t (ix3 0 r k) = m ((c.tc : Thread nD τ).loc main_arg0) (ix3 (batOf t) (rowOf t r) k) := by
  blk_ext [iblk, V, idx t, rowOf, batOf]

theorem blk1 (t : Fin cfg0.N) (r : Fin 256) (k : Fin 2048) : iblk m c 1 t (ix3 0 r k) = m ((c.tc : Thread nD τ).loc main_arg1) (ix3 (batOf t) (rowOf t r) k) := by
  blk_ext [iblk, V, idx t, rowOf, batOf]

theorem blk2 (t : Fin cfg0.N) (q : Fin 8) (r : Fin 256) (k : Fin 2048) : X0_2 m c t (ix3 q r k) = m ((c.tc : Thread nD τ).loc main_arg2) (ix3 q (flat (batOf t) (rowOf t r)) k) := by
  unfold X0_2 Pipeline.Window.fill
  rw [dif_pos (moved0_2 t _)]
  blk_ext [iblk, V, idx t, rowOf, batOf, flat]

theorem blk3 (t : Fin cfg0.N) (q : Fin 8) (r : Fin 256) : X0_3 m c t (ix2 r q) = m ((c.tc : Thread nD τ).loc main_arg3) (ix2 (flat (batOf t) (rowOf t r)) q) := by
  unfold X0_3 Pipeline.Window.fill
  rw [dif_pos (moved0_3 t _)]
  blk_ext [iblk, V, idx t, rowOf, batOf, flat]

theorem blk4 (t : Fin cfg0.N) (k : Fin 2048) : iblk m c 4 t (ix3 0 0 k) = m ((c.tc : Thread nD τ).loc main_arg4) (ix3 (batOf t) 0 k) := by
  blk_ext [iblk, V, idx t, rowOf, batOf]

theorem blk5 (t : Fin cfg0.N) (a : Fin 2048) (b : Fin 512) : iblk m c 5 t (ix2 a b) = V m c main_v1 (ix2 a b) := by
  blk_ext [iblk, idx t]

theorem blk6 (t : Fin cfg0.N) (a : Fin 2048) (b : Fin 512) : iblk m c 6 t (ix2 a b) = V m c main_v3 (ix2 a b) := by
  blk_ext [iblk, idx t]

theorem blk7 (t : Fin cfg0.N) (a : Fin 512) (b : Fin 2048) : iblk m c 7 t (ix2 a b) = V m c main_v5 (ix2 a b) := by
  blk_ext [iblk, idx t]

theorem blk8 (t : Fin cfg0.N) (k : Fin 2048) : iblk m c 8 t (ix2 0 k) = V m c main_v6 (ix2 0 k) := by
  blk_ext [iblk, idx t]

/-- The result array: every row of the layer's end. -/
theorem final : (dats m 0 c).arrAt 9 cfg0.N = fun i : S8x2048x2048.Idx =>
    frow (fun k => m ((c.tc : Thread nD τ).loc main_arg0) (ix3 (i 0) (i 1) k)) (fun k => m ((c.tc : Thread nD τ).loc main_arg4) (ix3 (i 0) 0 k))
      (moerow (fun k => m ((c.tc : Thread nD τ).loc main_arg1) (ix3 (i 0) (i 1) k)) (fun a b => m ((c.tc : Thread nD τ).loc main_arg5) (ix3 0 a b)) (fun a b => m ((c.tc : Thread nD τ).loc main_arg6) (ix3 0 a b))
        (fun a b => m ((c.tc : Thread nD τ).loc main_arg7) (ix3 0 a b)) (fun q k => m ((c.tc : Thread nD τ).loc main_arg2) (ix3 q (flat (i 0) (i 1)) k)) (fun q => m ((c.tc : Thread nD τ).loc main_arg3) (ix2 (flat (i 0) (i 1)) q)))
      (fun k => m ((c.tc : Thread nD τ).loc main_arg8) (ix1 k)) (i 2) := by
  refine (dats m 0 c).arrAt_eq_of_covers 9 _ (by decide +kernel) fun t _ y => ?_
  blk_simp
  rw [after0_9]
  unfold outsAt0
  frame_out
  have he : ((cfg0.win 9).blk t).view.emb y = (ix3 (batOf t) (rowOf t (y 1)) (y 2) : S8x2048x2048.Idx) := by blk_ext [idx t, rowOf, batOf]
  have hy : y = (ix3 (0 : Fin 1) (y 1) (y 2) : S1x256x2048.Idx) := by blk_ext
  change _ = (fun i : S8x2048x2048.Idx => _) (((cfg0.win 9).blk t).view.emb y)
  rw [he, hy]
  refine (body_at (iblk m c 0 t) (iblk m c 1 t) (X0_3 m c t) (iblk m c 4 t) (iblk m c 5 t) (iblk m c 6 t) (iblk m c 7 t) (iblk m c 8 t)
    _ _ _ _ _ _ _ _ (fun q a b => X0_2 m c t (ix3 q a b)) (fun a b => ?_) (fun a b => ?_) (fun a b => ?_) (fun a b => ?_)
    (fun a b => ?_) (fun a b => ?_) (fun a b => ?_) (fun a b => ?_) (y 1) (y 2)).trans
    (frow_congr (y 2) (fun k => blk0 m c t (y 1) k) (fun k => blk4 m c t k)
      (fun k => moerow_congr k (fun k => blk1 m c t (y 1) k) (fun a b => (blk5 m c t a b).trans (v1_at m c a b)) (fun a b => (blk6 m c t a b).trans (v3_at m c a b))
        (fun a b => (blk7 m c t a b).trans (v5_at m c a b)) (fun q k => blk2 m c t q (y 1) k) (fun q => blk3 m c t q (y 1)))
      (fun k => (blk8 m c t k).trans (v6_at m c k)))
  all_goals
    pointwise
    blk_ext []

/-- The kernel's run: its result array, its arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v7) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1 9, h.2 c⟩) (θ_run_and (run_main m ρ) (unchanged m ρ))

end Cert.Kernel4Ideal.Value

namespace Cert.Rows

open Idealize.ShloMosaic Idealize.SL.Sem

/-- The value claim of the layer's end. -/
theorem algebraic4 : Cert.algebraic_Kernel4Ideal_Reference4Ideal := by
  intro m g m' g' hpre hagree
  refine ⟨fun c => (Cert.Kernel4Ideal.Gen.dats m 0 c).arrAt 9 Cert.Kernel4Ideal.cfg0.N, Cert.Kernel4Ideal.Value.run m g, ?_⟩
  refine (θ_run _ _ _).mono (fun r h c => ⟨(h c).1.trans ?_, (h c).2⟩) (Cert.Reference4Ideal.Value.run m' g')
  obtain ⟨a0, a1, a2, a3, a4, a5, a6, a7, a8⟩ := hagree c
  refine (Cert.Reference4Ideal.Value.res_eq m' c).trans ?_
  rw [a0, a1, a2, a3, a4, a5, a6, a7, a8]
  refine Eq.trans ?_ (Cert.Kernel4Ideal.Value.final m c).symm
  funext i
  have hi : i = (ix3 (i 0) (i 1) (i 2) : Cert.Reference4Ideal.S8x2048x2048.Idx) := by blk_ext
  refine (congrArg _ hi).trans ?_
  exact Cert.Reference4Ideal.Value.ref_at _ _ _ _ _ _ _ _ _ (i 0) (i 1) (i 2)

end Cert.Rows
end
-- ==== Proof.MoeSame.lean ====
/- The kernel as compiled and its idealization are one program: their arithmetic is spelt alike. -/
module
public import proofs.«01_k».proof.Proof.Gen.Kernel5Ideal.Skeleton
public import proofs.«01_k».proof.Proof.Gen.Kernel5.Skeleton
public import proofs.«01_k».proof.Proof.Gen.Kernel5Ideal.Launch
public import proofs.«01_k».proof.Proof.Gen.Kernel5.Launch
public import proofs.«01_k».proof.Defs
@[expose] public section
set_option maxRecDepth 65536
namespace Cert.Kernel5
open Idealize.ShloMosaic Idealize.ShloMosaic.TcCoe Idealize.SL.Sem
theorem defs0_eq : Cert.Kernel5.defs₀ (F := Bits) = Cert.Kernel5Ideal.defs₀ (F := Bits) := by
  unfold Cert.Kernel5.defs₀ Cert.Kernel5Ideal.defs₀
  refine congrArg Defs.onTc (funext fun l => ?_)
  match l with
  | 0 => exact funext fun (t, s) => rfl
theorem defs_eq : Cert.Kernel5.defs (F := Bits) = Cert.Kernel5Ideal.defs (F := Bits) := by
  unfold Cert.Kernel5.defs Cert.Kernel5Ideal.defs
  rw [defs0_eq]; rfl
theorem main_eq : Cert.Kernel5.main (F := Bits) = Cert.Kernel5Ideal.main (F := Bits) := rfl
/-- So a run of the one is a run of the other. -/
theorem run_eq (m : (ℓ : Loc Cert.Kernel5.nD Cert.Kernel5.τ Cert.Kernel5.sig) → Buf (Elt Bits) ℓ) (g : Dev Cert.Kernel5.nD → PrngReg) (Q) :
    θ_run (Cert.Kernel5.defs (F := Bits)) (onTc (τ := Cert.Kernel5.τ) (Cert.Kernel5.main (F := Bits))) ⟨m, fun _ => 0, g⟩ Q
      = θ_run (Cert.Kernel5Ideal.defs (F := Bits)) (onTc (τ := Cert.Kernel5Ideal.τ) (Cert.Kernel5Ideal.main (F := Bits))) ⟨m, fun _ => 0, g⟩ Q := by
  rw [defs_eq, main_eq]; rfl

end Cert.Kernel5
-- ==== Proof.MoeBody.lean ====
/- One grid point of the routed experts' kernel: what its body leaves in the staging buffer and in the three scratch copies
   of the expert's weights, at any contents of the tables. -/
module

public import proofs.«01_k».proof.Proof.Gen.Kernel5Ideal.Skeleton
public import proofs.«01_k».proof.Proof.Gen.Kernel5Ideal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.VecWindow

@[expose] public section

set_option maxRecDepth 16384
set_option Elab.async false

noncomputable section

namespace Cert.Kernel5Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-- The tables and the scratch buffers, whole. -/
abbrev tb0 : Memref sig .tc .smem S1288 .i32 := Memref.whole main_arg2
abbrev tb1 : Memref sig .tc .smem S1 .i32 := Memref.whole main_arg3
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The expert of the point, the expert of the point before it (of point 0 at point 0), and the count of used blocks. -/
abbrev here (T0 : S1288.Idx → BitVec 32) (i : grid0.Coords) : BitVec 32 :=
  View.readAt (Elt F) tb0.view (Rect.unit (s := S1288) (k0_off1 i) S1.size (k0_off1_inb i)).toLoadRect T0 (Shape.Idx.first (numel1_S1.symm ▸ Nat.one_pos))
abbrev prev (T0 : S1288.Idx → BitVec 32) (i : grid0.Coords) : BitVec 32 :=
  View.readAt (Elt F) tb0.view (Rect.unit (s := S1288) (k0_off2 i) S1.size (k0_off2_inb i)).toLoadRect T0 (Shape.Idx.first (numel1_S1.symm ▸ Nat.one_pos))
abbrev used (T1 : S1.Idx → BitVec 32) : BitVec 32 :=
  View.readAt (Elt F) tb1.view (Rect.unit (s := S1) ![0] S1.size inb_S1_S1_0).toLoadRect T1 (Shape.Idx.first (numel1_S1.symm ▸ Nat.one_pos))

/-- Whether the point takes a new expert's weights, as the body computes it. -/
abbrev Fresh (T0 : S1288.Idx → BitVec 32) (i : grid0.Coords) : Prop :=
  Scalar.cmpi .ne (Scalar.extui (Scalar.ori (Scalar.cmpi .eq (BitVec.ofNat 32 (i 0).val) 0#32) (Scalar.cmpi .ne (here (F := F) T0 i) (prev (F := F) T0 i)))) 0#32 = 1#1

/-- A point is past the used blocks exactly when it is not among them. -/
theorem cond3_iff (i : grid0.Coords) (v : BitVec 32) : k0_cond3 i v = 1#1 ↔ ¬ k0_cond2 i v = 1#1 := by
  unfold k0_cond3 k0_cond2
  dsimp only [Scalar.cmpi, Scalar.extui, IntOp.cmpi]
  have h (b : Bool) : BitVec.ofBool ((BitVec.ofBool b).setWidth 32 != 0#32) = BitVec.ofBool b := by cases b <;> decide
  rw [h, h, BitVec.sle_eq_not_slt]
  cases BitVec.slt _ v <;> decide

omit [FloatOps F] in
/-- The product of a block by the copies of the expert's weights depends only on the arrays it reads. -/
theorem pay4_congr [FloatOps F] {a a' : Vec F S128x2048 .bf16} {b b' d d' : Vec F S2048x512 .bf16} {e e' : Vec F S512x2048 .bf16} {w w' : Vec F S128x1 .f32}
    (ha : a = a') (hb : b = b') (hd : d = d') (he : e = e') (hw : w = w') : k0_pay4 (F := F) a b d e w = k0_pay4 a' b' d' e' w' := by
  subst ha hb hd he hw; rfl

set_option maxHeartbeats 8000000 in
/-- The body at a point: it casts the expert's weights into the scratch buffers if the expert is new, and writes the block's
    rows through them, or zeros past the used blocks. -/
theorem body (c : Dev nD) (i : grid0.Coords) (arg3 : Memref sig .tc .vmem S128x2048 .bf16) (harg3 : arg3.IsWhole) (arg4 : Memref sig .tc .vmem S128x1 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S128x2048 .f32) (harg8 : arg8.IsWhole)
    (T0 : S1288.Idx → BitVec 32) (T1 : S1.Idx → BitVec 32)
    (x0 : Vec F S128x2048 .bf16) (x1 : Vec F S128x1 .f32) (x2 x3 : Vec F S1x2048x512 .f32) (x4 : Vec F S1x512x2048 .f32)
    (y0 y1 : Vec F S2048x512 .bf16) (y2 : Vec F S512x2048 .bf16) (z0 z1 : Vec F S2048x512 .bf16) (z2 : Vec F S512x2048 .bf16) (o : Vec F S128x2048 .f32)
    (hF : Fresh (F := F) T0 i → z0 = k0_pay1 x2 ∧ z1 = k0_pay2 x3 ∧ z2 = k0_pay3 x4) (hK : ¬ Fresh (F := F) T0 i → z0 = y0 ∧ z1 = y1 ∧ z2 = y2)
    (hU : k0_cond2 i (used (F := F) T1) = 1#1 → o = k0_pay4 x0 z0 z1 z2 x1) (hZ : ¬ k0_cond2 i (used (F := F) T1) = 1#1 → o = k0_pay5) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (tb0.view.loc (c : Thread nD τ) ↦{fullShare.right} T0) ∗ (tb1.view.loc (c : Thread nD τ) ↦{fullShare.right} T1)
        ∗ (∃ d, owns (c : Thread nD τ) arg8 fullShare d)
        ∗ owns (c : Thread nD τ) sc0 fullShare y0 ∗ owns (c : Thread nD τ) sc1 fullShare y1 ∗ owns (c : Thread nD τ) sc2 fullShare y2
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (tb0.view.loc (c : Thread nD τ) ↦{fullShare.right} T0) ∗ (tb1.view.loc (c : Thread nD τ) ↦{fullShare.right} T1)
            ∗ owns (c : Thread nD τ) arg8 fullShare o
            ∗ owns (c : Thread nD τ) sc0 fullShare z0 ∗ owns (c : Thread nD τ) sc1 fullShare z1 ∗ owns (c : Thread nD τ) sc2 fullShare z2) -∗ K ⟨⟩))
      ⊢ wp frame (wpE (defs₀ (F := F)) Variants.none c none) Set.univ (cc0_moe i tb0 (Memref.isWhole_whole _) tb1 (Memref.isWhole_whole _) arg3 harg3 arg4 harg4 arg5 harg5 arg6 harg6 arg7 harg7 arg8 harg8 sc0 (Memref.isWhole_whole _) sc1 (Memref.isWhole_whole _) sc2 (Memref.isWhole_whole _)) K := by
  rw [cc0_moe_eq_skeleton]; unfold cc0_moe_skel owns
  iintro ⟨⟨%f0, %h0, H0⟩, ⟨%f1, %h1, H1⟩, ⟨%f2, %h2, H2⟩, ⟨%f3, %h3, H3⟩, ⟨%f4, %h4, H4⟩, HT0, HT1, ⟨%d5, %f5, -, H5⟩, ⟨%g0, %k0, HS0⟩, ⟨%g1, %k1, HS1⟩, ⟨%g2, %k2, HS2⟩, Hk⟩
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  have q2 := cond3_iff i (used (F := F) T1)
  subst h0 h1 h2 h3 h4 k0 k1 k2
  by_cases p : Fresh (F := F) T0 i
  on_goal 1 => obtain ⟨rfl, rfl, rfl⟩ := hF p
  on_goal 2 => obtain ⟨rfl, rfl, rfl⟩ := hK p
  all_goals
    by_cases q : k0_cond2 i (used (F := F) T1) = 1#1
    on_goal 1 =>
      obtain rfl := hU q
      have q3 : ¬ k0_cond3 i (used (F := F) T1) = 1#1 := fun h => q2.mp h q
    on_goal 2 =>
      obtain rfl := hZ q
      have q3 : k0_cond3 i (used (F := F) T1) = 1#1 := q2.mpr q
  all_goals
    clear hF hK hU hZ q2
    sl_exec! (disch := first | exact p | exact q | exact q3)
    sl_step
    iapply Hk
    isplitl [H0]
    · iexists f0; isplitr
      · ipureintro; rfl
      iexact H0
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [HT0]; · iexact HT0
    isplitl [HT1]; · iexact HT1
    isplitl [H5]
    on_goal 1 =>
      iexists _; isplitr
      on_goal 2 => iexact H5
      ipureintro
    rotate_left
    isplitl [HS0]
    on_goal 1 =>
      iexists _; isplitr
      on_goal 2 => iexact HS0
      ipureintro
    rotate_left
    isplitl [HS1]
    on_goal 1 =>
      iexists _; isplitr
      on_goal 2 => iexact HS1
      ipureintro
    rotate_left
    iexists _; isplitr
    on_goal 2 => iexact HS2
    ipureintro
    rotate_left
  · exact (View.read_writes_full _ _ _ _ _).trans (pay4_congr (View.readAt_full _ _ _) ((View.readCov_full _ _ _ _ _).trans (congrArg k0_pay1 (View.readAt_full _ _ _))) ((View.readCov_full _ _ _ _ _).trans (congrArg k0_pay2 (View.readAt_full _ _ _))) ((View.readCov_full _ _ _ _ _).trans (congrArg k0_pay3 (View.readAt_full _ _ _))) (View.readAt_full _ _ _))
  · exact (View.read_writes_full _ _ _ _ _).trans (congrArg k0_pay1 (View.readAt_full _ _ _))
  · exact (View.read_writes_full _ _ _ _ _).trans (congrArg k0_pay2 (View.readAt_full _ _ _))
  · exact (View.read_writes_full _ _ _ _ _).trans (congrArg k0_pay3 (View.readAt_full _ _ _))
  · exact View.read_writes_full _ _ _ _ _
  · exact (View.read_writes_full _ _ _ _ _).trans (congrArg k0_pay1 (View.readAt_full _ _ _))
  · exact (View.read_writes_full _ _ _ _ _).trans (congrArg k0_pay2 (View.readAt_full _ _ _))
  · exact (View.read_writes_full _ _ _ _ _).trans (congrArg k0_pay3 (View.readAt_full _ _ _))
  · exact (View.read_writes_full _ _ _ _ _).trans (pay4_congr (View.readAt_full _ _ _) (View.readAt_full _ _ _) (View.readAt_full _ _ _) (View.readAt_full _ _ _) (View.readAt_full _ _ _))
  · with_reducible rfl
  · with_reducible rfl
  · with_reducible rfl
  · exact View.read_writes_full _ _ _ _ _
  · with_reducible rfl
  · with_reducible rfl
  · with_reducible rfl

end Cert.Kernel5Ideal.Moe
end
-- ==== Proof.MoeRun.lean ====
/- The routed experts' kernel launched at any tables its precondition admits: its blocks, its proof data, its run. -/
module

public import proofs.«01_k».proof.Proof.MoeBody
public import Idealize.ShloMosaic.Lib.Pipeline.Quiescent
public import Idealize.ShloMosaic.Lib.Pipeline.Kit
public import Idealize.ShloMosaic.Lib.Pipeline.TableIdle
public import Idealize.ShloMosaic.Lib.Pipeline.ValueKit
public import Idealize.ShloMosaic.Lib.Writes
public import Idealize.ShloMosaic.Lib.Exec
public import Idealize.ShloMosaic.Lib.Affine
public import Idealize.ShloMosaic.Adequacy
public import Idealize.ShloMosaic.Init
public import Idealize.ShloMosaic.Lib.ValueIdxCore

@[expose] public section

set_option maxRecDepth 16384
set_option Elab.async false

noncomputable section

namespace Cert.Kernel5Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

/-- The pipeline's resource algebra, embedded whole. -/
abbrev EP : Emb (UR sig nD τ) (MT nD τ sig Unit (Elt F) ℕ (UR sig nD τ) ℕ) := emb₁

/-- The index of a grid point in the table of experts. -/
def tix (i : grid0.Coords) : S1288.Idx := fun a => match a with | 0 => i 0

theorem val_word (i : grid0.Coords) : (BitVec.ofNat 32 (i 0).val).toNat = (i 0).val := by
  have h : (i 0).val < 1288 := (i 0).isLt
  rw [BitVec.toNat_ofNat]; omega

/-- The expert a window's index map reads at a point. -/
theorem at_tix (pf : pre0.Contents (Elt F)) (i : grid0.Coords) (h) :
    pf.at 0 (Rect.unit (s := S1288) (k0_off1 i) S1.size h) numel1_S1 = (pf 0 : S1288.Idx → BitVec 32) (tix i) := by
  have e : ∀ (a b : S1288.Idx), (a 0).val = (b 0).val → a = b := fun a b h => funext fun x => by
    match x with
    | 0 => exact Fin.ext h
  refine congrArg (pf 0 : S1288.Idx → BitVec 32) (e _ _ ?_)
  show (BitVec.ofNat 32 (i 0).val).toNat + 1 * 0 = (i 0).val
  rw [val_word]; omega

theorem tr2 (pf : pre0.Contents (Elt F)) (i : grid0.Coords) :
    cc0_transform_2 k0_off1_inb numel1_S1 pf i = ![((pf 0 : S1288.Idx → BitVec 32) (tix i)).toNat, 0, 0] := by
  unfold cc0_transform_2
  exact congrArg (fun v : BitVec 32 => (![v.toNat, 0, 0] : Fin 3 → ℕ)) (at_tix pf i _)
theorem tr3 (pf : pre0.Contents (Elt F)) (i : grid0.Coords) :
    cc0_transform_3 k0_off1_inb numel1_S1 pf i = ![((pf 0 : S1288.Idx → BitVec 32) (tix i)).toNat, 0, 0] := tr2 pf i
theorem tr4 (pf : pre0.Contents (Elt F)) (i : grid0.Coords) :
    cc0_transform_4 k0_off1_inb numel1_S1 pf i = ![((pf 0 : S1288.Idx → BitVec 32) (tix i)).toNat, 0, 0] := tr2 pf i

variable (m : (ℓ : Loc nD τ sig) → Buf (Elt F) ℓ) (ρ : Dev nD → PrngReg)

/-- The tables at launch. -/
def pfN : pre0.Contents (Elt F) := fun j => m (((0 : Dev nD) : Thread nD τ).loc (pre0.ref j))

abbrev experts : S1288.Idx → BitVec 32 := (pfN m) 0
abbrev count : S1.Idx → BitVec 32 := (pfN m) 1

/-- Every block's expert is one of the 256. -/
abbrev Ok : Prop := ∀ x : S1288.Idx, (experts m x).toNat < 256

variable (hT : Ok m)

include hT in
theorem ok_pfN : ok0 (pfN m) := by
  have h2 : ∀ i a, (cc0_transform_2 k0_off1_inb numel1_S1 (pfN m) i a + 1) * S1x2048x512.size a ≤ S256x2048x512.size a := fun i a => by
    rw [tr2]; have h := hT (tix i)
    match a with
    | 0 => show ((experts m (tix i)).toNat + 1) * 1 ≤ 256; omega
    | 1 => show (0 + 1) * 2048 ≤ 2048; omega
    | 2 => show (0 + 1) * 512 ≤ 512; omega
  have h4 : ∀ i a, (cc0_transform_4 k0_off1_inb numel1_S1 (pfN m) i a + 1) * S1x512x2048.size a ≤ S256x512x2048.size a := fun i a => by
    rw [tr4]; have h := hT (tix i)
    match a with
    | 0 => show ((experts m (tix i)).toNat + 1) * 1 ≤ 256; omega
    | 1 => show (0 + 1) * 512 ≤ 512; omega
    | 2 => show (0 + 1) * 2048 ≤ 2048; omega
  exact ⟨fun i => ⟨h2 i, .inl rfl⟩, fun i => ⟨h2 i, .inl rfl⟩, fun i => ⟨h4 i, .inl rfl⟩⟩

/-- The pipeline at the tables. -/
def adm : (pcfg0 (F := F)).Adm := ⟨pfN m, ok_pfN m hT⟩
abbrev cfgA : Pipeline.Cfg sig Λ₀ := cfg0 (F := F) (adm m hT)
abbrev pcs : Fin 1 → Pipeline.Cfg sig Λ₀ := Pipeline.pin (pcfgs (F := F)) fun _ => adm m hT
abbrev crd (t : Fin (cfgA m hT).N) : (cfgA m hT).grid.Coords := (cfgA m hT).grid.coords t

/-- The staging buffers at a point. -/
abbrev ms0 (t : Fin (cfgA m hT).N) : Memref sig .tc .vmem S128x2048 .bf16 := spec0_0.stage ((cfgA m hT).slots t (0 : Fin 6))
abbrev hs0 (t : Fin (cfgA m hT).N) : (ms0 m hT t).IsWhole := hstage0_0 (((cfgA m hT).slots t (0 : Fin 6)).cast nbuf0_0)
abbrev ms1 (t : Fin (cfgA m hT).N) : Memref sig .tc .vmem S128x1 .f32 := spec0_1.stage ((cfgA m hT).slots t (1 : Fin 6))
abbrev hs1 (t : Fin (cfgA m hT).N) : (ms1 m hT t).IsWhole := hstage0_1 (((cfgA m hT).slots t (1 : Fin 6)).cast nbuf0_1)
abbrev ms2 (t : Fin (cfgA m hT).N) : Memref sig .tc .vmem S1x2048x512 .f32 := spec0_2.stage ((cfgA m hT).slots t (2 : Fin 6))
abbrev hs2 (t : Fin (cfgA m hT).N) : (ms2 m hT t).IsWhole := hstage0_2 (((cfgA m hT).slots t (2 : Fin 6)).cast nbuf0_2)
abbrev ms3 (t : Fin (cfgA m hT).N) : Memref sig .tc .vmem S1x2048x512 .f32 := spec0_3.stage ((cfgA m hT).slots t (3 : Fin 6))
abbrev hs3 (t : Fin (cfgA m hT).N) : (ms3 m hT t).IsWhole := hstage0_3 (((cfgA m hT).slots t (3 : Fin 6)).cast nbuf0_3)
abbrev ms4 (t : Fin (cfgA m hT).N) : Memref sig .tc .vmem S1x512x2048 .f32 := spec0_4.stage ((cfgA m hT).slots t (4 : Fin 6))
abbrev hs4 (t : Fin (cfgA m hT).N) : (ms4 m hT t).IsWhole := hstage0_4 (((cfgA m hT).slots t (4 : Fin 6)).cast nbuf0_4)
abbrev ms5 (t : Fin (cfgA m hT).N) : Memref sig .tc .vmem S128x2048 .f32 := spec0_5.stage ((cfgA m hT).slots t (5 : Fin 6))
abbrev hs5 (t : Fin (cfgA m hT).N) : (ms5 m hT t).IsWhole := hstage0_5 (((cfgA m hT).slots t (5 : Fin 6)).cast nbuf0_5)

/-- Window `w`'s block at point `t`, read off its array at launch. -/
def iblk (c : Dev nD) (w : Fin (cfgA m hT).W) (t : Fin (cfgA m hT).N) : (((cfgA m hT).win w).xblock (crd m hT t)).Idx → Elt F ((cfgA m hT).win w).elt :=
  (((cfgA m hT).win w).blk t).view.read (Elt F) (m (((cfgA m hT).win w).arr.view.loc (c : Thread nD τ)))

/-- The blocks of the experts' weights at a point, as the kernel's functions take them. -/
def wb2 (c : Dev nD) (t : Fin (cfgA m hT).N) : Vec F S1x2048x512 .f32 := iblk m hT c (2 : Fin 6) t
def wb3 (c : Dev nD) (t : Fin (cfgA m hT).N) : Vec F S1x2048x512 .f32 := iblk m hT c (3 : Fin 6) t
def wb4 (c : Dev nD) (t : Fin (cfgA m hT).N) : Vec F S1x512x2048 .f32 := iblk m hT c (4 : Fin 6) t

/-- The expert of a point. -/
def expert (i : grid0.Coords) : Fin 256 := ⟨(experts m (tix i)).toNat, hT _⟩

/-- A window over the experts' weights holds the whole of its point's expert. -/
theorem wb2_at (c : Dev nD) (t : Fin (cfgA m hT).N) (y : S1x2048x512.Idx) :
    wb2 m hT c t y = m ((c : Thread nD τ).loc main_arg4) (ix3 (expert m hT (crd m hT t)) (y 1) (y 2)) := by
  refine congrArg (m ((c : Thread nD τ).loc main_arg4) : S256x2048x512.Idx → Elt F .f32) (funext fun a => Fin.ext ?_)
  have h := tr2 (pfN m) (crd m hT t)
  have h0 : (y 0).val < 1 := (y 0).isLt
  match a with
  | 0 =>
    show cc0_transform_2 k0_off1_inb numel1_S1 (pfN m) (crd m hT t) 0 * 1 + 1 * (y 0).val = _
    rw [h]; show (experts m (tix (crd m hT t))).toNat * 1 + 1 * (y 0).val = (experts m (tix (crd m hT t))).toNat
    omega
  | 1 =>
    show cc0_transform_2 k0_off1_inb numel1_S1 (pfN m) (crd m hT t) 1 * 2048 + 1 * (y 1).val = (y 1).val
    rw [h]; show 0 * 2048 + 1 * (y 1).val = (y 1).val
    omega
  | 2 =>
    show cc0_transform_2 k0_off1_inb numel1_S1 (pfN m) (crd m hT t) 2 * 512 + 1 * (y 2).val = (y 2).val
    rw [h]; show 0 * 512 + 1 * (y 2).val = (y 2).val
    omega
theorem wb3_at (c : Dev nD) (t : Fin (cfgA m hT).N) (y : S1x2048x512.Idx) :
    wb3 m hT c t y = m ((c : Thread nD τ).loc main_arg5) (ix3 (expert m hT (crd m hT t)) (y 1) (y 2)) := by
  refine congrArg (m ((c : Thread nD τ).loc main_arg5) : S256x2048x512.Idx → Elt F .f32) (funext fun a => Fin.ext ?_)
  have h := tr3 (pfN m) (crd m hT t)
  have h0 : (y 0).val < 1 := (y 0).isLt
  match a with
  | 0 =>
    show cc0_transform_3 k0_off1_inb numel1_S1 (pfN m) (crd m hT t) 0 * 1 + 1 * (y 0).val = _
    rw [h]; show (experts m (tix (crd m hT t))).toNat * 1 + 1 * (y 0).val = (experts m (tix (crd m hT t))).toNat
    omega
  | 1 =>
    show cc0_transform_3 k0_off1_inb numel1_S1 (pfN m) (crd m hT t) 1 * 2048 + 1 * (y 1).val = (y 1).val
    rw [h]; show 0 * 2048 + 1 * (y 1).val = (y 1).val
    omega
  | 2 =>
    show cc0_transform_3 k0_off1_inb numel1_S1 (pfN m) (crd m hT t) 2 * 512 + 1 * (y 2).val = (y 2).val
    rw [h]; show 0 * 512 + 1 * (y 2).val = (y 2).val
    omega
theorem wb4_at (c : Dev nD) (t : Fin (cfgA m hT).N) (y : S1x512x2048.Idx) :
    wb4 m hT c t y = m ((c : Thread nD τ).loc main_arg6) (ix3 (expert m hT (crd m hT t)) (y 1) (y 2)) := by
  refine congrArg (m ((c : Thread nD τ).loc main_arg6) : S256x512x2048.Idx → Elt F .f32) (funext fun a => Fin.ext ?_)
  have h := tr4 (pfN m) (crd m hT t)
  have h0 : (y 0).val < 1 := (y 0).isLt
  match a with
  | 0 =>
    show cc0_transform_4 k0_off1_inb numel1_S1 (pfN m) (crd m hT t) 0 * 1 + 1 * (y 0).val = _
    rw [h]; show (experts m (tix (crd m hT t))).toNat * 1 + 1 * (y 0).val = (experts m (tix (crd m hT t))).toNat
    omega
  | 1 =>
    show cc0_transform_4 k0_off1_inb numel1_S1 (pfN m) (crd m hT t) 1 * 512 + 1 * (y 1).val = (y 1).val
    rw [h]; show 0 * 512 + 1 * (y 1).val = (y 1).val
    omega
  | 2 =>
    show cc0_transform_4 k0_off1_inb numel1_S1 (pfN m) (crd m hT t) 2 * 2048 + 1 * (y 2).val = (y 2).val
    rw [h]; show 0 * 2048 + 1 * (y 2).val = (y 2).val
    omega

/-- Points of one expert hold the same weights. -/
theorem wb_same (c : Dev nD) (t u : Fin (cfgA m hT).N) (h : experts m (tix (crd m hT t)) = experts m (tix (crd m hT u))) :
    wb2 m hT c t = wb2 m hT c u ∧ wb3 m hT c t = wb3 m hT c u ∧ wb4 m hT c t = wb4 m hT c u := by
  have e : expert m hT (crd m hT t) = expert m hT (crd m hT u) := Fin.ext (by show (experts m (tix (crd m hT t))).toNat = (experts m (tix (crd m hT u))).toNat; rw [h])
  refine ⟨funext fun y => ?_, funext fun y => ?_, funext fun y => ?_⟩
  · rw [wb2_at, wb2_at, e]
  · rw [wb3_at, wb3_at, e]
  · rw [wb4_at, wb4_at, e]

/-! ## The decisions of a point -/

theorem crd_val : ∀ t : Fin grid0.N, (grid0.coords t 0).val = t.val := by decide +kernel
theorem word_pred : ∀ n : Fin 1288, (Scalar.indexCast (Scalar.maxsi (Scalar.subi (BitVec.ofNat 32 n.val) 1#32) 0#32)).toNat = n.val - 1 := by decide +kernel

theorem here_eq (T : S1288.Idx → BitVec 32) (i : grid0.Coords) : here (F := F) T i = T (tix i) := by
  have e : ∀ (a b : S1288.Idx), (a 0).val = (b 0).val → a = b := fun a b h => funext fun x => by
    match x with
    | 0 => exact Fin.ext h
  refine congrArg T (e _ _ ?_)
  show (BitVec.ofNat 32 (i 0).val).toNat + 1 * 0 = (i 0).val
  rw [val_word]; omega

theorem prev_eq (T : S1288.Idx → BitVec 32) (i j : grid0.Coords) (h : (i 0).val = (j 0).val + 1) : prev (F := F) T i = T (tix j) := by
  have e : ∀ (a b : S1288.Idx), (a 0).val = (b 0).val → a = b := fun a b h => funext fun x => by
    match x with
    | 0 => exact Fin.ext h
  refine congrArg T (e _ _ ?_)
  show (Scalar.indexCast (Scalar.maxsi (Scalar.subi (BitVec.ofNat 32 (i 0).val) 1#32) 0#32)).toNat + 1 * 0 = (j 0).val
  have := word_pred (i 0)
  omega

/-- A point that takes no new weights is not the first, and has the expert of the point before it. -/
theorem not_fresh (T : S1288.Idx → BitVec 32) (i : grid0.Coords) (h : ¬ Fresh (F := F) T i) :
    (i 0).val ≠ 0 ∧ here (F := F) T i = prev (F := F) T i := by
  have k : ∀ p q : Bool, ¬ (Scalar.cmpi .ne (Scalar.extui (Scalar.ori (BitVec.ofBool p) (BitVec.ofBool q)) : BitVec 32) 0#32 = 1#1) → p = false ∧ q = false := by
    decide
  obtain ⟨a, b⟩ := k _ _ h
  constructor
  · intro h0; rw [h0] at a; exact absurd a (by decide)
  · exact (bne_eq_false_iff_eq).mp b

/-- What the point leaves in its block of the result. -/
def oblk (c : Dev nD) (t : Fin (cfgA m hT).N) : Vec F S128x2048 .f32 :=
  if k0_cond2 (crd m hT t) (used (F := F) (count m)) = 1#1 then
    k0_pay4 (iblk m hT c (0 : Fin 6) t) (k0_pay1 (wb2 m hT c t)) (k0_pay2 (wb3 m hT c t)) (k0_pay3 (wb4 m hT c t)) (iblk m hT c (1 : Fin 6) t)
  else k0_pay5

/-- Before point `t`: the scratch buffers hold the weights of the point before it (anything at the first), beside the tables. -/
def Phi (c : Dev nD) (t : Fin ((cfgA m hT).N + 1)) : sProp 𝕄 :=
  iprop(∃ y0 : Vec F S2048x512 .bf16, ∃ y1 : Vec F S2048x512 .bf16, ∃ y2 : Vec F S512x2048 .bf16,
    ⌜∀ u : Fin (cfgA m hT).N, t.val = u.val + 1 → y0 = k0_pay1 (wb2 m hT c u) ∧ y1 = k0_pay2 (wb3 m hT c u) ∧ y2 = k0_pay3 (wb4 m hT c u)⌝
    ∗ owns (c : Thread nD τ) sc0 fullShare y0 ∗ owns (c : Thread nD τ) sc1 fullShare y1 ∗ owns (c : Thread nD τ) sc2 fullShare y2
    ∗ (tb0.view.loc (c : Thread nD τ) ↦{fullShare.right} experts m) ∗ (tb1.view.loc (c : Thread nD τ) ↦{fullShare.right} count m))

/-- The proof data of the pipeline. -/
def dats (_ : Fin 1) (c : Dev nD) : Dat τ (Elt F) Unit ℕ (UR sig nD τ) ℕ (cfgA m hT) c where
  A w := m (((cfgA m hT).win w).arr.view.loc (c : Thread nD τ))
  after w t := match w with
    | ⟨0, _⟩ => iblk m hT c (0 : Fin 6) t
    | ⟨1, _⟩ => iblk m hT c (1 : Fin 6) t
    | ⟨2, _⟩ => iblk m hT c (2 : Fin 6) t
    | ⟨3, _⟩ => iblk m hT c (3 : Fin 6) t
    | ⟨4, _⟩ => iblk m hT c (4 : Fin 6) t
    | ⟨5, _⟩ => oblk m hT c t
  Φ t := Phi m hT c t
  q _ := fullShare
  owed _ := 0

theorem after0 (c : Dev nD) (t : Fin (cfgA m hT).N) : (dats m hT 0 c).after (0 : Fin 6) t = iblk m hT c (0 : Fin 6) t := rfl
theorem after1 (c : Dev nD) (t : Fin (cfgA m hT).N) : (dats m hT 0 c).after (1 : Fin 6) t = iblk m hT c (1 : Fin 6) t := rfl
theorem after2 (c : Dev nD) (t : Fin (cfgA m hT).N) : (dats m hT 0 c).after (2 : Fin 6) t = iblk m hT c (2 : Fin 6) t := rfl
theorem after3 (c : Dev nD) (t : Fin (cfgA m hT).N) : (dats m hT 0 c).after (3 : Fin 6) t = iblk m hT c (3 : Fin 6) t := rfl
theorem after4 (c : Dev nD) (t : Fin (cfgA m hT).N) : (dats m hT 0 c).after (4 : Fin 6) t = iblk m hT c (4 : Fin 6) t := rfl
theorem after5 (c : Dev nD) (t : Fin (cfgA m hT).N) : (dats m hT 0 c).after (5 : Fin 6) t = oblk m hT c t := rfl

/-- A window that is read holds its block when the body runs, fetched there or not. -/
theorem before0 (c : Dev nD) (t : Fin (cfgA m hT).N) (d) : (dats m hT 0 c).before (0 : Fin 6) t d = iblk m hT c (0 : Fin 6) t :=
  ((dats m hT 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA m hT).N) (d) : (dats m hT 0 c).before (1 : Fin 6) t d = iblk m hT c (1 : Fin 6) t :=
  ((dats m hT 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA m hT).N) (d) : (dats m hT 0 c).before (2 : Fin 6) t d = iblk m hT c (2 : Fin 6) t :=
  ((dats m hT 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA m hT).N) (d) : (dats m hT 0 c).before (3 : Fin 6) t d = iblk m hT c (3 : Fin 6) t :=
  ((dats m hT 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA m hT).N) (d) : (dats m hT 0 c).before (4 : Fin 6) t d = iblk m hT c (4 : Fin 6) t :=
  ((dats m hT 0 c).before_in_eq_fetched (4 : Fin 6) rfl (fun _ => rfl) (fun _ _ _ => rfl) (fun t => by rw [after4]; unfold Dat.blockOf iblk; rfl) t d).trans
    (by unfold Dat.fetched Dat.blockOf iblk; rfl)

/-- The result's block is stored at every point. -/
theorem idle5 (pf : pre0.Contents (Elt F)) (i : grid0.Coords) : idle0 pf 5 i = false := by
  show (!(k0_cond2 i (pf.atD 1 ![0]) == 1#1) && !(k0_cond3 i (pf.atD 1 ![0]) == 1#1)) = false
  have h := cond3_iff i (pf.atD 1 ![0])
  by_cases q : k0_cond2 i (pf.atD 1 ![0]) = 1#1
  · rw [q]; rfl
  · rw [h.mpr q]; exact Bool.and_false _

/-- The body at a point on its staging buffers. -/
abbrev bodyAt (t : Fin (cfgA m hT).N) : Prog (TpuEff nD τ sig (Elt F) Λ₀ .tc) PUnit :=
  cc0_moe (crd m hT t) tb0 (Memref.isWhole_whole _) tb1 (Memref.isWhole_whole _) (ms0 m hT t) (hs0 m hT t) (ms1 m hT t) (hs1 m hT t) (ms2 m hT t) (hs2 m hT t) (ms3 m hT t) (hs3 m hT t) (ms4 m hT t) (hs4 m hT t) (ms5 m hT t) (hs5 m hT t) sc0 (Memref.isWhole_whole _) sc1 (Memref.isWhole_whole _) sc2 (Memref.isWhole_whole _)

set_option maxHeartbeats 4000000 in
/-- The body's obligation at a point. -/
theorem sound_body (c : Dev nD) (t : Fin (cfgA m hT).N) :
    iprop((dats m hT 0 c).Φ t.castSucc ∗ (dats m hT 0 c).owesAt () t.castSucc
        ∗ (∃ d, owns (c : Thread nD τ) (ms0 m hT t) fullShare ((dats m hT 0 c).before (0 : Fin 6) t d))
        ∗ (∃ d, owns (c : Thread nD τ) (ms1 m hT t) fullShare ((dats m hT 0 c).before (1 : Fin 6) t d))
        ∗ (∃ d, owns (c : Thread nD τ) (ms2 m hT t) fullShare ((dats m hT 0 c).before (2 : Fin 6) t d))
        ∗ (∃ d, owns (c : Thread nD τ) (ms3 m hT t) fullShare ((dats m hT 0 c).before (3 : Fin 6) t d))
        ∗ (∃ d, owns (c : Thread nD τ) (ms4 m hT t) fullShare ((dats m hT 0 c).before (4 : Fin 6) t d))
        ∗ (∃ d, owns (c : Thread nD τ) (ms5 m hT t) fullShare ((dats m hT 0 c).before (5 : Fin 6) t d)))
      ⊢ wp frame (wpE (defs₀ (F := F)) Variants.none c none) Set.univ (bodyAt m hT t) fun _ =>
          iprop((dats m hT 0 c).Φ t.succ ∗ (dats m hT 0 c).owesAt () t.succ
            ∗ bigSep Finset.univ fun w : Fin (cfgA m hT).W =>
                match (cfgA m hT).idle w ((cfgA m hT).grid.coords t) with
                | true =>
                  match ((cfgA m hT).win w).flush t with
                  | false => iprop(∃ d, owns (c : Thread nD τ) (((cfgA m hT).win w).stage ((cfgA m hT).slots t w)) fullShare ((dats m hT 0 c).before w t d))
                  | true => owns (c : Thread nD τ) (((cfgA m hT).win w).stage ((cfgA m hT).slots t w)) fullShare ((dats m hT 0 c).after w t)
                | false => owns (c : Thread nD τ) (((cfgA m hT).win w).stage ((cfgA m hT).slots t w)) fullShare ((dats m hT 0 c).after w t)) := by
  have i5 : (cfgA m hT).idle (5 : Fin 6) ((cfgA m hT).grid.coords t) = false := idle5 (pfN m) (crd m hT t)
  rw [bigSep_W0]
  rewrite [i5]
  simp only [before0, before1, before2, before3, before4, after0, after1, after2, after3, after4, after5]
  rewrite [show (dats m hT 0 c).Φ t.succ = Phi m hT c t.succ from rfl, show (dats m hT 0 c).Φ t.castSucc = Phi m hT c t.castSucc from rfl,
    show (dats m hT 0 c).owesAt () t.succ = (dats m hT 0 c).owesAt () t.castSucc from rfl]
  unfold Phi
  iintro ⟨⟨%y0, %y1, %y2, %hy, HS0, HS1, HS2, HT0, HT1⟩, HO, ⟨%d0, H0⟩, ⟨%d1, H1⟩, ⟨%d2, H2⟩, ⟨%d3, H3⟩, ⟨%d4, H4⟩, ⟨%d5, H5⟩⟩
  have hK : ¬ Fresh (F := F) (experts m) (crd m hT t) → k0_pay1 (wb2 m hT c t) = y0 ∧ k0_pay2 (wb3 m hT c t) = y1 ∧ k0_pay3 (wb4 m hT c t) = y2 := by
    intro h
    obtain ⟨h0, h1⟩ := not_fresh _ _ h
    have hc : ((crd m hT t) 0).val = t.val := crd_val t
    let u : Fin (cfgA m hT).N := ⟨t.val - 1, Nat.lt_of_le_of_lt (Nat.sub_le _ _) t.isLt⟩
    have hu : ((crd m hT u) 0).val = t.val - 1 := crd_val u
    have hp : t.val ≠ 0 := fun e => h0 (hc.trans e)
    have hs : t.val = t.val - 1 + 1 := by omega
    rw [here_eq, prev_eq _ _ (crd m hT u) ((hc.trans hs).trans (congrArg (· + 1) hu.symm))] at h1
    obtain ⟨e2, e3, e4⟩ := wb_same m hT c t u h1
    obtain ⟨r0, r1, r2⟩ := hy u hs
    rw [e2, e3, e4]
    exact ⟨r0.symm, r1.symm, r2.symm⟩
  iapply (body (F := F) c (crd m hT t) (ms0 m hT t) (hs0 m hT t) (ms1 m hT t) (hs1 m hT t) (ms2 m hT t) (hs2 m hT t) (ms3 m hT t) (hs3 m hT t) (ms4 m hT t) (hs4 m hT t) (ms5 m hT t) (hs5 m hT t)
    (experts m) (count m) (iblk m hT c (0 : Fin 6) t) (iblk m hT c (1 : Fin 6) t) (wb2 m hT c t) (wb3 m hT c t) (wb4 m hT c t) y0 y1 y2
    (k0_pay1 (wb2 m hT c t)) (k0_pay2 (wb3 m hT c t)) (k0_pay3 (wb4 m hT c t)) (oblk m hT c t) (fun _ => ⟨rfl, rfl, rfl⟩) hK (fun h => if_pos h) (fun h => if_neg h) _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]
  · iexists _; iexact H5
  isplitl [HS0]; · iexact HS0
  isplitl [HS1]; · iexact HS1
  isplitl [HS2]; · iexact HS2
  iintro ⟨H0, H1, H2, H3, H4, HT0, HT1, H5, HS0, HS1, HS2⟩
  isplitl [HS0 HS1 HS2 HT0 HT1]
  · iexists _, _, _
    isplitr
    on_goal 2 =>
      isplitl [HS0]; · iexact HS0
      isplitl [HS1]; · iexact HS1
      isplitl [HS2]; · iexact HS2
      isplitl [HT0]; · iexact HT0
      iexact HT1
    ipureintro
    intro u hu
    have e : u = t := Fin.ext (by have : t.val + 1 = u.val + 1 := hu; omega)
    subst e; exact ⟨rfl, rfl, rfl⟩
  isplitl [HO]; · iexact HO
  isplitl [H0]; · iexact H0
  isplitl [H1]; · iexact H1
  isplitl [H2]; · iexact H2
  isplitl [H3]; · iexact H3
  isplitl [H4]; · iexact H4
  iexact H5

/-- The body's obligation, at every point. -/
theorem body_obligation (c : Dev nD) : BodyObligation (dats m hT 0 c) (defs₀ (F := F)) Variants.none () Set.univ := fun t => by
  rw [bigSep_W0]
  exact sound_body m hT c t

/-! ## The launch -/

/-- The launch element of the pipeline's resource algebra. -/
def u₀ : UR sig nD τ :=
  initOf (Pipeline.cells (pcs m hT) ((launch0 (F := F)).cellOf_inj fun _ => adm m hT))
    (Pipeline.launchToks (pcs m hT) ((launch0 (F := F)).cellOf_inj fun _ => adm m hT))

theorem share_eq (c : Dev nD) (w : Fin (cfgA m hT).W) : (dats m hT 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem own0 (c : Dev nD) (y : Vec F S2048x512 .bf16) : (owns (c : Thread nD τ) sc0 fullShare y : sProp 𝕄) = (((c : Thread nD τ).loc cc0_scratch0) ↦{fullShare} y) := owns_whole _ _ _ _
theorem own1 (c : Dev nD) (y : Vec F S2048x512 .bf16) : (owns (c : Thread nD τ) sc1 fullShare y : sProp 𝕄) = (((c : Thread nD τ).loc cc0_scratch1) ↦{fullShare} y) := owns_whole _ _ _ _
theorem own2 (c : Dev nD) (y : Vec F S512x2048 .bf16) : (owns (c : Thread nD τ) sc2 fullShare y : sProp 𝕄) = (((c : Thread nD τ).loc cc0_scratch2) ↦{fullShare} y) := owns_whole _ _ _ _

/-- The invariant at the first point, from the tables and the scratch buffers; -/
theorem phi0_intro (c : Dev nD) :
    iprop(BI.emp ∗ Pipeline.prefHeld pre0 c (fun _ => fullShare.right) (adm m hT).1 ∗ Pipeline.scopedRest spec0 c) ⊢ (dats m hT 0 c).Φ 0 := by
  rw [prefHeld_eq, scopedRest0_eq, show (dats m hT 0 c).Φ 0 = Phi m hT c 0 from rfl]
  unfold Phi
  iintro ⟨-, ⟨HT0, HT1⟩, ⟨%a0, HS0⟩, ⟨%a1, HS1⟩, ⟨%a2, HS2⟩⟩
  iexists a0, a1, a2
  isplitr
  · ipureintro; intro u hu; exact absurd hu (Nat.succ_ne_zero u.val).symm
  isplitl [HS0]
  · rw [own0]; iexact HS0
  isplitl [HS1]
  · rw [own1]; iexact HS1
  isplitl [HS2]
  · rw [own2]; iexact HS2
  isplitl [HT0]
  · iexact HT0
  iexact HT1

/-- and at the last point it gives the scratch buffers back. -/
theorem phiN_exit (c : Dev nD) : (dats m hT 0 c).Φ (Fin.last (cfgA m hT).N) ⊢ iprop(BI.emp ∗ Pipeline.scopedRest spec0 c) := by
  rw [scopedRest0_eq, show (dats m hT 0 c).Φ (Fin.last (cfgA m hT).N) = Phi m hT c (Fin.last _) from rfl]
  unfold Phi
  iintro ⟨%y0, %y1, %y2, -, HS0, HS1, HS2, -, -⟩
  isplitr; · iempintro
  isplitl [HS0]
  · iexists y0; rw [← own0]; iexact HS0
  isplitl [HS1]
  · iexists y1; rw [← own1]; iexact HS1
  iexists y2; rw [← own2]; iexact HS2

/-- What a run ends with: every array as computed, every table as launched. -/
def QC : PUnit × MemSt nD τ sig (Elt F) → Prop := fun r =>
  ∀ c : Dev nD, (∀ w : Fin (cfgA m hT).W, r.2.mem (((cfgA m hT).win w).arr.view.loc (c : Thread nD τ)) = (dats m hT 0 c).arrAt w (cfgA m hT).N)
    ∧ ∀ j, r.2.mem ((c : Thread nD τ).loc (pre0.ref j)) = (adm m hT).1 j

theorem V_pre (c : Dev nD) (j : Fin 2) : m ((c : Thread nD τ).loc (pre0.ref j)) = (adm m hT).1 j := by
  obtain rfl : c = 0 := Subsingleton.elim _ _
  rfl

set_option backward.isDefEq.respectTransparency.types false in
set_option maxHeartbeats 4000000 in
/-- Every execution of the kernel ends, its arrays as computed and its counters zero. -/
theorem run_quiescent : θ_run (defs (F := F)) (onTc (τ := τ) (main (F := F))) ⟨m, fun _ => 0, ρ⟩ (fun r => QC m hT r ∧ r.2.sem = fun _ => 0) :=
  Pipeline.θ_run_region_noSem_pf_quiescent pcfgs (fun _ => adm m hT) (dats m hT) () ((launch0 (F := F)).cellOf_inj fun _ => adm m hT) (0 : Fin 1)
    (launch0 (F := F)).win.to₀ (launch0 (F := F)).pre EP defs₀ Variants.none m ρ main
    (hbody := fun c => (body_obligation m hT c).loose) (hne := (launch0 (F := F)).block_pos)
    (harr := (launch0 (F := F)).arr_whole) (hstage := (launch0 (F := F)).stage_whole) (howed := fun _ _ => rfl)
    (u₀ := u₀ m hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hT) (dats m hT) 0 (launch0 (F := F)).win.arr_inj c (launch0 (F := F)).arr_whole
      (share_eq m hT c) _ _ fun _ => rfl)
    (hpf := V_pre m hT)
    (X := fun _ => iprop(emp)) (Y := fun _ => iprop(emp)) (Z := fun _ => iprop(emp))
    (hX := fun c => by rw [unscopedRestP0_eq]; iintro -; isplitr <;> iempintro)
    (hin := phi0_intro m hT)
    (hout := phiN_exit m hT)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The kernel's run: its result array as computed, its arguments as launched, its counters zero. -/
theorem run : θ_run (defs (F := F)) (onTc (τ := τ) (main (F := F))) ⟨m, fun _ => 0, ρ⟩ (fun r => (∀ c : Dev nD,
      r.2.mem ((c.tc : Thread nD τ).loc main_v0) = (dats m hT 0 c).arrAt (5 : Fin 6) (cfgA m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 (5 : Fin 6), ((h.1 c).1 (0 : Fin 6)).trans ((dats m hT 0 c).arrAt_in (0 : Fin 6) rfl _), ((h.1 c).1 (1 : Fin 6)).trans ((dats m hT 0 c).arrAt_in (1 : Fin 6) rfl _),
    ((h.1 c).2 0).trans (V_pre m hT c 0).symm, ((h.1 c).2 1).trans (V_pre m hT c 1).symm, ((h.1 c).1 (2 : Fin 6)).trans ((dats m hT 0 c).arrAt_in (2 : Fin 6) rfl _),
    ((h.1 c).1 (3 : Fin 6)).trans ((dats m hT 0 c).arrAt_in (3 : Fin 6) rfl _), ((h.1 c).1 (4 : Fin 6)).trans ((dats m hT 0 c).arrAt_in (4 : Fin 6) rfl _)⟩, h.2⟩) (run_quiescent m ρ hT)

end Cert.Kernel5Ideal.Moe
end
-- ==== Proof.MoeRows.lean ====
/- A row of the routed experts' result. -/
module

public import proofs.«01_k».proof.Proof.Rows

@[expose] public section

noncomputable section

namespace Cert.Rows

open Idealize.ShloMosaic

/-- One expert's gated unit on a row, under the row's weight. -/
def erow (x : Fin 2048 → EReal) (wg wu : Fin 2048 → Fin 512 → EReal) (wd : Fin 512 → Fin 2048 → EReal) (w : EReal) (y : Fin 2048) : EReal :=
  (∑ z, (∑ k, x k * wg k z) * Ideal.logistic (∑ k, x k * wg k z) * (∑ k, x k * wu k z) * wd z y) * w

theorem erow_congr {x x' : Fin 2048 → EReal} {wg wg' wu wu' : Fin 2048 → Fin 512 → EReal} {wd wd' : Fin 512 → Fin 2048 → EReal} {w w' : EReal} (y : Fin 2048)
    (hx : ∀ k, x k = x' k) (hg : ∀ a b, wg a b = wg' a b) (hu : ∀ a b, wu a b = wu' a b) (hd : ∀ a b, wd a b = wd' a b) (hw : w = w') :
    erow x wg wu wd w y = erow x' wg' wu' wd' w' y := by
  rw [funext hx, funext fun a => funext (hg a), funext fun a => funext (hu a), funext fun a => funext (hd a), hw]

theorem erow_zero (x : Fin 2048 → EReal) (wg wu : Fin 2048 → Fin 512 → EReal) (wd : Fin 512 → Fin 2048 → EReal) (y : Fin 2048) : erow x wg wu wd 0 y = 0 := by
  rw [erow, mul_zero]

end Cert.Rows
end
-- ==== Proof.MoeVal.lean ====
/- The routed experts' kernel: the array it leaves. -/
module

public import proofs.«01_k».proof.Proof.MoeRun
public import proofs.«01_k».proof.Proof.MoeRows
public import Idealize.ShloMosaic.Lib.Pipeline.ValueKit
public import Idealize.ShloMosaic.Lib.Pipeline.Covers

@[expose] public section

set_option maxRecDepth 16384

noncomputable section

namespace Cert.Kernel5Ideal.Moe

open Idealize.ShloMosaic Idealize.ShloMosaic.TcCoe Idealize.SL.Sem Cert.Kernel5Ideal Cert.Kernel5Ideal.Gen Cert.Rows
open Idealize.ShloMosaic.Pipeline (Dat Cfg Window)

theorem pay1_at (v : FVec Ideal S1x2048x512 .f32) (a : Fin 2048) (b : Fin 512) : k0_pay1 (F := Ideal) v (ix2 a b) = v (ix3 0 a b) := by pointwise [k0_pay1]
theorem pay2_at (v : FVec Ideal S1x2048x512 .f32) (a : Fin 2048) (b : Fin 512) : k0_pay2 (F := Ideal) v (ix2 a b) = v (ix3 0 a b) := by pointwise [k0_pay2]
theorem pay3_at (v : FVec Ideal S1x512x2048 .f32) (a : Fin 512) (b : Fin 2048) : k0_pay3 (F := Ideal) v (ix2 a b) = v (ix3 0 a b) := by pointwise [k0_pay3]

theorem pay4_at (x : FVec Ideal S128x2048 .bf16) (wg wu : FVec Ideal S2048x512 .bf16) (wd : FVec Ideal S512x2048 .bf16) (w : FVec Ideal S128x1 .f32) (r : Fin 128) (y : Fin 2048) :
    k0_pay4 (F := Ideal) x wg wu wd w (ix2 r y)
      = erow (fun k => x (ix2 r k)) (fun a b => wg (ix2 a b)) (fun a b => wu (ix2 a b)) (fun a b => wd (ix2 a b)) (w (ix2 r 0)) y := by
  pointwise [k0_pay4, erow]

theorem pay5_at (r : Fin 128) (y : Fin 2048) : k0_pay5 (F := Ideal) (ix2 r y) = 0 := by pointwise [k0_pay5]

variable (m : (ℓ : Loc nD τ sig) → Buf (Elt Ideal) ℓ) (hT : Ok m)

/-- The point a row of the array falls in, and the row within the point's block. -/
def pt (i : Fin 164864) : Fin (cfgA m hT).N := (⟨i.val / 128, by have := i.isLt; show i.val / 128 < 1288; omega⟩ : Fin 1288)
def wi (i : Fin 164864) : Fin 128 := ⟨i.val % 128, by omega⟩

theorem lt_N (t : Fin (cfgA m hT).N) : t.val < 1288 := t.isLt

theorem crd_at (t : Fin (cfgA m hT).N) : (crd m hT t 0).val = t.val := crd_val t

/-- A row's block holds the rows of its point. -/
theorem x_at (c : Dev nD) (i : Fin 164864) (k : Fin 2048) :
    (iblk m hT c (0 : Fin 6) (pt m hT i) : FVec Ideal S128x2048 .bf16) (ix2 (wi i) k) = m ((c : Thread nD τ).loc main_arg0) (ix2 i k) := by
  refine congrArg (m ((c : Thread nD τ).loc main_arg0) : S164864x2048.Idx → Elt Ideal .bf16) (funext fun a => Fin.ext ?_)
  have h := crd_at m hT (pt m hT i)
  match a with
  | 0 =>
    show (BitVec.ofNat 32 (crd m hT (pt m hT i) 0).val).toNat * 128 + 1 * (i.val % 128) = i.val
    rw [val_word, h]; show i.val / 128 * 128 + 1 * (i.val % 128) = i.val; omega
  | 1 => show 0 * 2048 + 1 * k.val = k.val; omega

theorem w_at (c : Dev nD) (i : Fin 164864) :
    (iblk m hT c (1 : Fin 6) (pt m hT i) : FVec Ideal S128x1 .f32) (ix2 (wi i) 0) = m ((c : Thread nD τ).loc main_arg1) (ix2 i 0) := by
  refine congrArg (m ((c : Thread nD τ).loc main_arg1) : S164864x1.Idx → Elt Ideal .f32) (funext fun a => Fin.ext ?_)
  have h := crd_at m hT (pt m hT i)
  match a with
  | 0 =>
    show (BitVec.ofNat 32 (crd m hT (pt m hT i) 0).val).toNat * 128 + 1 * (i.val % 128) = i.val
    rw [val_word, h]; show i.val / 128 * 128 + 1 * (i.val % 128) = i.val; omega
  | 1 => rfl

/-- The expert of a row. -/
def exOf (i : Fin 164864) : Fin 256 := ⟨(experts m (ix1 (⟨i.val / 128, by omega⟩ : Fin 1288))).toNat, hT _⟩

theorem expert_pt (i : Fin 164864) : expert m hT (crd m hT (pt m hT i)) = exOf m hT i := Fin.ext (congrArg (fun x => (experts m x).toNat) (funext fun a => by
  match a with
  | 0 => exact Fin.ext (crd_at m hT (pt m hT i))))

/-- The array's row: the row's expert on it. -/
def full (c : Dev nD) (n : Fin 164864) (y : Fin 2048) : EReal :=
  erow (fun k => m ((c : Thread nD τ).loc main_arg0) (ix2 n k)) (fun a b => m ((c : Thread nD τ).loc main_arg4) (ix3 (exOf m hT n) a b))
    (fun a b => m ((c : Thread nD τ).loc main_arg5) (ix3 (exOf m hT n) a b)) (fun a b => m ((c : Thread nD τ).loc main_arg6) (ix3 (exOf m hT n) a b))
    (m ((c : Thread nD τ).loc main_arg1) (ix2 n 0)) y

theorem size5 (a : Fin 2) : ((cfgA m hT).win (5 : Fin 6)).size a = ![128, 2048] a := by
  match a with
  | 0 => rfl
  | 1 => rfl
theorem nblk5_0 : ((cfgA m hT).win (5 : Fin 6)).nblk (0 : Fin 2) = 1288 := by
  show (164864 + 128 - 1) / 128 = 1288
  omega
theorem nblk5_1 : ((cfgA m hT).win (5 : Fin 6)).nblk (1 : Fin 2) = 1 := by
  show (2048 + 2048 - 1) / 2048 = 1
  omega

theorem covers5 : ((cfgA m hT).win (5 : Fin 6)).Covers :=
  ((cfgA m hT).win (5 : Fin 6)).covers_of_indexMap_surj rfl
    (fun a => lt_of_lt_of_eq ((by decide : ∀ a : Fin 2, 0 < (![128, 2048] : Fin 2 → ℕ) a) a) (size5 m hT a).symm) fun β =>
    ⟨fun a => match a with | 0 => (⟨(β (0 : Fin 2)).val, lt_of_lt_of_eq (β (0 : Fin 2)).isLt (nblk5_0 m hT)⟩ : Fin 1288), fun a => by
      match a with
      | 0 =>
        have h := lt_of_lt_of_eq (β (0 : Fin 2)).isLt (nblk5_0 m hT)
        show (BitVec.ofNat 32 (β (0 : Fin 2)).val).toNat = (β (0 : Fin 2)).val
        rw [BitVec.toNat_ofNat]; omega
      | 1 =>
        have h := lt_of_lt_of_eq (β (1 : Fin 2)).isLt (nblk5_1 m hT)
        show 0 = (β (1 : Fin 2)).val
        omega⟩

theorem final_blk (c : Dev nD) : (dats m hT 0 c).arrAt (5 : Fin 6) (cfgA m hT).N
    = fun i : S164864x2048.Idx => oblk m hT c (pt m hT (i 0)) (ix2 (wi (i 0)) (i 1)) := by
  refine (dats m hT 0 c).arrAt_eq_of_covers (5 : Fin 6) _ (covers5 m hT) fun t _ y => ?_
  change oblk m hT c t y = (fun i : S164864x2048.Idx => oblk m hT c (pt m hT (i 0)) (ix2 (wi (i 0)) (i 1))) ((((cfgA m hT).win (5 : Fin 6)).blk t).view.emb y)
  have y0 : (y (0 : Fin 2)).val < 128 := (y (0 : Fin 2)).isLt
  have e0 : (((((cfgA m hT).win (5 : Fin 6)).blk t).view.emb y) (0 : Fin 2)).val = t.val * 128 + (y (0 : Fin 2)).val := by
    show (BitVec.ofNat 32 (crd m hT t 0).val).toNat * 128 + 1 * (y (0 : Fin 2)).val = _
    rw [val_word, crd_at]; omega
  have e1 : (((((cfgA m hT).win (5 : Fin 6)).blk t).view.emb y) (1 : Fin 2)).val = (y (1 : Fin 2)).val := by
    show 0 * 2048 + 1 * (y (1 : Fin 2)).val = _; omega
  generalize ((((cfgA m hT).win (5 : Fin 6)).blk t).view.emb y) = i at e0 e1
  have ht : pt m hT (i (0 : Fin 2)) = t := Fin.ext (by show (i (0 : Fin 2)).val / 128 = t.val; rw [e0]; omega)
  have hy : (ix2 (wi (i (0 : Fin 2))) (i (1 : Fin 2)) : S128x2048.Idx) = y := funext fun a => by
    match a with
    | 0 => exact Fin.ext (by show (i (0 : Fin 2)).val % 128 = _; rw [e0]; omega)
    | 1 => exact Fin.ext e1
  show oblk m hT c t y = oblk m hT c (pt m hT (i (0 : Fin 2))) (ix2 (wi (i (0 : Fin 2))) (i (1 : Fin 2)))
  rw [ht, hy]

/-- Past the used blocks the rows carry weight zero, so the zeros stored there are the expert's rows too. -/
theorem used_of_lt (t : Fin (cfgA m hT).N) (hn : (count m (ix1 0)).toNat ≤ 1288) (h : t.val < (count m (ix1 0)).toNat) :
    k0_cond2 (crd m hT t) (used (F := Ideal) (count m)) = 1#1 := by
  have e : used (F := Ideal) (count m) = count m (ix1 0) := congrArg (count m) (funext fun a => by
    match a with
    | 0 => exact Fin.ext (Nat.lt_one_iff.mp (Fin.isLt _)))
  have hw : BitVec.ofNat 32 (crd m hT t 0).val = BitVec.ofNat 32 t.val := congrArg _ (crd_at m hT t)
  have ht := lt_N m hT t
  rw [e]
  have q : BitVec.slt (BitVec.ofNat 32 t.val) (count m (ix1 0)) = true := by
    simp only [BitVec.slt, decide_eq_true_eq, BitVec.toInt_eq_toNat_cond, BitVec.toNat_ofNat]
    omega
  show Scalar.cmpi .ne (Scalar.extui (BitVec.ofBool (BitVec.slt (BitVec.ofNat 32 (crd m hT t 0).val) (count m (ix1 0)))) : BitVec 32) 0#32 = 1#1
  rw [hw, q]; rfl

theorem row_at (c : Dev nD) (hn : (count m (ix1 0)).toNat ≤ 1288)
    (hw : ∀ r : Fin 164864, r.val < (count m (ix1 0)).toNat * 128 ∨ m ((c : Thread nD τ).loc main_arg1) (ix2 r 0) = (0 : EReal)) (n : Fin 164864) (y : Fin 2048) :
    oblk m hT c (pt m hT n) (ix2 (wi n) y) = full m hT c n y := by
  unfold oblk
  by_cases q : k0_cond2 (crd m hT (pt m hT n)) (used (F := Ideal) (count m)) = 1#1
  · rw [if_pos q]
    refine (pay4_at _ _ _ _ _ (wi n) y).trans (erow_congr y (fun k => x_at m hT c n k) (fun a b => ?_) (fun a b => ?_) (fun a b => ?_) (w_at m hT c n))
    · rw [pay1_at, wb2_at, expert_pt]; rfl
    · rw [pay2_at, wb3_at, expert_pt]; rfl
    · rw [pay3_at, wb4_at, expert_pt]; rfl
  · rw [if_neg q]
    have hz : m ((c : Thread nD τ).loc main_arg1) (ix2 n 0) = (0 : EReal) := (hw n).resolve_left fun h => q (used_of_lt m hT _ hn (by
      show n.val / 128 < _; omega))
    refine (pay5_at (wi n) y).trans ?_
    unfold full
    rw [hz, erow_zero]

theorem final (c : Dev nD) (hn : (count m (ix1 0)).toNat ≤ 1288)
    (hw : ∀ r : Fin 164864, r.val < (count m (ix1 0)).toNat * 128 ∨ m ((c : Thread nD τ).loc main_arg1) (ix2 r 0) = (0 : EReal)) :
    (dats m hT 0 c).arrAt (5 : Fin 6) (cfgA m hT).N = fun i : S164864x2048.Idx => full m hT c (i 0) (i 1) :=
  (final_blk m hT c).trans (funext fun i => row_at m hT c hn hw (i 0) (i 1))

end Cert.Kernel5Ideal.Moe
end
-- ==== Proof.MoeRef.lean ====
/- The routed experts as the reference computes them: every element of the result. -/
module

public import proofs.«01_k».proof.Proof.Gen.Reference5Ideal.Run
public import proofs.«01_k».proof.Proof.MoeRows
public import Idealize.ShloMosaic.Lib.Pipeline.ValueKit
public import Idealize.ShloMosaic.Lib.ValueIdxCore

@[expose] public section

set_option maxRecDepth 16384

noncomputable section

namespace Cert.Reference5Ideal.Value

open Idealize.ShloMosaic Idealize.ShloMosaic.TcCoe Idealize.SL.Sem Cert.Reference5Ideal Cert.Reference5Ideal.Gen Cert.Rows

/-! ## Whole matrices taken out of a stack by a column of numbers -/

section Slabs
variable {α : Type}

abbrev slabDims (N n R C : Nat) (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- The taken stack's matrix is the one its number names, the number held within the stack. -/
theorem slab_at {N n R C w : Nat} (hN : 0 < N)
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ w) (b : Fin n) (p : Fin R) (q : Fin C) :
    Host.gather (slabDims N n R C wf) x idx (ix3 b p q) = x (ix3 ⟨min (idx (ix2 b 0)).toInt.toNat (N - 1), by omega⟩ p q) := by
  unfold Host.gather
  refine congrArg x (funext fun a => Fin.ext ?_)
  show (slabDims N n R C wf).start (ix3 b p q) idx a + (slabDims N n R C wf).batchCoord (ix3 b p q) a + (slabDims N n R C wf).offCoord (ix3 b p q) a = _
  rw [GatherDims.batchCoord_eq_zero _ _ _ List.not_mem_nil, Nat.add_zero]
  have hs : ∀ a : Fin 3, a ≠ 0 → (slabDims N n R C wf).start (ix3 b p q) idx a = 0 := fun a ha => by
    unfold GatherDims.start
    exact dif_neg (fun h => ha (List.mem_singleton.mp h))
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N n R C wf).startIndexMap from List.mem_singleton.mpr rfl)]
    have hsi : (slabDims N n R C wf).siIdx (ix3 b p q) ⟨List.idxOf (0 : Fin 3) (slabDims N n R C wf).startIndexMap,
        List.idxOf_lt_length_iff.2 (List.mem_singleton.mpr rfl)⟩ = ix2 b 0 := by
      funext e; refine Fin.ext ?_
      match e with
      | 0 => rfl
      | 1 => rfl
    rw [hsi]; rfl
  | 1 => rw [hs 1 (by decide), Nat.zero_add]; rfl
  | 2 => rw [hs 2 (by decide), Nat.zero_add]; rfl

end Slabs

/-! ## The reference in parts -/

/-- The column of experts. -/
def col (be : IVec S1288 32) : IVec S1288x1 32 :=
  broadcastInDim S1288x1 ![0] bcast_S1288_S1288x1_0 (select (cmpi .slt be (broadcastInDim S1288 ![] bcast_S_S1288 (constantI S_ 32 0#32))) (addi be (broadcastInDim S1288 ![] bcast_S_S1288 (constantI S_ 32 256#32))) be)

def rowsOf (x : FVec Ideal S164864x2048 .bf16) : FVec Ideal S1288x128x2048 .f32 := shapeCast _ (extf .f32 x bitsLt_bf16_f32) shapeCasts_S164864x2048_S1288x128x2048

/-- The gated hidden rows. -/
def hid (x : FVec Ideal S1288x128x2048 .f32) (g u : FVec Ideal S1288x2048x512 .f32) : FVec Ideal S1288x128x512 .f32 :=
  mulf (mulf (Host.dotGeneral dot_S1288x128x2048_S1288x2048x512_S1288x128x512_2_1_1_2_0_0 none x g) (Host.divf (broadcastInDim S1288x128x512 ![] bcast_S_S1288x128x512 (constant S_ .f32 0x3F800000#32)) (addf (broadcastInDim S1288x128x512 ![] bcast_S_S1288x128x512 (constant S_ .f32 0x3F800000#32)) (Host.exp (Host.negf (Host.dotGeneral dot_S1288x128x2048_S1288x2048x512_S1288x128x512_2_1_1_2_0_0 none x g)))))) (Host.dotGeneral dot_S1288x128x2048_S1288x2048x512_S1288x128x512_2_1_1_2_0_0 none x u)

/-- The rows down-projected, under their weights, laid out flat. -/
def outp (h : FVec Ideal S1288x128x512 .f32) (d : FVec Ideal S1288x512x2048 .f32) (w : FVec Ideal S164864x1 .f32) : FVec Ideal S164864x2048 .f32 :=
  shapeCast _ (mulf (Host.dotGeneral dot_S1288x128x512_S1288x512x2048_S1288x128x2048_2_1_1_2_0_0 none h d) (broadcastInDim S1288x128x2048 ![0, 1, 2] bcast_S1288x128x1_S1288x128x2048_0_1_2 (broadcastInDim S1288x128x1 ![0, 1] bcast_S1288x128_S1288x128x1_0_1 (shapeCast _ w shapeCasts_S164864x1_S1288x128)))) shapeCasts_S1288x128x2048_S164864x2048

def ref (x : FVec Ideal S164864x2048 .bf16) (w : FVec Ideal S164864x1 .f32) (be : IVec S1288 32) (wg wu : FVec Ideal S256x2048x512 .f32) (wd : FVec Ideal S256x512x2048 .f32) : FVec Ideal S164864x2048 .f32 :=
  outp (hid (rowsOf x) (Host.gather gather_S256x2048x512_S1288x1_S1288x2048x512_12_0_n_n_0_1_12048512 wg (col be)) (Host.gather gather_S256x2048x512_S1288x1_S1288x2048x512_12_0_n_n_0_1_12048512 wu (col be)))
    (Host.gather gather_S256x512x2048_S1288x1_S1288x512x2048_12_0_n_n_0_1_15122048 wd (col be)) w

theorem rowsOf_at (x : FVec Ideal S164864x2048 .bf16) (b : Fin 1288) (r : Fin 128) (k : Fin 2048) :
    rowsOf x (ix3 b r k) = x (ix2 (⟨b.val * 128 + r.val, by omega⟩ : Fin 164864) k) := by
  pointwise [rowsOf]

theorem hid_at (x : FVec Ideal S1288x128x2048 .f32) (g u : FVec Ideal S1288x2048x512 .f32) (b : Fin 1288) (r : Fin 128) (z : Fin 512) :
    hid x g u (ix3 b r z) = (∑ k, x (ix3 b r k) * g (ix3 b k z)) * Ideal.logistic (∑ k, x (ix3 b r k) * g (ix3 b k z)) * (∑ k, x (ix3 b r k) * u (ix3 b k z)) := by
  pointwise [hid, Ideal.logistic]

theorem outp_at (h : FVec Ideal S1288x128x512 .f32) (d : FVec Ideal S1288x512x2048 .f32) (w : FVec Ideal S164864x1 .f32) (n : Fin 164864) (y : Fin 2048) :
    outp h d w (ix2 n y) = (∑ z, h (ix3 (⟨n.val / 128, by omega⟩ : Fin 1288) (⟨n.val % 128, by omega⟩ : Fin 128) z) * d (ix3 (⟨n.val / 128, by omega⟩ : Fin 1288) z y)) * w (ix2 n 0) := by
  pointwise [outp]

theorem col_at (be : IVec S1288 32) (b : Fin 1288) (h : (be (ix1 b)).toNat < 256) : col be (ix2 b 0) = be (ix1 b) := by
  have e : col be (ix2 b 0) = Scalar.select (IntOp.cmpi .slt (be (ix1 b)) 0#32) (IntOp.addi (be (ix1 b)) 256#32) (be (ix1 b)) := by
    pointwise [col]
  have q : BitVec.slt (be (ix1 b)) 0#32 = false := by
    simp only [BitVec.slt, decide_eq_false_iff_not, BitVec.toInt_eq_toNat_cond]
    simp
    split <;> omega
  rw [e]
  show Scalar.select (BitVec.ofBool (BitVec.slt (be (ix1 b)) 0#32)) _ _ = _
  rw [q]; rfl

theorem held (be : IVec S1288 32) (b : Fin 1288) (h : (be (ix1 b)).toNat < 256) : min (col be (ix2 b 0)).toInt.toNat (256 - 1) = (be (ix1 b)).toNat := by
  rw [col_at be b h, BitVec.toInt_eq_toNat_cond, if_pos (by omega)]
  omega

theorem gather1_at (W : FVec Ideal S256x2048x512 .f32) (be : IVec S1288 32) (b : Fin 1288) (h : (be (ix1 b)).toNat < 256) (p : Fin 2048) (q : Fin 512) :
    Host.gather gather_S256x2048x512_S1288x1_S1288x2048x512_12_0_n_n_0_1_12048512 W (col be) (ix3 b p q) = W (ix3 ⟨(be (ix1 b)).toNat, h⟩ p q) :=
  (slab_at (by decide) _ W (col be) b p q).trans (congrArg (fun e : Fin 256 => W (ix3 e p q)) (Fin.ext (held be b h)))

theorem gather2_at (W : FVec Ideal S256x512x2048 .f32) (be : IVec S1288 32) (b : Fin 1288) (h : (be (ix1 b)).toNat < 256) (p : Fin 512) (q : Fin 2048) :
    Host.gather gather_S256x512x2048_S1288x1_S1288x512x2048_12_0_n_n_0_1_15122048 W (col be) (ix3 b p q) = W (ix3 ⟨(be (ix1 b)).toNat, h⟩ p q) :=
  (slab_at (by decide) _ W (col be) b p q).trans (congrArg (fun e : Fin 256 => W (ix3 e p q)) (Fin.ext (held be b h)))

/-- The reference's row: the row's expert on it. -/
theorem ref_at (x : FVec Ideal S164864x2048 .bf16) (w : FVec Ideal S164864x1 .f32) (be : IVec S1288 32) (wg wu : FVec Ideal S256x2048x512 .f32) (wd : FVec Ideal S256x512x2048 .f32)
    (hb : ∀ i, (be i).toNat < 256) (n : Fin 164864) (y : Fin 2048) :
    ref x w be wg wu wd (ix2 n y)
      = erow (fun k => x (ix2 n k)) (fun a b => wg (ix3 ⟨(be (ix1 (⟨n.val / 128, by omega⟩ : Fin 1288))).toNat, hb _⟩ a b))
          (fun a b => wu (ix3 ⟨(be (ix1 (⟨n.val / 128, by omega⟩ : Fin 1288))).toNat, hb _⟩ a b))
          (fun a b => wd (ix3 ⟨(be (ix1 (⟨n.val / 128, by omega⟩ : Fin 1288))).toNat, hb _⟩ a b)) (w (ix2 n 0)) y := by
  have hn : (⟨n.val / 128 * 128 + n.val % 128, by omega⟩ : Fin 164864) = n := Fin.ext (show n.val / 128 * 128 + n.val % 128 = n.val by omega)
  unfold ref
  rw [outp_at, erow]
  simp only [hid_at, rowsOf_at, gather1_at _ _ _ (hb _), gather2_at _ _ _ (hb _), hn]

end Cert.Reference5Ideal.Value
end
-- ==== Proof.MoeTables.lean ====
/- What the routed experts' precondition says of the tables. -/
module

public import proofs.«01_k».proof.Defs
public import proofs.«01_k».proof.Proof.Gen.Pre_tables
public import Idealize.ShloMosaic.Lib.ReduceAll
public import Idealize.ShloMosaic.Lib.Affine
public import Idealize.ShloMosaic.Lib.ValueIdxCore
public import Idealize.ShloMosaic.Lib.Pipeline.ValueKit

@[expose] public section

set_option maxRecDepth 16384

noncomputable section

namespace Cert.Tables

open Idealize.ShloMosaic Cert.Pre_tables

instance scalar_sub : Subsingleton Cert.Pre_tables.S_.Idx := ⟨fun a b => funext fun i => Fin.elim0 i⟩

theorem ofBool_one {b : Bool} (h : BitVec.ofBool b = 1#1) : b = true := by cases b <;> [exact absurd h (by decide); rfl]

/-- A word between zero and a bound, signed, is below the bound as a natural number. -/
theorem lt_of_signed {x : BitVec 32} (h0 : IntOp.cmpi .sge x 0#32 = 1#1) (h1 : IntOp.cmpi .slt x 256#32 = 1#1) : x.toNat < 256 := by
  have a : BitVec.sle 0#32 x = true := ofBool_one h0
  have b : BitVec.slt x 256#32 = true := ofBool_one h1
  simp only [BitVec.sle, BitVec.slt, decide_eq_true_eq, BitVec.toInt_eq_toNat_cond] at a b
  have c := x.isLt
  simp at a b
  split at b <;> omega

theorem le_of_signed {x : BitVec 32} (h0 : IntOp.cmpi .sge x 0#32 = 1#1) (h1 : IntOp.cmpi .sle x 1288#32 = 1#1) : x.toNat ≤ 1288 := by
  have a : BitVec.sle 0#32 x = true := ofBool_one h0
  have b : BitVec.sle x 1288#32 = true := ofBool_one h1
  simp only [BitVec.sle, decide_eq_true_eq, BitVec.toInt_eq_toNat_cond] at a b
  have c := x.isLt
  simp at a b
  split at b <;> omega

/-- A row number below the used rows, as words, is below them as a natural number. -/
theorem row_lt {n : ℕ} {x : BitVec 32} (hn : n < 164864) (hx : x.toNat ≤ 1288) (h : IntOp.cmpi .slt (BitVec.ofNat 32 n) (x * 128#32) = 1#1) :
    n < x.toNat * 128 := by
  have b : BitVec.slt (BitVec.ofNat 32 n) (x * 128#32) = true := ofBool_one h
  simp only [BitVec.slt, decide_eq_true_eq, BitVec.toInt_eq_toNat_cond, BitVec.toNat_mul, BitVec.toNat_ofNat] at b
  omega

/-- The experts are among the 256, the used blocks among the 1288, and a row past the used blocks has weight zero. -/
theorem tables_ok {F : FTy → Type} [FloatOps F] (x : FVec F S164864x2048 .bf16) (w : FVec F S164864x1 .f32) (be : IVec S1288 32) (n : IVec S1 32)
    (wg wu : FVec F S256x2048x512 .f32) (wd : FVec F S256x512x2048 .f32) (h : Cert.Pre_tables.fn (F := F) x w be n wg wu wd = fun _ => 1#1) :
    (∀ i, (be i).toNat < 256) ∧ (n (ix1 0)).toNat ≤ 1288
      ∧ ∀ r : Fin 164864, r.val < (n (ix1 0)).toNat * 128 ∨ FloatOps.cmpf .oeq (w (ix2 r 0)) (Scalar.ofBits (F := F) .f32 0x00000000#32) = 1#1 := by
  have h0 := congrFun h (fun i => Fin.elim0 i)
  dsimp only [Cert.Pre_tables.fn, Cert.Pre_tables.fn_part1] at h0
  obtain ⟨h1, hr⟩ := IntOp.andi_eq_one.1 h0
  obtain ⟨hb, hn⟩ := IntOp.andi_eq_one.1 h1
  have hn1 := IntOp.andi_eq_one.1 (Host.reduce_andi_all _ _ _ _ _ hn (ix1 0))
  have hle : (n (ix1 0)).toNat ≤ 1288 := le_of_signed hn1.1 hn1.2
  refine ⟨fun i => ?_, hle, fun r => ?_⟩
  · have hi := IntOp.andi_eq_one.1 (Host.reduce_andi_all _ _ _ _ _ hb i)
    exact lt_of_signed hi.1 hi.2
  · rcases IntOp.ori_eq_one.1 (Host.reduce_andi_all _ _ _ _ _ hr (ix2 r 0)) with q | q
    · have e : shapeCast S_ n Facts.shapeCasts_S1_S_ (fun i => Fin.elim0 i) = n (ix1 0) := congrArg n (by
        funext a; obtain rfl : a = 0 := Subsingleton.elim _ _; exact Fin.ext (Nat.lt_one_iff.mp (Fin.isLt _)))
      refine .inl (row_lt r.isLt hle ?_)
      rw [← e]; exact q
    · exact .inr q

end Cert.Tables
end
-- ==== Proof.MoeClaim.lean ====
/- The routed experts' claims: both programs' frames, the reference's, and the value claim. -/
module

public import proofs.«01_k».proof.Defs
public import proofs.«01_k».proof.Proof.MoeSame
public import proofs.«01_k».proof.Proof.MoeVal
public import proofs.«01_k».proof.Proof.MoeRef
public import proofs.«01_k».proof.Proof.MoeTables
public import proofs.«01_k».proof.Proof.Gen.Kernel5
public import proofs.«01_k».proof.Proof.Gen.Kernel5Ideal
public import proofs.«01_k».proof.Proof.Gen.Reference5Ideal
public import proofs.«01_k».proof.Proof.Gen.Pre_tables

@[expose] public section

set_option maxRecDepth 16384

noncomputable section

namespace Cert.Moe

open Idealize.ShloMosaic Idealize.ShloMosaic.TcCoe Idealize.SL.Sem Cert.Rows
open Cert.Kernel5Ideal.Moe (Ok experts count dats cfgA full final exOf)

/-- What the precondition gives the pipeline at either number format. -/
theorem ok_of {F : FTy → Type} [FloatOps F] (m : (ℓ : Loc Cert.Kernel5Ideal.nD Cert.Kernel5Ideal.τ Cert.Kernel5Ideal.sig) → Buf (Elt F) ℓ)
    (h : Cert.Pre_tables.fn (F := F) (m (((0 : Dev Cert.Kernel5Ideal.nD).tc : Thread Cert.Kernel5Ideal.nD Cert.Kernel5Ideal.τ).loc Cert.Kernel5Ideal.main_arg0))
      (m (((0 : Dev Cert.Kernel5Ideal.nD).tc : Thread Cert.Kernel5Ideal.nD Cert.Kernel5Ideal.τ).loc Cert.Kernel5Ideal.main_arg1))
      (m (((0 : Dev Cert.Kernel5Ideal.nD).tc : Thread Cert.Kernel5Ideal.nD Cert.Kernel5Ideal.τ).loc Cert.Kernel5Ideal.main_arg2))
      (m (((0 : Dev Cert.Kernel5Ideal.nD).tc : Thread Cert.Kernel5Ideal.nD Cert.Kernel5Ideal.τ).loc Cert.Kernel5Ideal.main_arg3))
      (m (((0 : Dev Cert.Kernel5Ideal.nD).tc : Thread Cert.Kernel5Ideal.nD Cert.Kernel5Ideal.τ).loc Cert.Kernel5Ideal.main_arg4))
      (m (((0 : Dev Cert.Kernel5Ideal.nD).tc : Thread Cert.Kernel5Ideal.nD Cert.Kernel5Ideal.τ).loc Cert.Kernel5Ideal.main_arg5))
      (m (((0 : Dev Cert.Kernel5Ideal.nD).tc : Thread Cert.Kernel5Ideal.nD Cert.Kernel5Ideal.τ).loc Cert.Kernel5Ideal.main_arg6)) = fun _ => 1#1) : Ok m :=
  (Cert.Tables.tables_ok _ _ _ _ _ _ _ h).1

theorem frameIdeal5 : Cert.quiescent_Kernel5Ideal := fun m g hpre =>
  (θ_run Cert.Kernel5Ideal.defs _ _).mono (fun _ h => ⟨fun c => (h.1 c).2, h.2⟩) (Cert.Kernel5Ideal.Moe.run m g (ok_of m (hpre 0)))

theorem frame5 : Cert.quiescent_Kernel5 := fun m g hpre => by
  have h := Cert.Kernel5Ideal.Moe.run (F := Bits) m g (ok_of m (hpre 0))
  rw [Cert.Kernel5.run_eq]
  exact (θ_run Cert.Kernel5Ideal.defs _ _).mono (fun _ h => ⟨fun c => (h.1 c).2, h.2⟩) h

theorem frameRef5 : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

/-- A weight the precondition compares with zero is zero. -/
theorem eq_zero {x : EReal} (h : FloatOps.cmpf (F := Ideal) (φ := .f32) .oeq x (Scalar.ofBits (F := Ideal) .f32 0x00000000#32) = 1#1) : x = 0 := by
  have q : x = Scalar.ofBits (F := Ideal) .f32 0x00000000#32 := of_decide_eq_true (Cert.Tables.ofBool_one h)
  refine q.trans ?_
  pointwise

/-- The kernel and the reference leave the same array. -/
theorem algebraic5 : Cert.algebraic_Kernel5Ideal_Reference5Ideal := by
  intro m g m' g' hpre hagree
  have hT : Ok m := ok_of m (hpre 0)
  refine ⟨fun c => (dats m hT 0 c).arrAt (5 : Fin 6) (cfgA m hT).N,
    (θ_run Cert.Kernel5Ideal.defs _ _).mono (fun _ h => h.1) (Cert.Kernel5Ideal.Moe.run m g hT), ?_⟩
  refine (θ_run Cert.Reference5Ideal.defs _ _).mono (fun r h c => ⟨(h c).1.trans ?_, (h c).2⟩) (Cert.Reference5Ideal.Value.run m' g')
  obtain rfl : c = 0 := Subsingleton.elim _ _
  obtain ⟨-, hn, hw⟩ := Cert.Tables.tables_ok _ _ _ _ _ _ _ (hpre 0)
  obtain ⟨a0, a1, a2, a3, a4, a5, a6⟩ := hagree 0
  refine Eq.trans ?_ (final m hT 0 hn (fun r => (hw r).imp id eq_zero)).symm
  rw [a0, a1, a2, a4, a5, a6]
  funext i
  exact Cert.Reference5Ideal.Value.ref_at _ _ _ _ _ _ hT (i 0) (i 1)

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Pre_tables
public import proofs.«01_k».proof.Proof.Gen.Reference5Ideal
public import proofs.«01_k».proof.Proof.Gen.Reference5Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run

public import proofs.«01_k».proof.Proof.Gen.ReferenceIdeal.Run
public import Idealize.ShloMosaic.Adequacy
public import Idealize.ShloMosaic.Init
public import proofs.«01_k».proof.Proof.Claims
public import proofs.«01_k».proof.Proof.InprojClaim
public import proofs.«01_k».proof.Proof.MergeRun
public import proofs.«01_k».proof.Proof.FinalRun
public import proofs.«01_k».proof.Proof.MoeClaim

@[expose] public section

noncomputable section

namespace Cert.Proof

open Idealize.ShloMosaic Idealize.SL.Sem Cert.Kernel

theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "qscale" .f32 0x3E38AA3B#32 (((8 * (Real.log 2))⁻¹ : ℝ) : EReal) rfl,
   IdealRules.named_const.statement Cert.KernelIdeal.κ "log2e" .f32 0x3FB8AA3B#32 (((Real.log 2)⁻¹ : ℝ) : EReal) rfl⟩

theorem preserves2 : Cert.preserves_Kernel2_Kernel2Ideal :=
  IdealRules.named_const.statement Cert.Kernel2Ideal.κ "qscale" .f32 0x3E38AA3B#32 (((8 * (Real.log 2))⁻¹ : ℝ) : EReal) rfl

theorem frame_ref2 : Cert.quiescent_Reference2Ideal := fun m ρ _ =>
  (θ_run Cert.Reference2Ideal.defs _ _).mono
    (fun r h => ⟨fun c => by
      obtain ⟨-, -, -, -, -, -, -, -, -, -, -, -, hr⟩ := h c
      exact hr, Idealize.ShloMosaic.sem_eq_zero_of_no_sems (by decide) r.2⟩)
    (Cert.Reference2Ideal.Value.run (F := Ideal) m ρ)

theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ref4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_tables.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  Cert.Moe.frame5, Cert.Moe.frameIdeal5, Cert.Moe.frameRef5, fun m ρ _ => Cert.Moe.frameRef5 m ρ trivial,
  preserves, Cert.Attn.algebraic, preserves2, Cert.Rows.algebraic2, trivial, Cert.Rows.algebraic3, trivial, Cert.Rows.algebraic4,
  trivial, Cert.Moe.algebraic5⟩

end Cert.Proof

end
